-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoReferenceIdeal (m : (ℓ : Loc Cert.WoReferenceIdeal.nD Cert.WoReferenceIdeal.τ Cert.WoReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfReferenceIdeal (m : (ℓ : Loc Cert.ConfReferenceIdeal.nD Cert.ConfReferenceIdeal.τ Cert.ConfReferenceIdeal.sig) → Buf (Elt Ideal) ℓ) : Prop :=
  True

def Pre_SampleQkv (m : (ℓ : Loc Cert.SampleQkv.nD Cert.SampleQkv.τ Cert.SampleQkv.sig) → Buf (Elt Bits) ℓ) : Prop :=
  True

def Pre_SampleQkvIdeal (m : (ℓ : Loc Cert.SampleQkvIdeal.nD Cert.SampleQkvIdeal.τ Cert.SampleQkvIdeal.sig) → Buf (Elt Ideal) ℓ) : Prop :=
  True

def Pre_SampleQkvReferenceIdeal (m : (ℓ : Loc Cert.SampleQkvReferenceIdeal.nD Cert.SampleQkvReferenceIdeal.τ Cert.SampleQkvReferenceIdeal.sig) → Buf (Elt Ideal) ℓ) : Prop :=
  True

def Pre_SampleConf (m : (ℓ : Loc Cert.SampleConf.nD Cert.SampleConf.τ Cert.SampleConf.sig) → Buf (Elt Bits) ℓ) : Prop :=
  True

def Pre_SampleConfIdeal (m : (ℓ : Loc Cert.SampleConfIdeal.nD Cert.SampleConfIdeal.τ Cert.SampleConfIdeal.sig) → Buf (Elt Ideal) ℓ) : Prop :=
  True

def Pre_SampleConfReferenceIdeal (m : (ℓ : Loc Cert.SampleConfReferenceIdeal.nD Cert.SampleConfReferenceIdeal.τ Cert.SampleConfReferenceIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdReferenceIdeal (m : (ℓ : Loc Cert.SsdReferenceIdeal.nD Cert.SsdReferenceIdeal.τ Cert.SsdReferenceIdeal.sig) → Buf (Elt Ideal) ℓ) : Prop :=
  True

def Pre_SampleSsd (m : (ℓ : Loc Cert.SampleSsd.nD Cert.SampleSsd.τ Cert.SampleSsd.sig) → Buf (Elt Bits) ℓ) : Prop :=
  True

def Pre_SampleSsdIdeal (m : (ℓ : Loc Cert.SampleSsdIdeal.nD Cert.SampleSsdIdeal.τ Cert.SampleSsdIdeal.sig) → Buf (Elt Ideal) ℓ) : Prop :=
  True

def Pre_SampleSsdReferenceIdeal (m : (ℓ : Loc Cert.SampleSsdReferenceIdeal.nD Cert.SampleSsdReferenceIdeal.τ Cert.SampleSsdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3)
      ∧ r.2.mem ((c.tc : Thread Cert.Wo.nD Cert.Wo.τ).loc Cert.Wo.main_arg4) = m ((c.tc : Thread Cert.Wo.nD Cert.Wo.τ).loc Cert.Wo.main_arg4))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4))
      ∧ r.2.sem = fun _ => 0)

def quiescent_WoReferenceIdeal [hWoReferenceIdeal : Cert.WoReferenceIdeal.Facts] : Prop :=
  ∀ (m : (ℓ : Loc Cert.WoReferenceIdeal.nD Cert.WoReferenceIdeal.τ Cert.WoReferenceIdeal.sig) → Buf (Elt Ideal) ℓ) (g : Dev Cert.WoReferenceIdeal.nD → PrngReg), Pre_WoReferenceIdeal m →
    θ_run (Cert.WoReferenceIdeal.defs (F := Ideal)) (onTc (τ := Cert.WoReferenceIdeal.τ) (Cert.WoReferenceIdeal.main (F := Ideal))) ⟨m, fun _ => 0, g⟩ (fun r => (∀ c : Dev Cert.WoReferenceIdeal.nD,
      r.2.mem ((c.tc : Thread Cert.WoReferenceIdeal.nD Cert.WoReferenceIdeal.τ).loc Cert.WoReferenceIdeal.main_arg0) = m ((c.tc : Thread Cert.WoReferenceIdeal.nD Cert.WoReferenceIdeal.τ).loc Cert.WoReferenceIdeal.main_arg0)
      ∧ r.2.mem ((c.tc : Thread Cert.WoReferenceIdeal.nD Cert.WoReferenceIdeal.τ).loc Cert.WoReferenceIdeal.main_arg1) = m ((c.tc : Thread Cert.WoReferenceIdeal.nD Cert.WoReferenceIdeal.τ).loc Cert.WoReferenceIdeal.main_arg1)
      ∧ r.2.mem ((c.tc : Thread Cert.WoReferenceIdeal.nD Cert.WoReferenceIdeal.τ).loc Cert.WoReferenceIdeal.main_arg2) = m ((c.tc : Thread Cert.WoReferenceIdeal.nD Cert.WoReferenceIdeal.τ).loc Cert.WoReferenceIdeal.main_arg2)
      ∧ r.2.mem ((c.tc : Thread Cert.WoReferenceIdeal.nD Cert.WoReferenceIdeal.τ).loc Cert.WoReferenceIdeal.main_arg3) = m ((c.tc : Thread Cert.WoReferenceIdeal.nD Cert.WoReferenceIdeal.τ).loc Cert.WoReferenceIdeal.main_arg3)
      ∧ r.2.mem ((c.tc : Thread Cert.WoReferenceIdeal.nD Cert.WoReferenceIdeal.τ).loc Cert.WoReferenceIdeal.main_arg4) = m ((c.tc : Thread Cert.WoReferenceIdeal.nD Cert.WoReferenceIdeal.τ).loc Cert.WoReferenceIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4)
      ∧ r.2.mem ((c.tc : Thread Cert.Conf.nD Cert.Conf.τ).loc Cert.Conf.main_arg5) = m ((c.tc : Thread Cert.Conf.nD Cert.Conf.τ).loc Cert.Conf.main_arg5))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ r.2.sem = fun _ => 0)

def quiescent_ConfReferenceIdeal [hConfReferenceIdeal : Cert.ConfReferenceIdeal.Facts] : Prop :=
  ∀ (m : (ℓ : Loc Cert.ConfReferenceIdeal.nD Cert.ConfReferenceIdeal.τ Cert.ConfReferenceIdeal.sig) → Buf (Elt Ideal) ℓ) (g : Dev Cert.ConfReferenceIdeal.nD → PrngReg), Pre_ConfReferenceIdeal m →
    θ_run (Cert.ConfReferenceIdeal.defs (F := Ideal)) (onTc (τ := Cert.ConfReferenceIdeal.τ) (Cert.ConfReferenceIdeal.main (F := Ideal))) ⟨m, fun _ => 0, g⟩ (fun r => (∀ c : Dev Cert.ConfReferenceIdeal.nD,
      r.2.mem ((c.tc : Thread Cert.ConfReferenceIdeal.nD Cert.ConfReferenceIdeal.τ).loc Cert.ConfReferenceIdeal.main_arg0) = m ((c.tc : Thread Cert.ConfReferenceIdeal.nD Cert.ConfReferenceIdeal.τ).loc Cert.ConfReferenceIdeal.main_arg0)
      ∧ r.2.mem ((c.tc : Thread Cert.ConfReferenceIdeal.nD Cert.ConfReferenceIdeal.τ).loc Cert.ConfReferenceIdeal.main_arg1) = m ((c.tc : Thread Cert.ConfReferenceIdeal.nD Cert.ConfReferenceIdeal.τ).loc Cert.ConfReferenceIdeal.main_arg1)
      ∧ r.2.mem ((c.tc : Thread Cert.ConfReferenceIdeal.nD Cert.ConfReferenceIdeal.τ).loc Cert.ConfReferenceIdeal.main_arg2) = m ((c.tc : Thread Cert.ConfReferenceIdeal.nD Cert.ConfReferenceIdeal.τ).loc Cert.ConfReferenceIdeal.main_arg2)
      ∧ r.2.mem ((c.tc : Thread Cert.ConfReferenceIdeal.nD Cert.ConfReferenceIdeal.τ).loc Cert.ConfReferenceIdeal.main_arg3) = m ((c.tc : Thread Cert.ConfReferenceIdeal.nD Cert.ConfReferenceIdeal.τ).loc Cert.ConfReferenceIdeal.main_arg3)
      ∧ r.2.mem ((c.tc : Thread Cert.ConfReferenceIdeal.nD Cert.ConfReferenceIdeal.τ).loc Cert.ConfReferenceIdeal.main_arg4) = m ((c.tc : Thread Cert.ConfReferenceIdeal.nD Cert.ConfReferenceIdeal.τ).loc Cert.ConfReferenceIdeal.main_arg4)
      ∧ r.2.mem ((c.tc : Thread Cert.ConfReferenceIdeal.nD Cert.ConfReferenceIdeal.τ).loc Cert.ConfReferenceIdeal.main_arg5) = m ((c.tc : Thread Cert.ConfReferenceIdeal.nD Cert.ConfReferenceIdeal.τ).loc Cert.ConfReferenceIdeal.main_arg5))
      ∧ r.2.sem = fun _ => 0)

def quiescent_SampleQkv [hSampleQkv : Cert.SampleQkv.Facts] : Prop :=
  ∀ (m : (ℓ : Loc Cert.SampleQkv.nD Cert.SampleQkv.τ Cert.SampleQkv.sig) → Buf (Elt Bits) ℓ) (g : Dev Cert.SampleQkv.nD → PrngReg), Pre_SampleQkv m →
    θ_run (Cert.SampleQkv.defs (F := Bits)) (onTc (τ := Cert.SampleQkv.τ) (Cert.SampleQkv.main (F := Bits))) ⟨m, fun _ => 0, g⟩ (fun r => (∀ c : Dev Cert.SampleQkv.nD,
      r.2.mem ((c.tc : Thread Cert.SampleQkv.nD Cert.SampleQkv.τ).loc Cert.SampleQkv.main_arg0) = m ((c.tc : Thread Cert.SampleQkv.nD Cert.SampleQkv.τ).loc Cert.SampleQkv.main_arg0)
      ∧ r.2.mem ((c.tc : Thread Cert.SampleQkv.nD Cert.SampleQkv.τ).loc Cert.SampleQkv.main_arg1) = m ((c.tc : Thread Cert.SampleQkv.nD Cert.SampleQkv.τ).loc Cert.SampleQkv.main_arg1))
      ∧ r.2.sem = fun _ => 0)

def quiescent_SampleQkvIdeal [hSampleQkvIdeal : Cert.SampleQkvIdeal.Facts] : Prop :=
  ∀ (m : (ℓ : Loc Cert.SampleQkvIdeal.nD Cert.SampleQkvIdeal.τ Cert.SampleQkvIdeal.sig) → Buf (Elt Ideal) ℓ) (g : Dev Cert.SampleQkvIdeal.nD → PrngReg), Pre_SampleQkvIdeal m →
    θ_run (Cert.SampleQkvIdeal.defs (F := Ideal)) (onTc (τ := Cert.SampleQkvIdeal.τ) (Cert.SampleQkvIdeal.main (F := Ideal))) ⟨m, fun _ => 0, g⟩ (fun r => (∀ c : Dev Cert.SampleQkvIdeal.nD,
      r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
      ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1))
      ∧ r.2.sem = fun _ => 0)

def quiescent_SampleQkvReferenceIdeal [hSampleQkvReferenceIdeal : Cert.SampleQkvReferenceIdeal.Facts] : Prop :=
  ∀ (m : (ℓ : Loc Cert.SampleQkvReferenceIdeal.nD Cert.SampleQkvReferenceIdeal.τ Cert.SampleQkvReferenceIdeal.sig) → Buf (Elt Ideal) ℓ) (g : Dev Cert.SampleQkvReferenceIdeal.nD → PrngReg), Pre_SampleQkvReferenceIdeal m →
    θ_run (Cert.SampleQkvReferenceIdeal.defs (F := Ideal)) (onTc (τ := Cert.SampleQkvReferenceIdeal.τ) (Cert.SampleQkvReferenceIdeal.main (F := Ideal))) ⟨m, fun _ => 0, g⟩ (fun r => (∀ c : Dev Cert.SampleQkvReferenceIdeal.nD,
      r.2.mem ((c.tc : Thread Cert.SampleQkvReferenceIdeal.nD Cert.SampleQkvReferenceIdeal.τ).loc Cert.SampleQkvReferenceIdeal.main_arg0) = m ((c.tc : Thread Cert.SampleQkvReferenceIdeal.nD Cert.SampleQkvReferenceIdeal.τ).loc Cert.SampleQkvReferenceIdeal.main_arg0)
      ∧ r.2.mem ((c.tc : Thread Cert.SampleQkvReferenceIdeal.nD Cert.SampleQkvReferenceIdeal.τ).loc Cert.SampleQkvReferenceIdeal.main_arg1) = m ((c.tc : Thread Cert.SampleQkvReferenceIdeal.nD Cert.SampleQkvReferenceIdeal.τ).loc Cert.SampleQkvReferenceIdeal.main_arg1))
      ∧ r.2.sem = fun _ => 0)

def quiescent_SampleConf [hSampleConf : Cert.SampleConf.Facts] : Prop :=
  ∀ (m : (ℓ : Loc Cert.SampleConf.nD Cert.SampleConf.τ Cert.SampleConf.sig) → Buf (Elt Bits) ℓ) (g : Dev Cert.SampleConf.nD → PrngReg), Pre_SampleConf m →
    θ_run (Cert.SampleConf.defs (F := Bits)) (onTc (τ := Cert.SampleConf.τ) (Cert.SampleConf.main (F := Bits))) ⟨m, fun _ => 0, g⟩ (fun r => (∀ c : Dev Cert.SampleConf.nD,
      r.2.mem ((c.tc : Thread Cert.SampleConf.nD Cert.SampleConf.τ).loc Cert.SampleConf.main_arg0) = m ((c.tc : Thread Cert.SampleConf.nD Cert.SampleConf.τ).loc Cert.SampleConf.main_arg0)
      ∧ r.2.mem ((c.tc : Thread Cert.SampleConf.nD Cert.SampleConf.τ).loc Cert.SampleConf.main_arg1) = m ((c.tc : Thread Cert.SampleConf.nD Cert.SampleConf.τ).loc Cert.SampleConf.main_arg1)
      ∧ r.2.mem ((c.tc : Thread Cert.SampleConf.nD Cert.SampleConf.τ).loc Cert.SampleConf.main_arg2) = m ((c.tc : Thread Cert.SampleConf.nD Cert.SampleConf.τ).loc Cert.SampleConf.main_arg2)
      ∧ r.2.mem ((c.tc : Thread Cert.SampleConf.nD Cert.SampleConf.τ).loc Cert.SampleConf.main_arg3) = m ((c.tc : Thread Cert.SampleConf.nD Cert.SampleConf.τ).loc Cert.SampleConf.main_arg3)
      ∧ r.2.mem ((c.tc : Thread Cert.SampleConf.nD Cert.SampleConf.τ).loc Cert.SampleConf.main_arg4) = m ((c.tc : Thread Cert.SampleConf.nD Cert.SampleConf.τ).loc Cert.SampleConf.main_arg4)
      ∧ r.2.mem ((c.tc : Thread Cert.SampleConf.nD Cert.SampleConf.τ).loc Cert.SampleConf.main_arg5) = m ((c.tc : Thread Cert.SampleConf.nD Cert.SampleConf.τ).loc Cert.SampleConf.main_arg5))
      ∧ r.2.sem = fun _ => 0)

def quiescent_SampleConfIdeal [hSampleConfIdeal : Cert.SampleConfIdeal.Facts] : Prop :=
  ∀ (m : (ℓ : Loc Cert.SampleConfIdeal.nD Cert.SampleConfIdeal.τ Cert.SampleConfIdeal.sig) → Buf (Elt Ideal) ℓ) (g : Dev Cert.SampleConfIdeal.nD → PrngReg), Pre_SampleConfIdeal m →
    θ_run (Cert.SampleConfIdeal.defs (F := Ideal)) (onTc (τ := Cert.SampleConfIdeal.τ) (Cert.SampleConfIdeal.main (F := Ideal))) ⟨m, fun _ => 0, g⟩ (fun r => (∀ c : Dev Cert.SampleConfIdeal.nD,
      r.2.mem ((c.tc : Thread Cert.SampleConfIdeal.nD Cert.SampleConfIdeal.τ).loc Cert.SampleConfIdeal.main_arg0) = m ((c.tc : Thread Cert.SampleConfIdeal.nD Cert.SampleConfIdeal.τ).loc Cert.SampleConfIdeal.main_arg0)
      ∧ r.2.mem ((c.tc : Thread Cert.SampleConfIdeal.nD Cert.SampleConfIdeal.τ).loc Cert.SampleConfIdeal.main_arg1) = m ((c.tc : Thread Cert.SampleConfIdeal.nD Cert.SampleConfIdeal.τ).loc Cert.SampleConfIdeal.main_arg1)
      ∧ r.2.mem ((c.tc : Thread Cert.SampleConfIdeal.nD Cert.SampleConfIdeal.τ).loc Cert.SampleConfIdeal.main_arg2) = m ((c.tc : Thread Cert.SampleConfIdeal.nD Cert.SampleConfIdeal.τ).loc Cert.SampleConfIdeal.main_arg2)
      ∧ r.2.mem ((c.tc : Thread Cert.SampleConfIdeal.nD Cert.SampleConfIdeal.τ).loc Cert.SampleConfIdeal.main_arg3) = m ((c.tc : Thread Cert.SampleConfIdeal.nD Cert.SampleConfIdeal.τ).loc Cert.SampleConfIdeal.main_arg3)
      ∧ r.2.mem ((c.tc : Thread Cert.SampleConfIdeal.nD Cert.SampleConfIdeal.τ).loc Cert.SampleConfIdeal.main_arg4) = m ((c.tc : Thread Cert.SampleConfIdeal.nD Cert.SampleConfIdeal.τ).loc Cert.SampleConfIdeal.main_arg4)
      ∧ r.2.mem ((c.tc : Thread Cert.SampleConfIdeal.nD Cert.SampleConfIdeal.τ).loc Cert.SampleConfIdeal.main_arg5) = m ((c.tc : Thread Cert.SampleConfIdeal.nD Cert.SampleConfIdeal.τ).loc Cert.SampleConfIdeal.main_arg5))
      ∧ r.2.sem = fun _ => 0)

def quiescent_SampleConfReferenceIdeal [hSampleConfReferenceIdeal : Cert.SampleConfReferenceIdeal.Facts] : Prop :=
  ∀ (m : (ℓ : Loc Cert.SampleConfReferenceIdeal.nD Cert.SampleConfReferenceIdeal.τ Cert.SampleConfReferenceIdeal.sig) → Buf (Elt Ideal) ℓ) (g : Dev Cert.SampleConfReferenceIdeal.nD → PrngReg), Pre_SampleConfReferenceIdeal m →
    θ_run (Cert.SampleConfReferenceIdeal.defs (F := Ideal)) (onTc (τ := Cert.SampleConfReferenceIdeal.τ) (Cert.SampleConfReferenceIdeal.main (F := Ideal))) ⟨m, fun _ => 0, g⟩ (fun r => (∀ c : Dev Cert.SampleConfReferenceIdeal.nD,
      r.2.mem ((c.tc : Thread Cert.SampleConfReferenceIdeal.nD Cert.SampleConfReferenceIdeal.τ).loc Cert.SampleConfReferenceIdeal.main_arg0) = m ((c.tc : Thread Cert.SampleConfReferenceIdeal.nD Cert.SampleConfReferenceIdeal.τ).loc Cert.SampleConfReferenceIdeal.main_arg0)
      ∧ r.2.mem ((c.tc : Thread Cert.SampleConfReferenceIdeal.nD Cert.SampleConfReferenceIdeal.τ).loc Cert.SampleConfReferenceIdeal.main_arg1) = m ((c.tc : Thread Cert.SampleConfReferenceIdeal.nD Cert.SampleConfReferenceIdeal.τ).loc Cert.SampleConfReferenceIdeal.main_arg1)
      ∧ r.2.mem ((c.tc : Thread Cert.SampleConfReferenceIdeal.nD Cert.SampleConfReferenceIdeal.τ).loc Cert.SampleConfReferenceIdeal.main_arg2) = m ((c.tc : Thread Cert.SampleConfReferenceIdeal.nD Cert.SampleConfReferenceIdeal.τ).loc Cert.SampleConfReferenceIdeal.main_arg2)
      ∧ r.2.mem ((c.tc : Thread Cert.SampleConfReferenceIdeal.nD Cert.SampleConfReferenceIdeal.τ).loc Cert.SampleConfReferenceIdeal.main_arg3) = m ((c.tc : Thread Cert.SampleConfReferenceIdeal.nD Cert.SampleConfReferenceIdeal.τ).loc Cert.SampleConfReferenceIdeal.main_arg3)
      ∧ r.2.mem ((c.tc : Thread Cert.SampleConfReferenceIdeal.nD Cert.SampleConfReferenceIdeal.τ).loc Cert.SampleConfReferenceIdeal.main_arg4) = m ((c.tc : Thread Cert.SampleConfReferenceIdeal.nD Cert.SampleConfReferenceIdeal.τ).loc Cert.SampleConfReferenceIdeal.main_arg4)
      ∧ r.2.mem ((c.tc : Thread Cert.SampleConfReferenceIdeal.nD Cert.SampleConfReferenceIdeal.τ).loc Cert.SampleConfReferenceIdeal.main_arg5) = m ((c.tc : Thread Cert.SampleConfReferenceIdeal.nD Cert.SampleConfReferenceIdeal.τ).loc Cert.SampleConfReferenceIdeal.main_arg5))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7)
      ∧ r.2.mem ((c.tc : Thread Cert.SsdReferenceIdeal.nD Cert.SsdReferenceIdeal.τ).loc Cert.SsdReferenceIdeal.main_arg8) = m ((c.tc : Thread Cert.SsdReferenceIdeal.nD Cert.SsdReferenceIdeal.τ).loc Cert.SsdReferenceIdeal.main_arg8)
      ∧ r.2.mem ((c.tc : Thread Cert.SsdReferenceIdeal.nD Cert.SsdReferenceIdeal.τ).loc Cert.SsdReferenceIdeal.main_arg9) = m ((c.tc : Thread Cert.SsdReferenceIdeal.nD Cert.SsdReferenceIdeal.τ).loc Cert.SsdReferenceIdeal.main_arg9))
      ∧ r.2.sem = fun _ => 0)

def quiescent_SampleSsd [hSampleSsd : Cert.SampleSsd.Facts] : Prop :=
  ∀ (m : (ℓ : Loc Cert.SampleSsd.nD Cert.SampleSsd.τ Cert.SampleSsd.sig) → Buf (Elt Bits) ℓ) (g : Dev Cert.SampleSsd.nD → PrngReg), Pre_SampleSsd m →
    θ_run (Cert.SampleSsd.defs (F := Bits)) (onTc (τ := Cert.SampleSsd.τ) (Cert.SampleSsd.main (F := Bits))) ⟨m, fun _ => 0, g⟩ (fun r => (∀ c : Dev Cert.SampleSsd.nD,
      r.2.mem ((c.tc : Thread Cert.SampleSsd.nD Cert.SampleSsd.τ).loc Cert.SampleSsd.main_arg0) = m ((c.tc : Thread Cert.SampleSsd.nD Cert.SampleSsd.τ).loc Cert.SampleSsd.main_arg0)
      ∧ r.2.mem ((c.tc : Thread Cert.SampleSsd.nD Cert.SampleSsd.τ).loc Cert.SampleSsd.main_arg1) = m ((c.tc : Thread Cert.SampleSsd.nD Cert.SampleSsd.τ).loc Cert.SampleSsd.main_arg1)
      ∧ r.2.mem ((c.tc : Thread Cert.SampleSsd.nD Cert.SampleSsd.τ).loc Cert.SampleSsd.main_arg2) = m ((c.tc : Thread Cert.SampleSsd.nD Cert.SampleSsd.τ).loc Cert.SampleSsd.main_arg2)
      ∧ r.2.mem ((c.tc : Thread Cert.SampleSsd.nD Cert.SampleSsd.τ).loc Cert.SampleSsd.main_arg3) = m ((c.tc : Thread Cert.SampleSsd.nD Cert.SampleSsd.τ).loc Cert.SampleSsd.main_arg3)
      ∧ r.2.mem ((c.tc : Thread Cert.SampleSsd.nD Cert.SampleSsd.τ).loc Cert.SampleSsd.main_arg4) = m ((c.tc : Thread Cert.SampleSsd.nD Cert.SampleSsd.τ).loc Cert.SampleSsd.main_arg4)
      ∧ r.2.mem ((c.tc : Thread Cert.SampleSsd.nD Cert.SampleSsd.τ).loc Cert.SampleSsd.main_arg5) = m ((c.tc : Thread Cert.SampleSsd.nD Cert.SampleSsd.τ).loc Cert.SampleSsd.main_arg5)
      ∧ r.2.mem ((c.tc : Thread Cert.SampleSsd.nD Cert.SampleSsd.τ).loc Cert.SampleSsd.main_arg6) = m ((c.tc : Thread Cert.SampleSsd.nD Cert.SampleSsd.τ).loc Cert.SampleSsd.main_arg6)
      ∧ r.2.mem ((c.tc : Thread Cert.SampleSsd.nD Cert.SampleSsd.τ).loc Cert.SampleSsd.main_arg7) = m ((c.tc : Thread Cert.SampleSsd.nD Cert.SampleSsd.τ).loc Cert.SampleSsd.main_arg7)
      ∧ r.2.mem ((c.tc : Thread Cert.SampleSsd.nD Cert.SampleSsd.τ).loc Cert.SampleSsd.main_arg8) = m ((c.tc : Thread Cert.SampleSsd.nD Cert.SampleSsd.τ).loc Cert.SampleSsd.main_arg8)
      ∧ r.2.mem ((c.tc : Thread Cert.SampleSsd.nD Cert.SampleSsd.τ).loc Cert.SampleSsd.main_arg9) = m ((c.tc : Thread Cert.SampleSsd.nD Cert.SampleSsd.τ).loc Cert.SampleSsd.main_arg9))
      ∧ r.2.sem = fun _ => 0)

def quiescent_SampleSsdIdeal [hSampleSsdIdeal : Cert.SampleSsdIdeal.Facts] : Prop :=
  ∀ (m : (ℓ : Loc Cert.SampleSsdIdeal.nD Cert.SampleSsdIdeal.τ Cert.SampleSsdIdeal.sig) → Buf (Elt Ideal) ℓ) (g : Dev Cert.SampleSsdIdeal.nD → PrngReg), Pre_SampleSsdIdeal m →
    θ_run (Cert.SampleSsdIdeal.defs (F := Ideal)) (onTc (τ := Cert.SampleSsdIdeal.τ) (Cert.SampleSsdIdeal.main (F := Ideal))) ⟨m, fun _ => 0, g⟩ (fun r => (∀ c : Dev Cert.SampleSsdIdeal.nD,
      r.2.mem ((c.tc : Thread Cert.SampleSsdIdeal.nD Cert.SampleSsdIdeal.τ).loc Cert.SampleSsdIdeal.main_arg0) = m ((c.tc : Thread Cert.SampleSsdIdeal.nD Cert.SampleSsdIdeal.τ).loc Cert.SampleSsdIdeal.main_arg0)
      ∧ r.2.mem ((c.tc : Thread Cert.SampleSsdIdeal.nD Cert.SampleSsdIdeal.τ).loc Cert.SampleSsdIdeal.main_arg1) = m ((c.tc : Thread Cert.SampleSsdIdeal.nD Cert.SampleSsdIdeal.τ).loc Cert.SampleSsdIdeal.main_arg1)
      ∧ r.2.mem ((c.tc : Thread Cert.SampleSsdIdeal.nD Cert.SampleSsdIdeal.τ).loc Cert.SampleSsdIdeal.main_arg2) = m ((c.tc : Thread Cert.SampleSsdIdeal.nD Cert.SampleSsdIdeal.τ).loc Cert.SampleSsdIdeal.main_arg2)
      ∧ r.2.mem ((c.tc : Thread Cert.SampleSsdIdeal.nD Cert.SampleSsdIdeal.τ).loc Cert.SampleSsdIdeal.main_arg3) = m ((c.tc : Thread Cert.SampleSsdIdeal.nD Cert.SampleSsdIdeal.τ).loc Cert.SampleSsdIdeal.main_arg3)
      ∧ r.2.mem ((c.tc : Thread Cert.SampleSsdIdeal.nD Cert.SampleSsdIdeal.τ).loc Cert.SampleSsdIdeal.main_arg4) = m ((c.tc : Thread Cert.SampleSsdIdeal.nD Cert.SampleSsdIdeal.τ).loc Cert.SampleSsdIdeal.main_arg4)
      ∧ r.2.mem ((c.tc : Thread Cert.SampleSsdIdeal.nD Cert.SampleSsdIdeal.τ).loc Cert.SampleSsdIdeal.main_arg5) = m ((c.tc : Thread Cert.SampleSsdIdeal.nD Cert.SampleSsdIdeal.τ).loc Cert.SampleSsdIdeal.main_arg5)
      ∧ r.2.mem ((c.tc : Thread Cert.SampleSsdIdeal.nD Cert.SampleSsdIdeal.τ).loc Cert.SampleSsdIdeal.main_arg6) = m ((c.tc : Thread Cert.SampleSsdIdeal.nD Cert.SampleSsdIdeal.τ).loc Cert.SampleSsdIdeal.main_arg6)
      ∧ r.2.mem ((c.tc : Thread Cert.SampleSsdIdeal.nD Cert.SampleSsdIdeal.τ).loc Cert.SampleSsdIdeal.main_arg7) = m ((c.tc : Thread Cert.SampleSsdIdeal.nD Cert.SampleSsdIdeal.τ).loc Cert.SampleSsdIdeal.main_arg7)
      ∧ r.2.mem ((c.tc : Thread Cert.SampleSsdIdeal.nD Cert.SampleSsdIdeal.τ).loc Cert.SampleSsdIdeal.main_arg8) = m ((c.tc : Thread Cert.SampleSsdIdeal.nD Cert.SampleSsdIdeal.τ).loc Cert.SampleSsdIdeal.main_arg8)
      ∧ r.2.mem ((c.tc : Thread Cert.SampleSsdIdeal.nD Cert.SampleSsdIdeal.τ).loc Cert.SampleSsdIdeal.main_arg9) = m ((c.tc : Thread Cert.SampleSsdIdeal.nD Cert.SampleSsdIdeal.τ).loc Cert.SampleSsdIdeal.main_arg9))
      ∧ r.2.sem = fun _ => 0)

def quiescent_SampleSsdReferenceIdeal [hSampleSsdReferenceIdeal : Cert.SampleSsdReferenceIdeal.Facts] : Prop :=
  ∀ (m : (ℓ : Loc Cert.SampleSsdReferenceIdeal.nD Cert.SampleSsdReferenceIdeal.τ Cert.SampleSsdReferenceIdeal.sig) → Buf (Elt Ideal) ℓ) (g : Dev Cert.SampleSsdReferenceIdeal.nD → PrngReg), Pre_SampleSsdReferenceIdeal m →
    θ_run (Cert.SampleSsdReferenceIdeal.defs (F := Ideal)) (onTc (τ := Cert.SampleSsdReferenceIdeal.τ) (Cert.SampleSsdReferenceIdeal.main (F := Ideal))) ⟨m, fun _ => 0, g⟩ (fun r => (∀ c : Dev Cert.SampleSsdReferenceIdeal.nD,
      r.2.mem ((c.tc : Thread Cert.SampleSsdReferenceIdeal.nD Cert.SampleSsdReferenceIdeal.τ).loc Cert.SampleSsdReferenceIdeal.main_arg0) = m ((c.tc : Thread Cert.SampleSsdReferenceIdeal.nD Cert.SampleSsdReferenceIdeal.τ).loc Cert.SampleSsdReferenceIdeal.main_arg0)
      ∧ r.2.mem ((c.tc : Thread Cert.SampleSsdReferenceIdeal.nD Cert.SampleSsdReferenceIdeal.τ).loc Cert.SampleSsdReferenceIdeal.main_arg1) = m ((c.tc : Thread Cert.SampleSsdReferenceIdeal.nD Cert.SampleSsdReferenceIdeal.τ).loc Cert.SampleSsdReferenceIdeal.main_arg1)
      ∧ r.2.mem ((c.tc : Thread Cert.SampleSsdReferenceIdeal.nD Cert.SampleSsdReferenceIdeal.τ).loc Cert.SampleSsdReferenceIdeal.main_arg2) = m ((c.tc : Thread Cert.SampleSsdReferenceIdeal.nD Cert.SampleSsdReferenceIdeal.τ).loc Cert.SampleSsdReferenceIdeal.main_arg2)
      ∧ r.2.mem ((c.tc : Thread Cert.SampleSsdReferenceIdeal.nD Cert.SampleSsdReferenceIdeal.τ).loc Cert.SampleSsdReferenceIdeal.main_arg3) = m ((c.tc : Thread Cert.SampleSsdReferenceIdeal.nD Cert.SampleSsdReferenceIdeal.τ).loc Cert.SampleSsdReferenceIdeal.main_arg3)
      ∧ r.2.mem ((c.tc : Thread Cert.SampleSsdReferenceIdeal.nD Cert.SampleSsdReferenceIdeal.τ).loc Cert.SampleSsdReferenceIdeal.main_arg4) = m ((c.tc : Thread Cert.SampleSsdReferenceIdeal.nD Cert.SampleSsdReferenceIdeal.τ).loc Cert.SampleSsdReferenceIdeal.main_arg4)
      ∧ r.2.mem ((c.tc : Thread Cert.SampleSsdReferenceIdeal.nD Cert.SampleSsdReferenceIdeal.τ).loc Cert.SampleSsdReferenceIdeal.main_arg5) = m ((c.tc : Thread Cert.SampleSsdReferenceIdeal.nD Cert.SampleSsdReferenceIdeal.τ).loc Cert.SampleSsdReferenceIdeal.main_arg5)
      ∧ r.2.mem ((c.tc : Thread Cert.SampleSsdReferenceIdeal.nD Cert.SampleSsdReferenceIdeal.τ).loc Cert.SampleSsdReferenceIdeal.main_arg6) = m ((c.tc : Thread Cert.SampleSsdReferenceIdeal.nD Cert.SampleSsdReferenceIdeal.τ).loc Cert.SampleSsdReferenceIdeal.main_arg6)
      ∧ r.2.mem ((c.tc : Thread Cert.SampleSsdReferenceIdeal.nD Cert.SampleSsdReferenceIdeal.τ).loc Cert.SampleSsdReferenceIdeal.main_arg7) = m ((c.tc : Thread Cert.SampleSsdReferenceIdeal.nD Cert.SampleSsdReferenceIdeal.τ).loc Cert.SampleSsdReferenceIdeal.main_arg7)
      ∧ r.2.mem ((c.tc : Thread Cert.SampleSsdReferenceIdeal.nD Cert.SampleSsdReferenceIdeal.τ).loc Cert.SampleSsdReferenceIdeal.main_arg8) = m ((c.tc : Thread Cert.SampleSsdReferenceIdeal.nD Cert.SampleSsdReferenceIdeal.τ).loc Cert.SampleSsdReferenceIdeal.main_arg8)
      ∧ r.2.mem ((c.tc : Thread Cert.SampleSsdReferenceIdeal.nD Cert.SampleSsdReferenceIdeal.τ).loc Cert.SampleSsdReferenceIdeal.main_arg9) = m ((c.tc : Thread Cert.SampleSsdReferenceIdeal.nD Cert.SampleSsdReferenceIdeal.τ).loc Cert.SampleSsdReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v9)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v9) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v29) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5))

def preserves_Even_EvenIdeal : Prop :=
  True

def algebraic_EvenIdeal_EvenReferenceIdeal [hEvenIdeal : Cert.EvenIdeal.Facts] [hEvenReferenceIdeal : Cert.EvenReferenceIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenIdeal m →
    (∀ c : Dev Cert.EvenIdeal.nD,
      m' ((c.tc : Thread Cert.EvenReferenceIdeal.nD Cert.EvenReferenceIdeal.τ).loc Cert.EvenReferenceIdeal.main_arg0) = m ((c.tc : Thread Cert.EvenIdeal.nD Cert.EvenIdeal.τ).loc Cert.EvenIdeal.main_arg0)
      ∧ m' ((c.tc : Thread Cert.EvenReferenceIdeal.nD Cert.EvenReferenceIdeal.τ).loc Cert.EvenReferenceIdeal.main_arg1) = m ((c.tc : Thread Cert.EvenIdeal.nD Cert.EvenIdeal.τ).loc Cert.EvenIdeal.main_arg1)) →
    ∃ (v0 : (c : Dev Cert.EvenIdeal.nD) → Buf (Elt Ideal) ((c.tc : Thread Cert.EvenIdeal.nD Cert.EvenIdeal.τ).loc Cert.EvenIdeal.main_v6_0)) (v1 : (c : Dev Cert.EvenIdeal.nD) → Buf (Elt Ideal) ((c.tc : Thread Cert.EvenIdeal.nD Cert.EvenIdeal.τ).loc Cert.EvenIdeal.main_v6_1)) (v2 : (c : Dev Cert.EvenIdeal.nD) → Buf (Elt Ideal) ((c.tc : Thread Cert.EvenIdeal.nD Cert.EvenIdeal.τ).loc Cert.EvenIdeal.main_v6_2)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v6_0) = v0 c
          ∧ r.2.mem ((c.tc : Thread Cert.EvenIdeal.nD Cert.EvenIdeal.τ).loc Cert.EvenIdeal.main_v6_1) = v1 c
          ∧ r.2.mem ((c.tc : Thread Cert.EvenIdeal.nD Cert.EvenIdeal.τ).loc Cert.EvenIdeal.main_v6_2) = v2 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v13) = v0 c
          ∧ r.2.mem ((c.tc : Thread Cert.EvenReferenceIdeal.nD Cert.EvenReferenceIdeal.τ).loc Cert.EvenReferenceIdeal.main_v12) = v1 c
          ∧ r.2.mem ((c.tc : Thread Cert.EvenReferenceIdeal.nD Cert.EvenReferenceIdeal.τ).loc Cert.EvenReferenceIdeal.main_v14) = v2 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)) (v3 : (c : Dev Cert.QkvIdeal.nD) → Buf (Elt Ideal) ((c.tc : Thread Cert.QkvIdeal.nD Cert.QkvIdeal.τ).loc Cert.QkvIdeal.main_v1_3)) (v4 : (c : Dev Cert.QkvIdeal.nD) → Buf (Elt Ideal) ((c.tc : Thread Cert.QkvIdeal.nD Cert.QkvIdeal.τ).loc Cert.QkvIdeal.main_v1_4)) (v5 : (c : Dev Cert.QkvIdeal.nD) → Buf (Elt Ideal) ((c.tc : Thread Cert.QkvIdeal.nD Cert.QkvIdeal.τ).loc Cert.QkvIdeal.main_v1_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_1) = v1 c
          ∧ r.2.mem ((c.tc : Thread Cert.QkvIdeal.nD Cert.QkvIdeal.τ).loc Cert.QkvIdeal.main_v1_2) = v2 c
          ∧ r.2.mem ((c.tc : Thread Cert.QkvIdeal.nD Cert.QkvIdeal.τ).loc Cert.QkvIdeal.main_v1_3) = v3 c
          ∧ r.2.mem ((c.tc : Thread Cert.QkvIdeal.nD Cert.QkvIdeal.τ).loc Cert.QkvIdeal.main_v1_4) = v4 c
          ∧ r.2.mem ((c.tc : Thread Cert.QkvIdeal.nD Cert.QkvIdeal.τ).loc Cert.QkvIdeal.main_v1_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v9) = v0 c
          ∧ r.2.mem ((c.tc : Thread Cert.QkvReferenceIdeal.nD Cert.QkvReferenceIdeal.τ).loc Cert.QkvReferenceIdeal.main_v2) = v1 c
          ∧ r.2.mem ((c.tc : Thread Cert.QkvReferenceIdeal.nD Cert.QkvReferenceIdeal.τ).loc Cert.QkvReferenceIdeal.main_v3) = v2 c
          ∧ r.2.mem ((c.tc : Thread Cert.QkvReferenceIdeal.nD Cert.QkvReferenceIdeal.τ).loc Cert.QkvReferenceIdeal.main_v10) = v3 c
          ∧ r.2.mem ((c.tc : Thread Cert.QkvReferenceIdeal.nD Cert.QkvReferenceIdeal.τ).loc Cert.QkvReferenceIdeal.main_v11) = v4 c
          ∧ r.2.mem ((c.tc : Thread Cert.QkvReferenceIdeal.nD Cert.QkvReferenceIdeal.τ).loc Cert.QkvReferenceIdeal.main_v12) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v26) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Wo_WoIdeal : Prop :=
  True

def algebraic_WoIdeal_WoReferenceIdeal [hWoIdeal : Cert.WoIdeal.Facts] [hWoReferenceIdeal : Cert.WoReferenceIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoReferenceIdeal.nD Cert.WoReferenceIdeal.τ Cert.WoReferenceIdeal.sig) → Buf (Elt Ideal) ℓ) (g' : Dev Cert.WoReferenceIdeal.nD → PrngReg), Pre_WoIdeal m →
    (∀ c : Dev Cert.WoIdeal.nD,
      m' ((c.tc : Thread Cert.WoReferenceIdeal.nD Cert.WoReferenceIdeal.τ).loc Cert.WoReferenceIdeal.main_arg0) = m ((c.tc : Thread Cert.WoIdeal.nD Cert.WoIdeal.τ).loc Cert.WoIdeal.main_arg0)
      ∧ m' ((c.tc : Thread Cert.WoReferenceIdeal.nD Cert.WoReferenceIdeal.τ).loc Cert.WoReferenceIdeal.main_arg1) = m ((c.tc : Thread Cert.WoIdeal.nD Cert.WoIdeal.τ).loc Cert.WoIdeal.main_arg1)
      ∧ m' ((c.tc : Thread Cert.WoReferenceIdeal.nD Cert.WoReferenceIdeal.τ).loc Cert.WoReferenceIdeal.main_arg2) = m ((c.tc : Thread Cert.WoIdeal.nD Cert.WoIdeal.τ).loc Cert.WoIdeal.main_arg2)
      ∧ m' ((c.tc : Thread Cert.WoReferenceIdeal.nD Cert.WoReferenceIdeal.τ).loc Cert.WoReferenceIdeal.main_arg3) = m ((c.tc : Thread Cert.WoIdeal.nD Cert.WoIdeal.τ).loc Cert.WoIdeal.main_arg3)
      ∧ m' ((c.tc : Thread Cert.WoReferenceIdeal.nD Cert.WoReferenceIdeal.τ).loc Cert.WoReferenceIdeal.main_arg4) = m ((c.tc : Thread Cert.WoIdeal.nD Cert.WoIdeal.τ).loc Cert.WoIdeal.main_arg4)) →
    ∃ (v0 : (c : Dev Cert.WoIdeal.nD) → Buf (Elt Ideal) ((c.tc : Thread Cert.WoIdeal.nD Cert.WoIdeal.τ).loc Cert.WoIdeal.main_v3)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v3) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
          ∧ r.2.mem ((c.tc : Thread Cert.WoIdeal.nD Cert.WoIdeal.τ).loc Cert.WoIdeal.main_arg4) = m ((c.tc : Thread Cert.WoIdeal.nD Cert.WoIdeal.τ).loc Cert.WoIdeal.main_arg4))
      ∧ θ_run (Cert.WoReferenceIdeal.defs (F := Ideal)) (onTc (τ := Cert.WoReferenceIdeal.τ) (Cert.WoReferenceIdeal.main (F := Ideal))) ⟨m', fun _ => 0, g'⟩ (fun r => ∀ c : Dev Cert.WoReferenceIdeal.nD,
          r.2.mem ((c.tc : Thread Cert.WoReferenceIdeal.nD Cert.WoReferenceIdeal.τ).loc Cert.WoReferenceIdeal.main_v25) = v0 c
          ∧ r.2.mem ((c.tc : Thread Cert.WoReferenceIdeal.nD Cert.WoReferenceIdeal.τ).loc Cert.WoReferenceIdeal.main_arg0) = m' ((c.tc : Thread Cert.WoReferenceIdeal.nD Cert.WoReferenceIdeal.τ).loc Cert.WoReferenceIdeal.main_arg0)
          ∧ r.2.mem ((c.tc : Thread Cert.WoReferenceIdeal.nD Cert.WoReferenceIdeal.τ).loc Cert.WoReferenceIdeal.main_arg1) = m' ((c.tc : Thread Cert.WoReferenceIdeal.nD Cert.WoReferenceIdeal.τ).loc Cert.WoReferenceIdeal.main_arg1)
          ∧ r.2.mem ((c.tc : Thread Cert.WoReferenceIdeal.nD Cert.WoReferenceIdeal.τ).loc Cert.WoReferenceIdeal.main_arg2) = m' ((c.tc : Thread Cert.WoReferenceIdeal.nD Cert.WoReferenceIdeal.τ).loc Cert.WoReferenceIdeal.main_arg2)
          ∧ r.2.mem ((c.tc : Thread Cert.WoReferenceIdeal.nD Cert.WoReferenceIdeal.τ).loc Cert.WoReferenceIdeal.main_arg3) = m' ((c.tc : Thread Cert.WoReferenceIdeal.nD Cert.WoReferenceIdeal.τ).loc Cert.WoReferenceIdeal.main_arg3)
          ∧ r.2.mem ((c.tc : Thread Cert.WoReferenceIdeal.nD Cert.WoReferenceIdeal.τ).loc Cert.WoReferenceIdeal.main_arg4) = m' ((c.tc : Thread Cert.WoReferenceIdeal.nD Cert.WoReferenceIdeal.τ).loc Cert.WoReferenceIdeal.main_arg4))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v9) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3))

def preserves_Conf_ConfIdeal : Prop :=
  True

def algebraic_ConfIdeal_ConfReferenceIdeal [hConfIdeal : Cert.ConfIdeal.Facts] [hConfReferenceIdeal : Cert.ConfReferenceIdeal.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfReferenceIdeal.nD Cert.ConfReferenceIdeal.τ Cert.ConfReferenceIdeal.sig) → Buf (Elt Ideal) ℓ) (g' : Dev Cert.ConfReferenceIdeal.nD → PrngReg), Pre_ConfIdeal m →
    (∀ c : Dev Cert.ConfIdeal.nD,
      m' ((c.tc : Thread Cert.ConfReferenceIdeal.nD Cert.ConfReferenceIdeal.τ).loc Cert.ConfReferenceIdeal.main_arg0) = m ((c.tc : Thread Cert.ConfIdeal.nD Cert.ConfIdeal.τ).loc Cert.ConfIdeal.main_arg0)
      ∧ m' ((c.tc : Thread Cert.ConfReferenceIdeal.nD Cert.ConfReferenceIdeal.τ).loc Cert.ConfReferenceIdeal.main_arg1) = m ((c.tc : Thread Cert.ConfIdeal.nD Cert.ConfIdeal.τ).loc Cert.ConfIdeal.main_arg1)
      ∧ m' ((c.tc : Thread Cert.ConfReferenceIdeal.nD Cert.ConfReferenceIdeal.τ).loc Cert.ConfReferenceIdeal.main_arg2) = m ((c.tc : Thread Cert.ConfIdeal.nD Cert.ConfIdeal.τ).loc Cert.ConfIdeal.main_arg2)
      ∧ m' ((c.tc : Thread Cert.ConfReferenceIdeal.nD Cert.ConfReferenceIdeal.τ).loc Cert.ConfReferenceIdeal.main_arg3) = m ((c.tc : Thread Cert.ConfIdeal.nD Cert.ConfIdeal.τ).loc Cert.ConfIdeal.main_arg3)
      ∧ m' ((c.tc : Thread Cert.ConfReferenceIdeal.nD Cert.ConfReferenceIdeal.τ).loc Cert.ConfReferenceIdeal.main_arg4) = m ((c.tc : Thread Cert.ConfIdeal.nD Cert.ConfIdeal.τ).loc Cert.ConfIdeal.main_arg4)
      ∧ m' ((c.tc : Thread Cert.ConfReferenceIdeal.nD Cert.ConfReferenceIdeal.τ).loc Cert.ConfReferenceIdeal.main_arg5) = m ((c.tc : Thread Cert.ConfIdeal.nD Cert.ConfIdeal.τ).loc Cert.ConfIdeal.main_arg5)) →
    ∃ (v0 : (c : Dev Cert.ConfIdeal.nD) → Buf (Elt Ideal) ((c.tc : Thread Cert.ConfIdeal.nD Cert.ConfIdeal.τ).loc Cert.ConfIdeal.main_v3_0)) (v1 : (c : Dev Cert.ConfIdeal.nD) → Buf (Elt Ideal) ((c.tc : Thread Cert.ConfIdeal.nD Cert.ConfIdeal.τ).loc Cert.ConfIdeal.main_v3_1)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v3_0) = v0 c
          ∧ r.2.mem ((c.tc : Thread Cert.ConfIdeal.nD Cert.ConfIdeal.τ).loc Cert.ConfIdeal.main_v3_1) = v1 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
          ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ θ_run (Cert.ConfReferenceIdeal.defs (F := Ideal)) (onTc (τ := Cert.ConfReferenceIdeal.τ) (Cert.ConfReferenceIdeal.main (F := Ideal))) ⟨m', fun _ => 0, g'⟩ (fun r => ∀ c : Dev Cert.ConfReferenceIdeal.nD,
          r.2.mem ((c.tc : Thread Cert.ConfReferenceIdeal.nD Cert.ConfReferenceIdeal.τ).loc Cert.ConfReferenceIdeal.main_v245) = v0 c
          ∧ r.2.mem ((c.tc : Thread Cert.ConfReferenceIdeal.nD Cert.ConfReferenceIdeal.τ).loc Cert.ConfReferenceIdeal.main_v222) = v1 c
          ∧ r.2.mem ((c.tc : Thread Cert.ConfReferenceIdeal.nD Cert.ConfReferenceIdeal.τ).loc Cert.ConfReferenceIdeal.main_arg0) = m' ((c.tc : Thread Cert.ConfReferenceIdeal.nD Cert.ConfReferenceIdeal.τ).loc Cert.ConfReferenceIdeal.main_arg0)
          ∧ r.2.mem ((c.tc : Thread Cert.ConfReferenceIdeal.nD Cert.ConfReferenceIdeal.τ).loc Cert.ConfReferenceIdeal.main_arg1) = m' ((c.tc : Thread Cert.ConfReferenceIdeal.nD Cert.ConfReferenceIdeal.τ).loc Cert.ConfReferenceIdeal.main_arg1)
          ∧ r.2.mem ((c.tc : Thread Cert.ConfReferenceIdeal.nD Cert.ConfReferenceIdeal.τ).loc Cert.ConfReferenceIdeal.main_arg2) = m' ((c.tc : Thread Cert.ConfReferenceIdeal.nD Cert.ConfReferenceIdeal.τ).loc Cert.ConfReferenceIdeal.main_arg2)
          ∧ r.2.mem ((c.tc : Thread Cert.ConfReferenceIdeal.nD Cert.ConfReferenceIdeal.τ).loc Cert.ConfReferenceIdeal.main_arg3) = m' ((c.tc : Thread Cert.ConfReferenceIdeal.nD Cert.ConfReferenceIdeal.τ).loc Cert.ConfReferenceIdeal.main_arg3)
          ∧ r.2.mem ((c.tc : Thread Cert.ConfReferenceIdeal.nD Cert.ConfReferenceIdeal.τ).loc Cert.ConfReferenceIdeal.main_arg4) = m' ((c.tc : Thread Cert.ConfReferenceIdeal.nD Cert.ConfReferenceIdeal.τ).loc Cert.ConfReferenceIdeal.main_arg4)
          ∧ r.2.mem ((c.tc : Thread Cert.ConfReferenceIdeal.nD Cert.ConfReferenceIdeal.τ).loc Cert.ConfReferenceIdeal.main_arg5) = m' ((c.tc : Thread Cert.ConfReferenceIdeal.nD Cert.ConfReferenceIdeal.τ).loc Cert.ConfReferenceIdeal.main_arg5))

def preserves_SampleQkv_SampleQkvIdeal : Prop :=
  True

def algebraic_SampleQkvIdeal_SampleQkvReferenceIdeal [hSampleQkvIdeal : Cert.SampleQkvIdeal.Facts] [hSampleQkvReferenceIdeal : Cert.SampleQkvReferenceIdeal.Facts] : Prop :=
  ∀ (m : (ℓ : Loc Cert.SampleQkvIdeal.nD Cert.SampleQkvIdeal.τ Cert.SampleQkvIdeal.sig) → Buf (Elt Ideal) ℓ) (g : Dev Cert.SampleQkvIdeal.nD → PrngReg)
    (m' : (ℓ : Loc Cert.SampleQkvReferenceIdeal.nD Cert.SampleQkvReferenceIdeal.τ Cert.SampleQkvReferenceIdeal.sig) → Buf (Elt Ideal) ℓ) (g' : Dev Cert.SampleQkvReferenceIdeal.nD → PrngReg), Pre_SampleQkvIdeal m →
    (∀ c : Dev Cert.SampleQkvIdeal.nD,
      m' ((c.tc : Thread Cert.SampleQkvReferenceIdeal.nD Cert.SampleQkvReferenceIdeal.τ).loc Cert.SampleQkvReferenceIdeal.main_arg0) = m ((c.tc : Thread Cert.SampleQkvIdeal.nD Cert.SampleQkvIdeal.τ).loc Cert.SampleQkvIdeal.main_arg0)
      ∧ m' ((c.tc : Thread Cert.SampleQkvReferenceIdeal.nD Cert.SampleQkvReferenceIdeal.τ).loc Cert.SampleQkvReferenceIdeal.main_arg1) = m ((c.tc : Thread Cert.SampleQkvIdeal.nD Cert.SampleQkvIdeal.τ).loc Cert.SampleQkvIdeal.main_arg1)) →
    ∃ (v0 : (c : Dev Cert.SampleQkvIdeal.nD) → Buf (Elt Ideal) ((c.tc : Thread Cert.SampleQkvIdeal.nD Cert.SampleQkvIdeal.τ).loc Cert.SampleQkvIdeal.main_v1_0)) (v1 : (c : Dev Cert.SampleQkvIdeal.nD) → Buf (Elt Ideal) ((c.tc : Thread Cert.SampleQkvIdeal.nD Cert.SampleQkvIdeal.τ).loc Cert.SampleQkvIdeal.main_v1_1)) (v2 : (c : Dev Cert.SampleQkvIdeal.nD) → Buf (Elt Ideal) ((c.tc : Thread Cert.SampleQkvIdeal.nD Cert.SampleQkvIdeal.τ).loc Cert.SampleQkvIdeal.main_v1_2)),
      θ_run (Cert.SampleQkvIdeal.defs (F := Ideal)) (onTc (τ := Cert.SampleQkvIdeal.τ) (Cert.SampleQkvIdeal.main (F := Ideal))) ⟨m, fun _ => 0, g⟩ (fun r => ∀ c : Dev Cert.SampleQkvIdeal.nD,
          r.2.mem ((c.tc : Thread Cert.SampleQkvIdeal.nD Cert.SampleQkvIdeal.τ).loc Cert.SampleQkvIdeal.main_v1_0) = v0 c
          ∧ r.2.mem ((c.tc : Thread Cert.SampleQkvIdeal.nD Cert.SampleQkvIdeal.τ).loc Cert.SampleQkvIdeal.main_v1_1) = v1 c
          ∧ r.2.mem ((c.tc : Thread Cert.SampleQkvIdeal.nD Cert.SampleQkvIdeal.τ).loc Cert.SampleQkvIdeal.main_v1_2) = v2 c
          ∧ r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
          ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1))
      ∧ θ_run (Cert.SampleQkvReferenceIdeal.defs (F := Ideal)) (onTc (τ := Cert.SampleQkvReferenceIdeal.τ) (Cert.SampleQkvReferenceIdeal.main (F := Ideal))) ⟨m', fun _ => 0, g'⟩ (fun r => ∀ c : Dev Cert.SampleQkvReferenceIdeal.nD,
          r.2.mem ((c.tc : Thread Cert.SampleQkvReferenceIdeal.nD Cert.SampleQkvReferenceIdeal.τ).loc Cert.SampleQkvReferenceIdeal.main_v5) = v0 c
          ∧ r.2.mem ((c.tc : Thread Cert.SampleQkvReferenceIdeal.nD Cert.SampleQkvReferenceIdeal.τ).loc Cert.SampleQkvReferenceIdeal.main_v2) = v1 c
          ∧ r.2.mem ((c.tc : Thread Cert.SampleQkvReferenceIdeal.nD Cert.SampleQkvReferenceIdeal.τ).loc Cert.SampleQkvReferenceIdeal.main_v3) = v2 c
          ∧ r.2.mem ((c.tc : Thread Cert.SampleQkvReferenceIdeal.nD Cert.SampleQkvReferenceIdeal.τ).loc Cert.SampleQkvReferenceIdeal.main_arg0) = m' ((c.tc : Thread Cert.SampleQkvReferenceIdeal.nD Cert.SampleQkvReferenceIdeal.τ).loc Cert.SampleQkvReferenceIdeal.main_arg0)
          ∧ r.2.mem ((c.tc : Thread Cert.SampleQkvReferenceIdeal.nD Cert.SampleQkvReferenceIdeal.τ).loc Cert.SampleQkvReferenceIdeal.main_arg1) = m' ((c.tc : Thread Cert.SampleQkvReferenceIdeal.nD Cert.SampleQkvReferenceIdeal.τ).loc Cert.SampleQkvReferenceIdeal.main_arg1))

def preserves_SampleConf_SampleConfIdeal : Prop :=
  True

def algebraic_SampleConfIdeal_SampleConfReferenceIdeal [hSampleConfIdeal : Cert.SampleConfIdeal.Facts] [hSampleConfReferenceIdeal : Cert.SampleConfReferenceIdeal.Facts] : Prop :=
  ∀ (m : (ℓ : Loc Cert.SampleConfIdeal.nD Cert.SampleConfIdeal.τ Cert.SampleConfIdeal.sig) → Buf (Elt Ideal) ℓ) (g : Dev Cert.SampleConfIdeal.nD → PrngReg)
    (m' : (ℓ : Loc Cert.SampleConfReferenceIdeal.nD Cert.SampleConfReferenceIdeal.τ Cert.SampleConfReferenceIdeal.sig) → Buf (Elt Ideal) ℓ) (g' : Dev Cert.SampleConfReferenceIdeal.nD → PrngReg), Pre_SampleConfIdeal m →
    (∀ c : Dev Cert.SampleConfIdeal.nD,
      m' ((c.tc : Thread Cert.SampleConfReferenceIdeal.nD Cert.SampleConfReferenceIdeal.τ).loc Cert.SampleConfReferenceIdeal.main_arg0) = m ((c.tc : Thread Cert.SampleConfIdeal.nD Cert.SampleConfIdeal.τ).loc Cert.SampleConfIdeal.main_arg0)
      ∧ m' ((c.tc : Thread Cert.SampleConfReferenceIdeal.nD Cert.SampleConfReferenceIdeal.τ).loc Cert.SampleConfReferenceIdeal.main_arg1) = m ((c.tc : Thread Cert.SampleConfIdeal.nD Cert.SampleConfIdeal.τ).loc Cert.SampleConfIdeal.main_arg1)
      ∧ m' ((c.tc : Thread Cert.SampleConfReferenceIdeal.nD Cert.SampleConfReferenceIdeal.τ).loc Cert.SampleConfReferenceIdeal.main_arg2) = m ((c.tc : Thread Cert.SampleConfIdeal.nD Cert.SampleConfIdeal.τ).loc Cert.SampleConfIdeal.main_arg2)
      ∧ m' ((c.tc : Thread Cert.SampleConfReferenceIdeal.nD Cert.SampleConfReferenceIdeal.τ).loc Cert.SampleConfReferenceIdeal.main_arg3) = m ((c.tc : Thread Cert.SampleConfIdeal.nD Cert.SampleConfIdeal.τ).loc Cert.SampleConfIdeal.main_arg3)
      ∧ m' ((c.tc : Thread Cert.SampleConfReferenceIdeal.nD Cert.SampleConfReferenceIdeal.τ).loc Cert.SampleConfReferenceIdeal.main_arg4) = m ((c.tc : Thread Cert.SampleConfIdeal.nD Cert.SampleConfIdeal.τ).loc Cert.SampleConfIdeal.main_arg4)
      ∧ m' ((c.tc : Thread Cert.SampleConfReferenceIdeal.nD Cert.SampleConfReferenceIdeal.τ).loc Cert.SampleConfReferenceIdeal.main_arg5) = m ((c.tc : Thread Cert.SampleConfIdeal.nD Cert.SampleConfIdeal.τ).loc Cert.SampleConfIdeal.main_arg5)) →
    ∃ (v0 : (c : Dev Cert.SampleConfIdeal.nD) → Buf (Elt Ideal) ((c.tc : Thread Cert.SampleConfIdeal.nD Cert.SampleConfIdeal.τ).loc Cert.SampleConfIdeal.main_v3_0)) (v1 : (c : Dev Cert.SampleConfIdeal.nD) → Buf (Elt Ideal) ((c.tc : Thread Cert.SampleConfIdeal.nD Cert.SampleConfIdeal.τ).loc Cert.SampleConfIdeal.main_v3_1)),
      θ_run (Cert.SampleConfIdeal.defs (F := Ideal)) (onTc (τ := Cert.SampleConfIdeal.τ) (Cert.SampleConfIdeal.main (F := Ideal))) ⟨m, fun _ => 0, g⟩ (fun r => ∀ c : Dev Cert.SampleConfIdeal.nD,
          r.2.mem ((c.tc : Thread Cert.SampleConfIdeal.nD Cert.SampleConfIdeal.τ).loc Cert.SampleConfIdeal.main_v3_0) = v0 c
          ∧ r.2.mem ((c.tc : Thread Cert.SampleConfIdeal.nD Cert.SampleConfIdeal.τ).loc Cert.SampleConfIdeal.main_v3_1) = v1 c
          ∧ r.2.mem ((c.tc : Thread Cert.SampleConfIdeal.nD Cert.SampleConfIdeal.τ).loc Cert.SampleConfIdeal.main_arg0) = m ((c.tc : Thread Cert.SampleConfIdeal.nD Cert.SampleConfIdeal.τ).loc Cert.SampleConfIdeal.main_arg0)
          ∧ r.2.mem ((c.tc : Thread Cert.SampleConfIdeal.nD Cert.SampleConfIdeal.τ).loc Cert.SampleConfIdeal.main_arg1) = m ((c.tc : Thread Cert.SampleConfIdeal.nD Cert.SampleConfIdeal.τ).loc Cert.SampleConfIdeal.main_arg1)
          ∧ r.2.mem ((c.tc : Thread Cert.SampleConfIdeal.nD Cert.SampleConfIdeal.τ).loc Cert.SampleConfIdeal.main_arg2) = m ((c.tc : Thread Cert.SampleConfIdeal.nD Cert.SampleConfIdeal.τ).loc Cert.SampleConfIdeal.main_arg2)
          ∧ r.2.mem ((c.tc : Thread Cert.SampleConfIdeal.nD Cert.SampleConfIdeal.τ).loc Cert.SampleConfIdeal.main_arg3) = m ((c.tc : Thread Cert.SampleConfIdeal.nD Cert.SampleConfIdeal.τ).loc Cert.SampleConfIdeal.main_arg3)
          ∧ r.2.mem ((c.tc : Thread Cert.SampleConfIdeal.nD Cert.SampleConfIdeal.τ).loc Cert.SampleConfIdeal.main_arg4) = m ((c.tc : Thread Cert.SampleConfIdeal.nD Cert.SampleConfIdeal.τ).loc Cert.SampleConfIdeal.main_arg4)
          ∧ r.2.mem ((c.tc : Thread Cert.SampleConfIdeal.nD Cert.SampleConfIdeal.τ).loc Cert.SampleConfIdeal.main_arg5) = m ((c.tc : Thread Cert.SampleConfIdeal.nD Cert.SampleConfIdeal.τ).loc Cert.SampleConfIdeal.main_arg5))
      ∧ θ_run (Cert.SampleConfReferenceIdeal.defs (F := Ideal)) (onTc (τ := Cert.SampleConfReferenceIdeal.τ) (Cert.SampleConfReferenceIdeal.main (F := Ideal))) ⟨m', fun _ => 0, g'⟩ (fun r => ∀ c : Dev Cert.SampleConfReferenceIdeal.nD,
          r.2.mem ((c.tc : Thread Cert.SampleConfReferenceIdeal.nD Cert.SampleConfReferenceIdeal.τ).loc Cert.SampleConfReferenceIdeal.main_v245) = v0 c
          ∧ r.2.mem ((c.tc : Thread Cert.SampleConfReferenceIdeal.nD Cert.SampleConfReferenceIdeal.τ).loc Cert.SampleConfReferenceIdeal.main_v222) = v1 c
          ∧ r.2.mem ((c.tc : Thread Cert.SampleConfReferenceIdeal.nD Cert.SampleConfReferenceIdeal.τ).loc Cert.SampleConfReferenceIdeal.main_arg0) = m' ((c.tc : Thread Cert.SampleConfReferenceIdeal.nD Cert.SampleConfReferenceIdeal.τ).loc Cert.SampleConfReferenceIdeal.main_arg0)
          ∧ r.2.mem ((c.tc : Thread Cert.SampleConfReferenceIdeal.nD Cert.SampleConfReferenceIdeal.τ).loc Cert.SampleConfReferenceIdeal.main_arg1) = m' ((c.tc : Thread Cert.SampleConfReferenceIdeal.nD Cert.SampleConfReferenceIdeal.τ).loc Cert.SampleConfReferenceIdeal.main_arg1)
          ∧ r.2.mem ((c.tc : Thread Cert.SampleConfReferenceIdeal.nD Cert.SampleConfReferenceIdeal.τ).loc Cert.SampleConfReferenceIdeal.main_arg2) = m' ((c.tc : Thread Cert.SampleConfReferenceIdeal.nD Cert.SampleConfReferenceIdeal.τ).loc Cert.SampleConfReferenceIdeal.main_arg2)
          ∧ r.2.mem ((c.tc : Thread Cert.SampleConfReferenceIdeal.nD Cert.SampleConfReferenceIdeal.τ).loc Cert.SampleConfReferenceIdeal.main_arg3) = m' ((c.tc : Thread Cert.SampleConfReferenceIdeal.nD Cert.SampleConfReferenceIdeal.τ).loc Cert.SampleConfReferenceIdeal.main_arg3)
          ∧ r.2.mem ((c.tc : Thread Cert.SampleConfReferenceIdeal.nD Cert.SampleConfReferenceIdeal.τ).loc Cert.SampleConfReferenceIdeal.main_arg4) = m' ((c.tc : Thread Cert.SampleConfReferenceIdeal.nD Cert.SampleConfReferenceIdeal.τ).loc Cert.SampleConfReferenceIdeal.main_arg4)
          ∧ r.2.mem ((c.tc : Thread Cert.SampleConfReferenceIdeal.nD Cert.SampleConfReferenceIdeal.τ).loc Cert.SampleConfReferenceIdeal.main_arg5) = m' ((c.tc : Thread Cert.SampleConfReferenceIdeal.nD Cert.SampleConfReferenceIdeal.τ).loc Cert.SampleConfReferenceIdeal.main_arg5))

def preserves_Ssd_SsdIdeal : Prop :=
  True

def algebraic_SsdIdeal_SsdReferenceIdeal [hSsdIdeal : Cert.SsdIdeal.Facts] [hSsdReferenceIdeal : Cert.SsdReferenceIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdIdeal m →
    (∀ c : Dev Cert.SsdIdeal.nD,
      m' ((c.tc : Thread Cert.SsdReferenceIdeal.nD Cert.SsdReferenceIdeal.τ).loc Cert.SsdReferenceIdeal.main_arg0) = m ((c.tc : Thread Cert.SsdIdeal.nD Cert.SsdIdeal.τ).loc Cert.SsdIdeal.main_arg0)
      ∧ m' ((c.tc : Thread Cert.SsdReferenceIdeal.nD Cert.SsdReferenceIdeal.τ).loc Cert.SsdReferenceIdeal.main_arg1) = m ((c.tc : Thread Cert.SsdIdeal.nD Cert.SsdIdeal.τ).loc Cert.SsdIdeal.main_arg1)
      ∧ m' ((c.tc : Thread Cert.SsdReferenceIdeal.nD Cert.SsdReferenceIdeal.τ).loc Cert.SsdReferenceIdeal.main_arg2) = m ((c.tc : Thread Cert.SsdIdeal.nD Cert.SsdIdeal.τ).loc Cert.SsdIdeal.main_arg2)
      ∧ m' ((c.tc : Thread Cert.SsdReferenceIdeal.nD Cert.SsdReferenceIdeal.τ).loc Cert.SsdReferenceIdeal.main_arg3) = m ((c.tc : Thread Cert.SsdIdeal.nD Cert.SsdIdeal.τ).loc Cert.SsdIdeal.main_arg3)
      ∧ m' ((c.tc : Thread Cert.SsdReferenceIdeal.nD Cert.SsdReferenceIdeal.τ).loc Cert.SsdReferenceIdeal.main_arg4) = m ((c.tc : Thread Cert.SsdIdeal.nD Cert.SsdIdeal.τ).loc Cert.SsdIdeal.main_arg4)
      ∧ m' ((c.tc : Thread Cert.SsdReferenceIdeal.nD Cert.SsdReferenceIdeal.τ).loc Cert.SsdReferenceIdeal.main_arg5) = m ((c.tc : Thread Cert.SsdIdeal.nD Cert.SsdIdeal.τ).loc Cert.SsdIdeal.main_arg5)
      ∧ m' ((c.tc : Thread Cert.SsdReferenceIdeal.nD Cert.SsdReferenceIdeal.τ).loc Cert.SsdReferenceIdeal.main_arg6) = m ((c.tc : Thread Cert.SsdIdeal.nD Cert.SsdIdeal.τ).loc Cert.SsdIdeal.main_arg6)
      ∧ m' ((c.tc : Thread Cert.SsdReferenceIdeal.nD Cert.SsdReferenceIdeal.τ).loc Cert.SsdReferenceIdeal.main_arg7) = m ((c.tc : Thread Cert.SsdIdeal.nD Cert.SsdIdeal.τ).loc Cert.SsdIdeal.main_arg7)
      ∧ m' ((c.tc : Thread Cert.SsdReferenceIdeal.nD Cert.SsdReferenceIdeal.τ).loc Cert.SsdReferenceIdeal.main_arg8) = m ((c.tc : Thread Cert.SsdIdeal.nD Cert.SsdIdeal.τ).loc Cert.SsdIdeal.main_arg8)
      ∧ m' ((c.tc : Thread Cert.SsdReferenceIdeal.nD Cert.SsdReferenceIdeal.τ).loc Cert.SsdReferenceIdeal.main_arg9) = m ((c.tc : Thread Cert.SsdIdeal.nD Cert.SsdIdeal.τ).loc Cert.SsdIdeal.main_arg9)) →
    ∃ (v0 : (c : Dev Cert.SsdIdeal.nD) → Buf (Elt Ideal) ((c.tc : Thread Cert.SsdIdeal.nD Cert.SsdIdeal.τ).loc Cert.SsdIdeal.main_v10_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v10_2) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
          ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v34) = v0 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5)
          ∧ r.2.mem ((c.tc : Thread Cert.SsdReferenceIdeal.nD Cert.SsdReferenceIdeal.τ).loc Cert.SsdReferenceIdeal.main_arg6) = m' ((c.tc : Thread Cert.SsdReferenceIdeal.nD Cert.SsdReferenceIdeal.τ).loc Cert.SsdReferenceIdeal.main_arg6)
          ∧ r.2.mem ((c.tc : Thread Cert.SsdReferenceIdeal.nD Cert.SsdReferenceIdeal.τ).loc Cert.SsdReferenceIdeal.main_arg7) = m' ((c.tc : Thread Cert.SsdReferenceIdeal.nD Cert.SsdReferenceIdeal.τ).loc Cert.SsdReferenceIdeal.main_arg7)
          ∧ r.2.mem ((c.tc : Thread Cert.SsdReferenceIdeal.nD Cert.SsdReferenceIdeal.τ).loc Cert.SsdReferenceIdeal.main_arg8) = m' ((c.tc : Thread Cert.SsdReferenceIdeal.nD Cert.SsdReferenceIdeal.τ).loc Cert.SsdReferenceIdeal.main_arg8)
          ∧ r.2.mem ((c.tc : Thread Cert.SsdReferenceIdeal.nD Cert.SsdReferenceIdeal.τ).loc Cert.SsdReferenceIdeal.main_arg9) = m' ((c.tc : Thread Cert.SsdReferenceIdeal.nD Cert.SsdReferenceIdeal.τ).loc Cert.SsdReferenceIdeal.main_arg9))

def preserves_SampleSsd_SampleSsdIdeal : Prop :=
  True

def algebraic_SampleSsdIdeal_SampleSsdReferenceIdeal [hSampleSsdIdeal : Cert.SampleSsdIdeal.Facts] [hSampleSsdReferenceIdeal : Cert.SampleSsdReferenceIdeal.Facts] : Prop :=
  ∀ (m : (ℓ : Loc Cert.SampleSsdIdeal.nD Cert.SampleSsdIdeal.τ Cert.SampleSsdIdeal.sig) → Buf (Elt Ideal) ℓ) (g : Dev Cert.SampleSsdIdeal.nD → PrngReg)
    (m' : (ℓ : Loc Cert.SampleSsdReferenceIdeal.nD Cert.SampleSsdReferenceIdeal.τ Cert.SampleSsdReferenceIdeal.sig) → Buf (Elt Ideal) ℓ) (g' : Dev Cert.SampleSsdReferenceIdeal.nD → PrngReg), Pre_SampleSsdIdeal m →
    (∀ c : Dev Cert.SampleSsdIdeal.nD,
      m' ((c.tc : Thread Cert.SampleSsdReferenceIdeal.nD Cert.SampleSsdReferenceIdeal.τ).loc Cert.SampleSsdReferenceIdeal.main_arg0) = m ((c.tc : Thread Cert.SampleSsdIdeal.nD Cert.SampleSsdIdeal.τ).loc Cert.SampleSsdIdeal.main_arg0)
      ∧ m' ((c.tc : Thread Cert.SampleSsdReferenceIdeal.nD Cert.SampleSsdReferenceIdeal.τ).loc Cert.SampleSsdReferenceIdeal.main_arg1) = m ((c.tc : Thread Cert.SampleSsdIdeal.nD Cert.SampleSsdIdeal.τ).loc Cert.SampleSsdIdeal.main_arg1)
      ∧ m' ((c.tc : Thread Cert.SampleSsdReferenceIdeal.nD Cert.SampleSsdReferenceIdeal.τ).loc Cert.SampleSsdReferenceIdeal.main_arg2) = m ((c.tc : Thread Cert.SampleSsdIdeal.nD Cert.SampleSsdIdeal.τ).loc Cert.SampleSsdIdeal.main_arg2)
      ∧ m' ((c.tc : Thread Cert.SampleSsdReferenceIdeal.nD Cert.SampleSsdReferenceIdeal.τ).loc Cert.SampleSsdReferenceIdeal.main_arg3) = m ((c.tc : Thread Cert.SampleSsdIdeal.nD Cert.SampleSsdIdeal.τ).loc Cert.SampleSsdIdeal.main_arg3)
      ∧ m' ((c.tc : Thread Cert.SampleSsdReferenceIdeal.nD Cert.SampleSsdReferenceIdeal.τ).loc Cert.SampleSsdReferenceIdeal.main_arg4) = m ((c.tc : Thread Cert.SampleSsdIdeal.nD Cert.SampleSsdIdeal.τ).loc Cert.SampleSsdIdeal.main_arg4)
      ∧ m' ((c.tc : Thread Cert.SampleSsdReferenceIdeal.nD Cert.SampleSsdReferenceIdeal.τ).loc Cert.SampleSsdReferenceIdeal.main_arg5) = m ((c.tc : Thread Cert.SampleSsdIdeal.nD Cert.SampleSsdIdeal.τ).loc Cert.SampleSsdIdeal.main_arg5)
      ∧ m' ((c.tc : Thread Cert.SampleSsdReferenceIdeal.nD Cert.SampleSsdReferenceIdeal.τ).loc Cert.SampleSsdReferenceIdeal.main_arg6) = m ((c.tc : Thread Cert.SampleSsdIdeal.nD Cert.SampleSsdIdeal.τ).loc Cert.SampleSsdIdeal.main_arg6)
      ∧ m' ((c.tc : Thread Cert.SampleSsdReferenceIdeal.nD Cert.SampleSsdReferenceIdeal.τ).loc Cert.SampleSsdReferenceIdeal.main_arg7) = m ((c.tc : Thread Cert.SampleSsdIdeal.nD Cert.SampleSsdIdeal.τ).loc Cert.SampleSsdIdeal.main_arg7)
      ∧ m' ((c.tc : Thread Cert.SampleSsdReferenceIdeal.nD Cert.SampleSsdReferenceIdeal.τ).loc Cert.SampleSsdReferenceIdeal.main_arg8) = m ((c.tc : Thread Cert.SampleSsdIdeal.nD Cert.SampleSsdIdeal.τ).loc Cert.SampleSsdIdeal.main_arg8)
      ∧ m' ((c.tc : Thread Cert.SampleSsdReferenceIdeal.nD Cert.SampleSsdReferenceIdeal.τ).loc Cert.SampleSsdReferenceIdeal.main_arg9) = m ((c.tc : Thread Cert.SampleSsdIdeal.nD Cert.SampleSsdIdeal.τ).loc Cert.SampleSsdIdeal.main_arg9)) →
    ∃ (v0 : (c : Dev Cert.SampleSsdIdeal.nD) → Buf (Elt Ideal) ((c.tc : Thread Cert.SampleSsdIdeal.nD Cert.SampleSsdIdeal.τ).loc Cert.SampleSsdIdeal.main_v10_2)),
      θ_run (Cert.SampleSsdIdeal.defs (F := Ideal)) (onTc (τ := Cert.SampleSsdIdeal.τ) (Cert.SampleSsdIdeal.main (F := Ideal))) ⟨m, fun _ => 0, g⟩ (fun r => ∀ c : Dev Cert.SampleSsdIdeal.nD,
          r.2.mem ((c.tc : Thread Cert.SampleSsdIdeal.nD Cert.SampleSsdIdeal.τ).loc Cert.SampleSsdIdeal.main_v10_2) = v0 c
          ∧ r.2.mem ((c.tc : Thread Cert.SampleSsdIdeal.nD Cert.SampleSsdIdeal.τ).loc Cert.SampleSsdIdeal.main_arg0) = m ((c.tc : Thread Cert.SampleSsdIdeal.nD Cert.SampleSsdIdeal.τ).loc Cert.SampleSsdIdeal.main_arg0)
          ∧ r.2.mem ((c.tc : Thread Cert.SampleSsdIdeal.nD Cert.SampleSsdIdeal.τ).loc Cert.SampleSsdIdeal.main_arg1) = m ((c.tc : Thread Cert.SampleSsdIdeal.nD Cert.SampleSsdIdeal.τ).loc Cert.SampleSsdIdeal.main_arg1)
          ∧ r.2.mem ((c.tc : Thread Cert.SampleSsdIdeal.nD Cert.SampleSsdIdeal.τ).loc Cert.SampleSsdIdeal.main_arg2) = m ((c.tc : Thread Cert.SampleSsdIdeal.nD Cert.SampleSsdIdeal.τ).loc Cert.SampleSsdIdeal.main_arg2)
          ∧ r.2.mem ((c.tc : Thread Cert.SampleSsdIdeal.nD Cert.SampleSsdIdeal.τ).loc Cert.SampleSsdIdeal.main_arg3) = m ((c.tc : Thread Cert.SampleSsdIdeal.nD Cert.SampleSsdIdeal.τ).loc Cert.SampleSsdIdeal.main_arg3)
          ∧ r.2.mem ((c.tc : Thread Cert.SampleSsdIdeal.nD Cert.SampleSsdIdeal.τ).loc Cert.SampleSsdIdeal.main_arg4) = m ((c.tc : Thread Cert.SampleSsdIdeal.nD Cert.SampleSsdIdeal.τ).loc Cert.SampleSsdIdeal.main_arg4)
          ∧ r.2.mem ((c.tc : Thread Cert.SampleSsdIdeal.nD Cert.SampleSsdIdeal.τ).loc Cert.SampleSsdIdeal.main_arg5) = m ((c.tc : Thread Cert.SampleSsdIdeal.nD Cert.SampleSsdIdeal.τ).loc Cert.SampleSsdIdeal.main_arg5)
          ∧ r.2.mem ((c.tc : Thread Cert.SampleSsdIdeal.nD Cert.SampleSsdIdeal.τ).loc Cert.SampleSsdIdeal.main_arg6) = m ((c.tc : Thread Cert.SampleSsdIdeal.nD Cert.SampleSsdIdeal.τ).loc Cert.SampleSsdIdeal.main_arg6)
          ∧ r.2.mem ((c.tc : Thread Cert.SampleSsdIdeal.nD Cert.SampleSsdIdeal.τ).loc Cert.SampleSsdIdeal.main_arg7) = m ((c.tc : Thread Cert.SampleSsdIdeal.nD Cert.SampleSsdIdeal.τ).loc Cert.SampleSsdIdeal.main_arg7)
          ∧ r.2.mem ((c.tc : Thread Cert.SampleSsdIdeal.nD Cert.SampleSsdIdeal.τ).loc Cert.SampleSsdIdeal.main_arg8) = m ((c.tc : Thread Cert.SampleSsdIdeal.nD Cert.SampleSsdIdeal.τ).loc Cert.SampleSsdIdeal.main_arg8)
          ∧ r.2.mem ((c.tc : Thread Cert.SampleSsdIdeal.nD Cert.SampleSsdIdeal.τ).loc Cert.SampleSsdIdeal.main_arg9) = m ((c.tc : Thread Cert.SampleSsdIdeal.nD Cert.SampleSsdIdeal.τ).loc Cert.SampleSsdIdeal.main_arg9))
      ∧ θ_run (Cert.SampleSsdReferenceIdeal.defs (F := Ideal)) (onTc (τ := Cert.SampleSsdReferenceIdeal.τ) (Cert.SampleSsdReferenceIdeal.main (F := Ideal))) ⟨m', fun _ => 0, g'⟩ (fun r => ∀ c : Dev Cert.SampleSsdReferenceIdeal.nD,
          r.2.mem ((c.tc : Thread Cert.SampleSsdReferenceIdeal.nD Cert.SampleSsdReferenceIdeal.τ).loc Cert.SampleSsdReferenceIdeal.main_v34) = v0 c
          ∧ r.2.mem ((c.tc : Thread Cert.SampleSsdReferenceIdeal.nD Cert.SampleSsdReferenceIdeal.τ).loc Cert.SampleSsdReferenceIdeal.main_arg0) = m' ((c.tc : Thread Cert.SampleSsdReferenceIdeal.nD Cert.SampleSsdReferenceIdeal.τ).loc Cert.SampleSsdReferenceIdeal.main_arg0)
          ∧ r.2.mem ((c.tc : Thread Cert.SampleSsdReferenceIdeal.nD Cert.SampleSsdReferenceIdeal.τ).loc Cert.SampleSsdReferenceIdeal.main_arg1) = m' ((c.tc : Thread Cert.SampleSsdReferenceIdeal.nD Cert.SampleSsdReferenceIdeal.τ).loc Cert.SampleSsdReferenceIdeal.main_arg1)
          ∧ r.2.mem ((c.tc : Thread Cert.SampleSsdReferenceIdeal.nD Cert.SampleSsdReferenceIdeal.τ).loc Cert.SampleSsdReferenceIdeal.main_arg2) = m' ((c.tc : Thread Cert.SampleSsdReferenceIdeal.nD Cert.SampleSsdReferenceIdeal.τ).loc Cert.SampleSsdReferenceIdeal.main_arg2)
          ∧ r.2.mem ((c.tc : Thread Cert.SampleSsdReferenceIdeal.nD Cert.SampleSsdReferenceIdeal.τ).loc Cert.SampleSsdReferenceIdeal.main_arg3) = m' ((c.tc : Thread Cert.SampleSsdReferenceIdeal.nD Cert.SampleSsdReferenceIdeal.τ).loc Cert.SampleSsdReferenceIdeal.main_arg3)
          ∧ r.2.mem ((c.tc : Thread Cert.SampleSsdReferenceIdeal.nD Cert.SampleSsdReferenceIdeal.τ).loc Cert.SampleSsdReferenceIdeal.main_arg4) = m' ((c.tc : Thread Cert.SampleSsdReferenceIdeal.nD Cert.SampleSsdReferenceIdeal.τ).loc Cert.SampleSsdReferenceIdeal.main_arg4)
          ∧ r.2.mem ((c.tc : Thread Cert.SampleSsdReferenceIdeal.nD Cert.SampleSsdReferenceIdeal.τ).loc Cert.SampleSsdReferenceIdeal.main_arg5) = m' ((c.tc : Thread Cert.SampleSsdReferenceIdeal.nD Cert.SampleSsdReferenceIdeal.τ).loc Cert.SampleSsdReferenceIdeal.main_arg5)
          ∧ r.2.mem ((c.tc : Thread Cert.SampleSsdReferenceIdeal.nD Cert.SampleSsdReferenceIdeal.τ).loc Cert.SampleSsdReferenceIdeal.main_arg6) = m' ((c.tc : Thread Cert.SampleSsdReferenceIdeal.nD Cert.SampleSsdReferenceIdeal.τ).loc Cert.SampleSsdReferenceIdeal.main_arg6)
          ∧ r.2.mem ((c.tc : Thread Cert.SampleSsdReferenceIdeal.nD Cert.SampleSsdReferenceIdeal.τ).loc Cert.SampleSsdReferenceIdeal.main_arg7) = m' ((c.tc : Thread Cert.SampleSsdReferenceIdeal.nD Cert.SampleSsdReferenceIdeal.τ).loc Cert.SampleSsdReferenceIdeal.main_arg7)
          ∧ r.2.mem ((c.tc : Thread Cert.SampleSsdReferenceIdeal.nD Cert.SampleSsdReferenceIdeal.τ).loc Cert.SampleSsdReferenceIdeal.main_arg8) = m' ((c.tc : Thread Cert.SampleSsdReferenceIdeal.nD Cert.SampleSsdReferenceIdeal.τ).loc Cert.SampleSsdReferenceIdeal.main_arg8)
          ∧ r.2.mem ((c.tc : Thread Cert.SampleSsdReferenceIdeal.nD Cert.SampleSsdReferenceIdeal.τ).loc Cert.SampleSsdReferenceIdeal.main_arg9) = m' ((c.tc : Thread Cert.SampleSsdReferenceIdeal.nD Cert.SampleSsdReferenceIdeal.τ).loc Cert.SampleSsdReferenceIdeal.main_arg9))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hEven : Cert.Even.Facts) (hEvenIdeal : Cert.EvenIdeal.Facts) (hEvenReferenceIdeal : Cert.EvenReferenceIdeal.Facts) (hQkv : Cert.Qkv.Facts) (hQkvIdeal : Cert.QkvIdeal.Facts) (hQkvReferenceIdeal : Cert.QkvReferenceIdeal.Facts) (hOut : Cert.Out.Facts) (hOutIdeal : Cert.OutIdeal.Facts) (hOutReferenceIdeal : Cert.OutReferenceIdeal.Facts) (hWo : Cert.Wo.Facts) (hWoIdeal : Cert.WoIdeal.Facts) (hWoReferenceIdeal : Cert.WoReferenceIdeal.Facts) (hPle : Cert.Ple.Facts) (hPleIdeal : Cert.PleIdeal.Facts) (hPleReferenceIdeal : Cert.PleReferenceIdeal.Facts) (hConf : Cert.Conf.Facts) (hConfIdeal : Cert.ConfIdeal.Facts) (hConfReferenceIdeal : Cert.ConfReferenceIdeal.Facts) (hSampleQkv : Cert.SampleQkv.Facts) (hSampleQkvIdeal : Cert.SampleQkvIdeal.Facts) (hSampleQkvReferenceIdeal : Cert.SampleQkvReferenceIdeal.Facts) (hSampleConf : Cert.SampleConf.Facts) (hSampleConfIdeal : Cert.SampleConfIdeal.Facts) (hSampleConfReferenceIdeal : Cert.SampleConfReferenceIdeal.Facts) (hSsd : Cert.Ssd.Facts) (hSsdIdeal : Cert.SsdIdeal.Facts) (hSsdReferenceIdeal : Cert.SsdReferenceIdeal.Facts) (hSampleSsd : Cert.SampleSsd.Facts) (hSampleSsdIdeal : Cert.SampleSsdIdeal.Facts) (hSampleSsdReferenceIdeal : Cert.SampleSsdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dense (hDense := hDense)
    ∧ quiescent_DenseIdeal (hDenseIdeal := hDenseIdeal)
    ∧ quiescent_DenseReferenceIdeal (hDenseReferenceIdeal := hDenseReferenceIdeal)
    ∧ quiescent_Even (hEven := hEven)
    ∧ quiescent_EvenIdeal (hEvenIdeal := hEvenIdeal)
    ∧ quiescent_EvenReferenceIdeal (hEvenReferenceIdeal := hEvenReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Out (hOut := hOut)
    ∧ quiescent_OutIdeal (hOutIdeal := hOutIdeal)
    ∧ quiescent_OutReferenceIdeal (hOutReferenceIdeal := hOutReferenceIdeal)
    ∧ quiescent_Wo (hWo := hWo)
    ∧ quiescent_WoIdeal (hWoIdeal := hWoIdeal)
    ∧ quiescent_WoReferenceIdeal (hWoReferenceIdeal := hWoReferenceIdeal)
    ∧ quiescent_Ple (hPle := hPle)
    ∧ quiescent_PleIdeal (hPleIdeal := hPleIdeal)
    ∧ quiescent_PleReferenceIdeal (hPleReferenceIdeal := hPleReferenceIdeal)
    ∧ quiescent_Conf (hConf := hConf)
    ∧ quiescent_ConfIdeal (hConfIdeal := hConfIdeal)
    ∧ quiescent_ConfReferenceIdeal (hConfReferenceIdeal := hConfReferenceIdeal)
    ∧ quiescent_SampleQkv (hSampleQkv := hSampleQkv)
    ∧ quiescent_SampleQkvIdeal (hSampleQkvIdeal := hSampleQkvIdeal)
    ∧ quiescent_SampleQkvReferenceIdeal (hSampleQkvReferenceIdeal := hSampleQkvReferenceIdeal)
    ∧ quiescent_SampleConf (hSampleConf := hSampleConf)
    ∧ quiescent_SampleConfIdeal (hSampleConfIdeal := hSampleConfIdeal)
    ∧ quiescent_SampleConfReferenceIdeal (hSampleConfReferenceIdeal := hSampleConfReferenceIdeal)
    ∧ quiescent_Ssd (hSsd := hSsd)
    ∧ quiescent_SsdIdeal (hSsdIdeal := hSsdIdeal)
    ∧ quiescent_SsdReferenceIdeal (hSsdReferenceIdeal := hSsdReferenceIdeal)
    ∧ quiescent_SampleSsd (hSampleSsd := hSampleSsd)
    ∧ quiescent_SampleSsdIdeal (hSampleSsdIdeal := hSampleSsdIdeal)
    ∧ quiescent_SampleSsdReferenceIdeal (hSampleSsdReferenceIdeal := hSampleSsdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dense_DenseIdeal
    ∧ algebraic_DenseIdeal_DenseReferenceIdeal (hDenseIdeal := hDenseIdeal) (hDenseReferenceIdeal := hDenseReferenceIdeal)
    ∧ preserves_Even_EvenIdeal
    ∧ algebraic_EvenIdeal_EvenReferenceIdeal (hEvenIdeal := hEvenIdeal) (hEvenReferenceIdeal := hEvenReferenceIdeal)
    ∧ preserves_Qkv_QkvIdeal
    ∧ algebraic_QkvIdeal_QkvReferenceIdeal (hQkvIdeal := hQkvIdeal) (hQkvReferenceIdeal := hQkvReferenceIdeal)
    ∧ preserves_Out_OutIdeal
    ∧ algebraic_OutIdeal_OutReferenceIdeal (hOutIdeal := hOutIdeal) (hOutReferenceIdeal := hOutReferenceIdeal)
    ∧ preserves_Wo_WoIdeal
    ∧ algebraic_WoIdeal_WoReferenceIdeal (hWoIdeal := hWoIdeal) (hWoReferenceIdeal := hWoReferenceIdeal)
    ∧ preserves_Ple_PleIdeal
    ∧ algebraic_PleIdeal_PleReferenceIdeal (hPleIdeal := hPleIdeal) (hPleReferenceIdeal := hPleReferenceIdeal)
    ∧ preserves_Conf_ConfIdeal
    ∧ algebraic_ConfIdeal_ConfReferenceIdeal (hConfIdeal := hConfIdeal) (hConfReferenceIdeal := hConfReferenceIdeal)
    ∧ preserves_SampleQkv_SampleQkvIdeal
    ∧ algebraic_SampleQkvIdeal_SampleQkvReferenceIdeal (hSampleQkvIdeal := hSampleQkvIdeal) (hSampleQkvReferenceIdeal := hSampleQkvReferenceIdeal)
    ∧ preserves_SampleConf_SampleConfIdeal
    ∧ algebraic_SampleConfIdeal_SampleConfReferenceIdeal (hSampleConfIdeal := hSampleConfIdeal) (hSampleConfReferenceIdeal := hSampleConfReferenceIdeal)
    ∧ preserves_Ssd_SsdIdeal
    ∧ algebraic_SsdIdeal_SsdReferenceIdeal (hSsdIdeal := hSsdIdeal) (hSsdReferenceIdeal := hSsdReferenceIdeal)
    ∧ preserves_SampleSsd_SampleSsdIdeal
    ∧ algebraic_SampleSsdIdeal_SampleSsdReferenceIdeal (hSampleSsdIdeal := hSampleSsdIdeal) (hSampleSsdReferenceIdeal := hSampleSsdReferenceIdeal)
-- ==== Pre_finite.lean ====
abbrev S16384x1024 : Shape := ⟨2, ![16384, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16384x1024 .f32) (main_arg1 : FVec F S1024x8 .f32) (main_arg2 : FVec F S8x1024x2816 .f32) (main_arg3 : FVec F S8x1024x2816 .f32) (main_arg4 : FVec F S8x2816x1024 .f32) (main_arg5 : FVec F S1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S16384x1024 : Shape := ⟨2, ![16384, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S1024 : Shape := ⟨1, ![1024]⟩
abbrev S1x1024 : Shape := ⟨2, ![1, 1024]⟩
abbrev S_ : Shape := ⟨0, ![]⟩
abbrev S1024x128 : Shape := ⟨2, ![1024, 128]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x8, .f32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S8x1024x2816, .bf16⟩
  | .hbm, ⟨13, _⟩ => ⟨S8x1024x2816, .bf16⟩
  | .hbm, ⟨14, _⟩ => ⟨S8x2816x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![32, 8, 2], ![false, false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c1_i32 : BitVec 32 := 1#32
  let v35 : BitVec 1 := Scalar.cmpi .eq arg2 c1_i32
  let v36 : BitVec 1 := Scalar.andi v34 v35
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S16384x1024 : Shape := ⟨2, ![16384, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S1024 : Shape := ⟨1, ![1024]⟩
abbrev S16384x8 : Shape := ⟨2, ![16384, 8]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩
abbrev S1x1024 : Shape := ⟨2, ![1, 1024]⟩

abbrev nBuf : Space → Nat
  | .hbm => 252
  | .vmem => 0
  | .smem => 0
  | _ => 0

abbrev hbmTy0_0 (i : Nat) : BufTy := match i % 128 with
  | 0 => ⟨S16384x1024, .f32⟩
  | 1 => ⟨S1024x8, .f32⟩
  | 2 => ⟨S8x1024x2816, .f32⟩
  | 3 => ⟨S8x1024x2816, .f32⟩
  | 4 => ⟨S8x2816x1024, .f32⟩
  | 5 => ⟨S1024, .f32⟩
  | 6 => ⟨S1024, .f32⟩
  | 7 => ⟨S16384x8, .f32⟩
  | 8 => ⟨S16384x2, .f32⟩
  | 9 => ⟨S16384x2, .i32⟩
  | 10 => ⟨S_, .f32⟩
  | 11 => ⟨S16384, .f32⟩
  | 12 => ⟨S_, .f32⟩
  | 13 => ⟨S16384, .f32⟩
  | 14 => ⟨S16384, .f32⟩
  | 15 => ⟨S16384x1, .f32⟩
  | 16 => ⟨S16384x2, .f32⟩
  | 17 => ⟨S16384x2, .f32⟩
  | 18 => ⟨S16384x2, .f32⟩
  | 19 => ⟨S_, .f32⟩
  | 20 => ⟨S16384, .f32⟩
  | 21 => ⟨S16384x1, .f32⟩
  | 22 => ⟨S16384x2, .f32⟩
  | 23 => ⟨S16384x2, .f32⟩
  | 24 => ⟨S16384x2x1, .i32⟩
  | 25 => ⟨S1x1x8, .i32⟩
  | 26 => ⟨S16384x2x8, .i32⟩
  | 27 => ⟨S16384x2x8, .i32⟩
  | 28 => ⟨S16384x2x8, .i1⟩
  | 29 => ⟨S16384x2x8, .f32⟩
  | 30 => ⟨S16384x2x1, .f32⟩
  | 31 => ⟨S16384x2x8, .f32⟩
  | 32 => ⟨S16384x2x8, .f32⟩
  | 33 => ⟨S_, .f32⟩
  | 34 => ⟨S16384x8, .f32⟩
  | 35 => ⟨S_, .f32⟩
  | 36 => ⟨S16384x1024, .f32⟩
  | 37 => ⟨S16384x1, .f32⟩
  | 38 => ⟨S1x1024x2816, .f32⟩
  | 39 => ⟨S1024x2816, .f32⟩
  | 40 => ⟨S1x1024x2816, .f32⟩
  | 41 => ⟨S1024x2816, .f32⟩
  | 42 => ⟨S1x2816x1024, .f32⟩
  | 43 => ⟨S2816x1024, .f32⟩
  | 44 => ⟨S16384x2816, .f32⟩
  | 45 => ⟨S16384x2816, .f32⟩
  | 46 => ⟨S16384x2816, .f32⟩
  | 47 => ⟨S_, .f32⟩
  | 48 => ⟨S16384x2816, .f32⟩
  | 49 => ⟨S16384x2816, .f32⟩
  | 50 => ⟨S_, .f32⟩
  | 51 => ⟨S16384x2816, .f32⟩
  | 52 => ⟨S16384x2816, .f32⟩
  | 53 => ⟨S16384x2816, .f32⟩
  | 54 => ⟨S16384x2816, .f32⟩
  | 55 => ⟨S16384x2816, .f32⟩
  | 56 => ⟨S16384x1024, .f32⟩
  | 57 => ⟨S16384x1024, .f32⟩
  | 58 => ⟨S16384x1024, .f32⟩
  | 59 => ⟨S16384x1024, .f32⟩
  | 60 => ⟨S16384x1, .f32⟩
  | 61 => ⟨S1x1024x2816, .f32⟩
  | 62 => ⟨S1024x2816, .f32⟩
  | 63 => ⟨S1x1024x2816, .f32⟩
  | 64 => ⟨S1024x2816, .f32⟩
  | 65 => ⟨S1x2816x1024, .f32⟩
  | 66 => ⟨S2816x1024, .f32⟩
  | 67 => ⟨S16384x2816, .f32⟩
  | 68 => ⟨S16384x2816, .f32⟩
  | 69 => ⟨S16384x2816, .f32⟩
  | 70 => ⟨S_, .f32⟩
  | 71 => ⟨S16384x2816, .f32⟩
  | 72 => ⟨S16384x2816, .f32⟩
  | 73 => ⟨S_, .f32⟩
  | 74 => ⟨S16384x2816, .f32⟩
  | 75 => ⟨S16384x2816, .f32⟩
  | 76 => ⟨S16384x2816, .f32⟩
  | 77 => ⟨S16384x2816, .f32⟩
  | 78 => ⟨S16384x2816, .f32⟩
  | 79 => ⟨S16384x1024, .f32⟩
  | 80 => ⟨S16384x1024, .f32⟩
  | 81 => ⟨S16384x1024, .f32⟩
  | 82 => ⟨S16384x1024, .f32⟩
  | 83 => ⟨S16384x1, .f32⟩
  | 84 => ⟨S1x1024x2816, .f32⟩
  | 85 => ⟨S1024x2816, .f32⟩
  | 86 => ⟨S1x1024x2816, .f32⟩
  | 87 => ⟨S1024x2816, .f32⟩
  | 88 => ⟨S1x2816x1024, .f32⟩
  | 89 => ⟨S2816x1024, .f32⟩
  | 90 => ⟨S16384x2816, .f32⟩
  | 91 => ⟨S16384x2816, .f32⟩
  | 92 => ⟨S16384x2816, .f32⟩
  | 93 => ⟨S_, .f32⟩
  | 94 => ⟨S16384x2816, .f32⟩
  | 95 => ⟨S16384x2816, .f32⟩
  | 96 => ⟨S_, .f32⟩
  | 97 => ⟨S16384x2816, .f32⟩
  | 98 => ⟨S16384x2816, .f32⟩
  | 99 => ⟨S16384x2816, .f32⟩
  | 100 => ⟨S16384x2816, .f32⟩
  | 101 => ⟨S16384x2816, .f32⟩
  | 102 => ⟨S16384x1024, .f32⟩
  | 103 => ⟨S16384x1024, .f32⟩
  | 104 => ⟨S16384x1024, .f32⟩
  | 105 => ⟨S16384x1024, .f32⟩
  | 106 => ⟨S16384x1, .f32⟩
  | 107 => ⟨S1x1024x2816, .f32⟩
  | 108 => ⟨S1024x2816, .f32⟩
  | 109 => ⟨S1x1024x2816, .f32⟩
  | 110 => ⟨S1024x2816, .f32⟩
  | 111 => ⟨S1x2816x1024, .f32⟩
  | 112 => ⟨S2816x1024, .f32⟩
  | 113 => ⟨S16384x2816, .f32⟩
  | 114 => ⟨S16384x2816, .f32⟩
  | 115 => ⟨S16384x2816, .f32⟩
  | 116 => ⟨S_, .f32⟩
  | 117 => ⟨S16384x2816, .f32⟩
  | 118 => ⟨S16384x2816, .f32⟩
  | 119 => ⟨S_, .f32⟩
  | 120 => ⟨S16384x2816, .f32⟩
  | 121 => ⟨S16384x2816, .f32⟩
  | 122 => ⟨S16384x2816, .f32⟩
  | 123 => ⟨S16384x2816, .f32⟩
  | 124 => ⟨S16384x2816, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1, .f32⟩
  | 2 => ⟨S1x1024x2816, .f32⟩
  | 3 => ⟨S1024x2816, .f32⟩
  | 4 => ⟨S1x1024x2816, .f32⟩
  | 5 => ⟨S1024x2816, .f32⟩
  | 6 => ⟨S1x2816x1024, .f32⟩
  | 7 => ⟨S2816x1024, .f32⟩
  | 8 => ⟨S16384x2816, .f32⟩
  | 9 => ⟨S16384x2816, .f32⟩
  | 10 => ⟨S16384x2816, .f32⟩
  | 11 => ⟨S_, .f32⟩
  | 12 => ⟨S16384x2816, .f32⟩
  | 13 => ⟨S16384x2816, .f32⟩
  | 14 => ⟨S_, .f32⟩
  | 15 => ⟨S16384x2816, .f32⟩
  | 16 => ⟨S16384x2816, .f32⟩
  | 17 => ⟨S16384x2816, .f32⟩
  | 18 => ⟨S16384x2816, .f32⟩
  | 19 => ⟨S16384x2816, .f32⟩
  | 20 => ⟨S16384x1024, .f32⟩
  | 21 => ⟨S16384x1024, .f32⟩
  | 22 => ⟨S16384x1024, .f32⟩
  | 23 => ⟨S16384x1024, .f32⟩
  | 24 => ⟨S16384x1, .f32⟩
  | 25 => ⟨S1x1024x2816, .f32⟩
  | 26 => ⟨S1024x2816, .f32⟩
  | 27 => ⟨S1x1024x2816, .f32⟩
  | 28 => ⟨S1024x2816, .f32⟩
  | 29 => ⟨S1x2816x1024, .f32⟩
  | 30 => ⟨S2816x1024, .f32⟩
  | 31 => ⟨S16384x2816, .f32⟩
  | 32 => ⟨S16384x2816, .f32⟩
  | 33 => ⟨S16384x2816, .f32⟩
  | 34 => ⟨S_, .f32⟩
  | 35 => ⟨S16384x2816, .f32⟩
  | 36 => ⟨S16384x2816, .f32⟩
  | 37 => ⟨S_, .f32⟩
  | 38 => ⟨S16384x2816, .f32⟩
  | 39 => ⟨S16384x2816, .f32⟩
  | 40 => ⟨S16384x2816, .f32⟩
  | 41 => ⟨S16384x2816, .f32⟩
  | 42 => ⟨S16384x2816, .f32⟩
  | 43 => ⟨S16384x1024, .f32⟩
  | 44 => ⟨S16384x1024, .f32⟩
  | 45 => ⟨S16384x1024, .f32⟩
  | 46 => ⟨S16384x1024, .f32⟩
  | 47 => ⟨S16384x1, .f32⟩
  | 48 => ⟨S1x1024x2816, .f32⟩
  | 49 => ⟨S1024x2816, .f32⟩
  | 50 => ⟨S1x1024x2816, .f32⟩
  | 51 => ⟨S1024x2816, .f32⟩
  | 52 => ⟨S1x2816x1024, .f32⟩
  | 53 => ⟨S2816x1024, .f32⟩
  | 54 => ⟨S16384x2816, .f32⟩
  | 55 => ⟨S16384x2816, .f32⟩
  | 56 => ⟨S16384x2816, .f32⟩
  | 57 => ⟨S_, .f32⟩
  | 58 => ⟨S16384x2816, .f32⟩
  | 59 => ⟨S16384x2816, .f32⟩
  | 60 => ⟨S_, .f32⟩
  | 61 => ⟨S16384x2816, .f32⟩
  | 62 => ⟨S16384x2816, .f32⟩
  | 63 => ⟨S16384x2816, .f32⟩
  | 64 => ⟨S16384x2816, .f32⟩
  | 65 => ⟨S16384x2816, .f32⟩
  | 66 => ⟨S16384x1024, .f32⟩
  | 67 => ⟨S16384x1024, .f32⟩
  | 68 => ⟨S16384x1024, .f32⟩
  | 69 => ⟨S16384x1024, .f32⟩
  | 70 => ⟨S16384x1, .f32⟩
  | 71 => ⟨S1x1024x2816, .f32⟩
  | 72 => ⟨S1024x2816, .f32⟩
  | 73 => ⟨S1x1024x2816, .f32⟩
  | 74 => ⟨S1024x2816, .f32⟩
  | 75 => ⟨S1x2816x1024, .f32⟩
  | 76 => ⟨S2816x1024, .f32⟩
  | 77 => ⟨S16384x2816, .f32⟩
  | 78 => ⟨S16384x2816, .f32⟩
  | 79 => ⟨S16384x2816, .f32⟩
  | 80 => ⟨S_, .f32⟩
  | 81 => ⟨S16384x2816, .f32⟩
  | 82 => ⟨S16384x2816, .f32⟩
  | 83 => ⟨S_, .f32⟩
  | 84 => ⟨S16384x2816, .f32⟩
  | 85 => ⟨S16384x2816, .f32⟩
  | 86 => ⟨S16384x2816, .f32⟩
  | 87 => ⟨S16384x2816, .f32⟩
  | 88 => ⟨S16384x2816, .f32⟩
  | 89 => ⟨S16384x1024, .f32⟩
  | 90 => ⟨S16384x1024, .f32⟩
  | 91 => ⟨S16384x1024, .f32⟩
  | 92 => ⟨S16384x1024, .f32⟩
  | 93 => ⟨S_, .f32⟩
  | 94 => ⟨S16384x1024, .f32⟩
  | 95 => ⟨S16384x1024, .f32⟩
  | 96 => ⟨S16384x1024, .f32⟩
  | 97 => ⟨S_, .f32⟩
  | 98 => ⟨S16384, .f32⟩
  | 99 => ⟨S16384x1, .f32⟩
  | 100 => ⟨S_, .f32⟩
  | 101 => ⟨S16384x1, .f32⟩
  | 102 => ⟨S16384x1, .f32⟩
  | 103 => ⟨S16384x1024, .f32⟩
  | 104 => ⟨S16384x1024, .f32⟩
  | 105 => ⟨S16384x1024, .f32⟩
  | 106 => ⟨S_, .f32⟩
  | 107 => ⟨S16384, .f32⟩
  | 108 => ⟨S16384x1, .f32⟩
  | 109 => ⟨S_, .f32⟩
  | 110 => ⟨S16384x1, .f32⟩
  | 111 => ⟨S16384x1, .f32⟩
  | 112 => ⟨S_, .f32⟩
  | 113 => ⟨S16384x1, .f32⟩
  | 114 => ⟨S16384x1, .f32⟩
  | 115 => ⟨S16384x1, .f32⟩
  | 116 => ⟨S16384x1024, .f32⟩
  | 117 => ⟨S16384x1024, .f32⟩
  | 118 => ⟨S1x1024, .f32⟩
  | 119 => ⟨S16384x1024, .f32⟩
  | 120 => ⟨S16384x1024, .f32⟩
  | 121 => ⟨S1x1024, .f32⟩
  | 122 => ⟨S16384x1024, .f32⟩
  | 123 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_call5_v0 : Ref sig .tc := ⟨.hbm, 137, rfl⟩
abbrev main_call5_v1 : Ref sig .tc := ⟨.hbm, 138, rfl⟩
abbrev main_call5_cst : Ref sig .tc := ⟨.hbm, 139, rfl⟩
abbrev main_call5_v2 : Ref sig .tc := ⟨.hbm, 140, rfl⟩
abbrev main_call5_v3 : Ref sig .tc := ⟨.hbm, 141, rfl⟩
abbrev main_call5_cst_0 : Ref sig .tc := ⟨.hbm, 142, rfl⟩
abbrev main_call5_v4 : Ref sig .tc := ⟨.hbm, 143, rfl⟩
abbrev main_call5_v5 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_call6_v0 : Ref sig .tc := ⟨.hbm, 160, rfl⟩
abbrev main_call6_v1 : Ref sig .tc := ⟨.hbm, 161, rfl⟩
abbrev main_call6_cst : Ref sig .tc := ⟨.hbm, 162, rfl⟩
abbrev main_call6_v2 : Ref sig .tc := ⟨.hbm, 163, rfl⟩
abbrev main_call6_v3 : Ref sig .tc := ⟨.hbm, 164, rfl⟩
abbrev main_call6_cst_0 : Ref sig .tc := ⟨.hbm, 165, rfl⟩
abbrev main_call6_v4 : Ref sig .tc := ⟨.hbm, 166, rfl⟩
abbrev main_call6_v5 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_call7_v0 : Ref sig .tc := ⟨.hbm, 183, rfl⟩
abbrev main_call7_v1 : Ref sig .tc := ⟨.hbm, 184, rfl⟩
abbrev main_call7_cst : Ref sig .tc := ⟨.hbm, 185, rfl⟩
abbrev main_call7_v2 : Ref sig .tc := ⟨.hbm, 186, rfl⟩
abbrev main_call7_v3 : Ref sig .tc := ⟨.hbm, 187, rfl⟩
abbrev main_call7_cst_0 : Ref sig .tc := ⟨.hbm, 188, rfl⟩
abbrev main_call7_v4 : Ref sig .tc := ⟨.hbm, 189, rfl⟩
abbrev main_call7_v5 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_call8_v0 : Ref sig .tc := ⟨.hbm, 206, rfl⟩
abbrev main_call8_v1 : Ref sig .tc := ⟨.hbm, 207, rfl⟩
abbrev main_call8_cst : Ref sig .tc := ⟨.hbm, 208, rfl⟩
abbrev main_call8_v2 : Ref sig .tc := ⟨.hbm, 209, rfl⟩
abbrev main_call8_v3 : Ref sig .tc := ⟨.hbm, 210, rfl⟩
abbrev main_call8_cst_0 : Ref sig .tc := ⟨.hbm, 211, rfl⟩
abbrev main_call8_v4 : Ref sig .tc := ⟨.hbm, 212, rfl⟩
abbrev main_call8_v5 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_cst_4 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_cst_5 : Ref sig .tc := ⟨.hbm, 225, rfl⟩
abbrev main_v141 : Ref sig .tc := ⟨.hbm, 226, rfl⟩
abbrev main_v142 : Ref sig .tc := ⟨.hbm, 227, rfl⟩
abbrev main_cst_6 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_cst_7 : Ref sig .tc := ⟨.hbm, 234, rfl⟩
abbrev main_v148 : Ref sig .tc := ⟨.hbm, 235, rfl⟩
abbrev main_v149 : Ref sig .tc := ⟨.hbm, 236, rfl⟩
abbrev main_cst_8 : Ref sig .tc := ⟨.hbm, 237, rfl⟩
abbrev main_v150 : Ref sig .tc := ⟨.hbm, 238, rfl⟩
abbrev main_v151 : Ref sig .tc := ⟨.hbm, 239, rfl⟩
abbrev main_cst_9 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩

abbrev nD : Nat := 1
abbrev τ : Topo := Topo.v7x

variable {F : FTy → Type} [FloatOps F]
-- ==== Dense.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S_ : Shape := ⟨0, ![]⟩
abbrev S1024x128 : Shape := ⟨2, ![1024, 128]⟩
abbrev S1x1024x2816 : Shape := ⟨3, ![1, 1024, 2816]⟩
abbrev S1x2816x1024 : Shape := ⟨3, ![1, 2816, 1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x128 : Shape := ⟨2, ![512, 128]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1024x128, .f32⟩
  | .hbm, ⟨10, _⟩ => ⟨S1x1024x2816, .f32⟩
  | .hbm, ⟨11, _⟩ => ⟨S1x1024x2816, .bf16⟩
  | .hbm, ⟨12, _⟩ => ⟨S1x1024x2816, .f32⟩
  | .hbm, ⟨13, _⟩ => ⟨S1x1024x2816, .bf16⟩
  | .hbm, ⟨14, _⟩ => ⟨S1x2816x1024, .f32⟩
  | .hbm, ⟨15, _⟩ => ⟨S1x2816x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![32, 1, 2], ![false, false, false]⟩

def k0_cond2 (i : grid0.Coords) : BitVec 1 :=
  let arg1 : BitVec 32 := BitVec.ofNat 32 (i 1).val
  let c0_i32_18 : BitVec 32 := 0#32
  let v24 : BitVec 1 := Scalar.cmpi .eq arg1 c0_i32_18
  let arg2 : BitVec 32 := BitVec.ofNat 32 (i 2).val
  let c1_i32 : BitVec 32 := 1#32
  let v25 : BitVec 1 := Scalar.cmpi .eq arg2 c1_i32
  let v26 : BitVec 1 := Scalar.andi v24 v25
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== DenseReferenceIdeal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Even.lean ====
abbrev S16384x1024 : Shape := ⟨2, ![16384, 1024]⟩
abbrev S1024x4624 : Shape := ⟨2, ![1024, 4624]⟩
abbrev S1024x16 : Shape := ⟨2, ![1024, 16]⟩
abbrev S_ : Shape := ⟨0, ![]⟩
abbrev S1024x128 : Shape := ⟨2, ![1024, 128]⟩
abbrev S1024x2560 : Shape := ⟨2, ![1024, 2560]⟩
abbrev S1024x2048 : Shape := ⟨2, ![1024, 2048]⟩
abbrev S1024x4736 : Shape := ⟨2, ![1024, 4736]⟩
abbrev S16384x2560 : Shape := ⟨2, ![16384, 2560]⟩
abbrev S16384x128 : Shape := ⟨2, ![16384, 128]⟩
abbrev S256x1024 : Shape := ⟨2, ![256, 1024]⟩
abbrev S256x2560 : Shape := ⟨2, ![256, 2560]⟩
abbrev S256x128 : Shape := ⟨2, ![256, 128]⟩
abbrev S1024x1024 : Shape := ⟨2, ![1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x4624, .f32⟩
  | .hbm, ⟨2, _⟩ => ⟨S1024x16, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x2560, .f32⟩
  | .hbm, ⟨7, _⟩ => ⟨S1024x2048, .f32⟩
  | .hbm, ⟨8, _⟩ => ⟨S1024x4736, .f32⟩
  | .hbm, ⟨9, _⟩ => ⟨S1024x4736, .bf16⟩
  | .hbm, ⟨10, _⟩ => ⟨S16384x2560, .f32⟩
  | .hbm, ⟨11, _⟩ => ⟨S16384x1024, .f32⟩
  | .hbm, ⟨12, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1024x4736, .bf16⟩
  | .local _ .vmem, ⟨3, _⟩ => ⟨S256x2560, .f32⟩
  | .local _ .vmem, ⟨4, _⟩ => ⟨S256x2560, .f32⟩
  | .local _ .vmem, ⟨5, _⟩ => ⟨S256x1024, .f32⟩
  | .local _ .vmem, ⟨6, _⟩ => ⟨S256x1024, .f32⟩
  | .local _ .vmem, ⟨7, _⟩ => ⟨S256x128, .f32⟩
  | .local _ .vmem, ⟨8, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4736 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EvenReferenceIdeal.lean ====
abbrev S16384x1024 : Shape := ⟨2, ![16384, 1024]⟩
abbrev S1024x4624 : Shape := ⟨2, ![1024, 4624]⟩
abbrev S16384x4624 : Shape := ⟨2, ![16384, 4624]⟩
abbrev S16384x1536 : Shape := ⟨2, ![16384, 1536]⟩
abbrev S16384x16 : Shape := ⟨2, ![16384, 16]⟩
abbrev S_ : Shape := ⟨0, ![]⟩
abbrev S16384x2560 : Shape := ⟨2, ![16384, 2560]⟩
abbrev S16384x128 : Shape := ⟨2, ![16384, 128]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4624, .f32⟩
  | .hbm, ⟨2, _⟩ => ⟨S16384x4624, .f32⟩
  | .hbm, ⟨3, _⟩ => ⟨S16384x1024, .f32⟩
  | .hbm, ⟨4, _⟩ => ⟨S16384x1536, .f32⟩
  | .hbm, ⟨5, _⟩ => ⟨S16384x16, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x2560, .f32⟩
  | .hbm, ⟨18, _⟩ => ⟨S_, .i32⟩
  | .hbm, ⟨19, _⟩ => ⟨S_, .f32⟩
  | .hbm, ⟨20, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Qkv.lean ====
abbrev S16384x1024 : Shape := ⟨2, ![16384, 1024]⟩
abbrev S1024x3072 : Shape := ⟨2, ![1024, 3072]⟩
abbrev S32x2x1024 : Shape := ⟨3, ![32, 2, 1024]⟩
abbrev S512x1024 : Shape := ⟨2, ![512, 1024]⟩
abbrev S1x2x1024 : Shape := ⟨3, ![1, 2, 1024]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x3072, .bf16⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | .hbm, ⟨7, _⟩ => ⟨S16384x1024, .bf16⟩
  | .hbm, ⟨8, _⟩ => ⟨S32x2x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x2x1024, .f32⟩
  | .local _ .vmem, ⟨14, _⟩ => ⟨S1x2x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvReferenceIdeal.lean ====
abbrev S16384x1024 : Shape := ⟨2, ![16384, 1024]⟩
abbrev S1024x3072 : Shape := ⟨2, ![1024, 3072]⟩
abbrev S16384x3072 : Shape := ⟨2, ![16384, 3072]⟩
abbrev S64x256x1024 : Shape := ⟨3, ![64, 256, 1024]⟩
abbrev S_ : Shape := ⟨0, ![]⟩
abbrev S64x1024 : Shape := ⟨2, ![64, 1024]⟩
abbrev S32x2x1024 : Shape := ⟨3, ![32, 2, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S64x256x1024, .f32⟩
  | .hbm, ⟨7, _⟩ => ⟨S_, .f32⟩
  | .hbm, ⟨8, _⟩ => ⟨S64x1024, .f32⟩
  | .hbm, ⟨9, _⟩ => ⟨S_, .f32⟩
  | .hbm, ⟨10, _⟩ => ⟨S64x1024, .f32⟩
  | .hbm, ⟨11, _⟩ => ⟨S64x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .bf16⟩
  | .hbm, ⟨16, _⟩ => ⟨S16384x1024, .bf16⟩
  | .hbm, ⟨17, _⟩ => ⟨S32x2x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Out.lean ====
abbrev S16384x1024 : Shape := ⟨2, ![16384, 1024]⟩
abbrev S2048x1024 : Shape := ⟨2, ![2048, 1024]⟩
abbrev S1024 : Shape := ⟨1, ![1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S16384x1024 : Shape := ⟨2, ![16384, 1024]⟩
abbrev S2048x1024 : Shape := ⟨2, ![2048, 1024]⟩
abbrev S1024 : Shape := ⟨1, ![1024]⟩
abbrev S_ : Shape := ⟨0, ![]⟩
abbrev S16384x2048 : Shape := ⟨2, ![16384, 2048]⟩
abbrev S16384 : Shape := ⟨1, ![16384]⟩
abbrev S16384x1 : Shape := ⟨2, ![16384, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Wo.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WoReferenceIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Ple.lean ====
abbrev S16384x1024 : Shape := ⟨2, ![16384, 1024]⟩
abbrev S16384x256 : Shape := ⟨2, ![16384, 256]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S256x1024, .f32⟩
  | .hbm, ⟨3, _⟩ => ⟨S1024x1024, .f32⟩
  | .hbm, ⟨4, _⟩ => ⟨S1024x1024, .bf16⟩
  | .hbm, ⟨5, _⟩ => ⟨S256x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleReferenceIdeal.lean ====
abbrev S16384x1024 : Shape := ⟨2, ![16384, 1024]⟩
abbrev S16384x256 : Shape := ⟨2, ![16384, 256]⟩
abbrev S256x1024 : Shape := ⟨2, ![256, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S256x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Conf.lean ====
abbrev S2x8192x1024 : Shape := ⟨3, ![2, 8192, 1024]⟩
abbrev S2x30x1024 : Shape := ⟨3, ![2, 30, 1024]⟩
abbrev S31x1024 : Shape := ⟨2, ![31, 1024]⟩
abbrev S1024 : Shape := ⟨1, ![1024]⟩
abbrev S1x1024 : Shape := ⟨2, ![1, 1024]⟩
abbrev S1x128x1024 : Shape := ⟨3, ![1, 128, 1024]⟩
abbrev S1x30x1024 : Shape := ⟨3, ![1, 30, 1024]⟩
abbrev S160x1024 : Shape := ⟨2, ![160, 1024]⟩
abbrev S128x1024 : Shape := ⟨2, ![128, 1024]⟩
abbrev S32x1024 : Shape := ⟨2, ![32, 1024]⟩
abbrev S30x1024 : Shape := ⟨2, ![30, 1024]⟩
abbrev S1x128 : Shape := ⟨2, ![1, 128]⟩
abbrev S32x128 : Shape := ⟨2, ![32, 128]⟩
abbrev S128 : Shape := ⟨1, ![128]⟩
abbrev S128x1 : Shape := ⟨2, ![128, 1]⟩

abbrev nBuf : Space → Nat
  | .hbm => 11
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2x8192x1024, .f32⟩
  | .hbm, ⟨10, _⟩ => ⟨S2x30x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x30x1024, .f32⟩
  | .local _ .vmem, ⟨3, _⟩ => ⟨S1x30x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x30x1024, .f32⟩
  | .local _ .vmem, ⟨11, _⟩ => ⟨S1x30x1024, .f32⟩
  | .local _ .vmem, ⟨12, _⟩ => ⟨S160x1024, .f32⟩
  | .local _ .vmem, ⟨13, _⟩ => ⟨S128x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_4 : BitVec 32 := 0#32
  let c8_i32 : BitVec 32 := 8#32
  let v8 : BitVec 32 := Scalar.addi c0_i32_4 c8_i32
  let c1_i32 : BitVec 32 := 1#32
  ⟨c0_i32_4, v8, c1_i32⟩
def k0_mult1 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  v46
def k0_off1 (k0_t1 : Fin k0_t1_loop.trips) : Fin 2 → Nat :=
  let c0_23 : Index := 0#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v48 : Index := Scalar.indexCast v47
  ![0, v48.toNat]
def k0_off2 (k0_t1 : Fin k0_t1_loop.trips) : Fin 2 → Nat :=
  let c2 : Index := 2#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v53 : Index := Scalar.indexCast v47
  ![2, v53.toNat]
def k0_off3 (k0_t1 : Fin k0_t1_loop.trips) : Fin 2 → Nat :=
  let c0_24 : Index := 0#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v55 : Index := Scalar.indexCast v47
  ![0, v55.toNat]
def k0_off4 (k0_t1 : Fin k0_t1_loop.trips) : Fin 2 → Nat :=
  let c3 : Index := 3#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v60 : Index := Scalar.indexCast v47
  ![3, v60.toNat]
def k0_off5 (k0_t1 : Fin k0_t1_loop.trips) : Fin 2 → Nat :=
  let c1 : Index := 1#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v62 : Index := Scalar.indexCast v47
  ![1, v62.toNat]
def k0_off6 (k0_t1 : Fin k0_t1_loop.trips) : Fin 2 → Nat :=
  let c4 : Index := 4#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v67 : Index := Scalar.indexCast v47
  ![4, v67.toNat]
def k0_off7 (k0_t1 : Fin k0_t1_loop.trips) : Fin 2 → Nat :=
  let c2_25 : Index := 2#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v69 : Index := Scalar.indexCast v47
  ![2, v69.toNat]
def k0_off8 (k0_t1 : Fin k0_t1_loop.trips) : Fin 2 → Nat :=
  let c5 : Index := 5#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v74 : Index := Scalar.indexCast v47
  ![5, v74.toNat]
def k0_off9 (k0_t1 : Fin k0_t1_loop.trips) : Fin 2 → Nat :=
  let c3_26 : Index := 3#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v76 : Index := Scalar.indexCast v47
  ![3, v76.toNat]
def k0_off10 (k0_t1 : Fin k0_t1_loop.trips) : Fin 2 → Nat :=
  let c6 : Index := 6#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v81 : Index := Scalar.indexCast v47
  ![6, v81.toNat]
def k0_off11 (k0_t1 : Fin k0_t1_loop.trips) : Fin 2 → Nat :=
  let c4_27 : Index := 4#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v83 : Index := Scalar.indexCast v47
  ![4, v83.toNat]
def k0_off12 (k0_t1 : Fin k0_t1_loop.trips) : Fin 2 → Nat :=
  let c7 : Index := 7#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v88 : Index := Scalar.indexCast v47
  ![7, v88.toNat]
def k0_off13 (k0_t1 : Fin k0_t1_loop.trips) : Fin 2 → Nat :=
  let c5_28 : Index := 5#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v90 : Index := Scalar.indexCast v47
  ![5, v90.toNat]
def k0_off14 (k0_t1 : Fin k0_t1_loop.trips) : Fin 2 → Nat :=
  let c8 : Index := 8#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v95 : Index := Scalar.indexCast v47
  ![8, v95.toNat]
def k0_off15 (k0_t1 : Fin k0_t1_loop.trips) : Fin 2 → Nat :=
  let c6_29 : Index := 6#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v97 : Index := Scalar.indexCast v47
  ![6, v97.toNat]
def k0_off16 (k0_t1 : Fin k0_t1_loop.trips) : Fin 2 → Nat :=
  let c9 : Index := 9#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v102 : Index := Scalar.indexCast v47
  ![9, v102.toNat]
def k0_off17 (k0_t1 : Fin k0_t1_loop.trips) : Fin 2 → Nat :=
  let c7_30 : Index := 7#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v104 : Index := Scalar.indexCast v47
  ![7, v104.toNat]
def k0_off18 (k0_t1 : Fin k0_t1_loop.trips) : Fin 2 → Nat :=
  let c10 : Index := 10#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v109 : Index := Scalar.indexCast v47
  ![10, v109.toNat]
def k0_off19 (k0_t1 : Fin k0_t1_loop.trips) : Fin 2 → Nat :=
  let c8_31 : Index := 8#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v111 : Index := Scalar.indexCast v47
  ![8, v111.toNat]
def k0_off20 (k0_t1 : Fin k0_t1_loop.trips) : Fin 2 → Nat :=
  let c11 : Index := 11#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v116 : Index := Scalar.indexCast v47
  ![11, v116.toNat]
def k0_off21 (k0_t1 : Fin k0_t1_loop.trips) : Fin 2 → Nat :=
  let c9_32 : Index := 9#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v118 : Index := Scalar.indexCast v47
  ![9, v118.toNat]
def k0_off22 (k0_t1 : Fin k0_t1_loop.trips) : Fin 2 → Nat :=
  let c12 : Index := 12#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v123 : Index := Scalar.indexCast v47
  ![12, v123.toNat]
def k0_off23 (k0_t1 : Fin k0_t1_loop.trips) : Fin 2 → Nat :=
  let c10_33 : Index := 10#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v125 : Index := Scalar.indexCast v47
  ![10, v125.toNat]
def k0_off24 (k0_t1 : Fin k0_t1_loop.trips) : Fin 2 → Nat :=
  let c13 : Index := 13#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v130 : Index := Scalar.indexCast v47
  ![13, v130.toNat]
def k0_off25 (k0_t1 : Fin k0_t1_loop.trips) : Fin 2 → Nat :=
  let c11_34 : Index := 11#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v132 : Index := Scalar.indexCast v47
  ![11, v132.toNat]
def k0_off26 (k0_t1 : Fin k0_t1_loop.trips) : Fin 2 → Nat :=
  let c14 : Index := 14#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v137 : Index := Scalar.indexCast v47
  ![14, v137.toNat]
def k0_off27 (k0_t1 : Fin k0_t1_loop.trips) : Fin 2 → Nat :=
  let c12_35 : Index := 12#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v139 : Index := Scalar.indexCast v47
  ![12, v139.toNat]
def k0_off28 (k0_t1 : Fin k0_t1_loop.trips) : Fin 2 → Nat :=
  let c15 : Index := 15#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v144 : Index := Scalar.indexCast v47
  ![15, v144.toNat]
def k0_off29 (k0_t1 : Fin k0_t1_loop.trips) : Fin 2 → Nat :=
  let c13_36 : Index := 13#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v146 : Index := Scalar.indexCast v47
  ![13, v146.toNat]
def k0_off30 (k0_t1 : Fin k0_t1_loop.trips) : Fin 2 → Nat :=
  let c16 : Index := 16#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v151 : Index := Scalar.indexCast v47
  ![16, v151.toNat]
def k0_off31 (k0_t1 : Fin k0_t1_loop.trips) : Fin 2 → Nat :=
  let c14_37 : Index := 14#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v153 : Index := Scalar.indexCast v47
  ![14, v153.toNat]
def k0_off32 (k0_t1 : Fin k0_t1_loop.trips) : Fin 2 → Nat :=
  let c17 : Index := 17#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v158 : Index := Scalar.indexCast v47
  ![17, v158.toNat]
def k0_off33 (k0_t1 : Fin k0_t1_loop.trips) : Fin 2 → Nat :=
  let c15_38 : Index := 15#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v160 : Index := Scalar.indexCast v47
  ![15, v160.toNat]
def k0_off34 (k0_t1 : Fin k0_t1_loop.trips) : Fin 2 → Nat :=
  let c18 : Index := 18#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v165 : Index := Scalar.indexCast v47
  ![18, v165.toNat]
def k0_off35 (k0_t1 : Fin k0_t1_loop.trips) : Fin 2 → Nat :=
  let c16_39 : Index := 16#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v167 : Index := Scalar.indexCast v47
  ![16, v167.toNat]
def k0_off36 (k0_t1 : Fin k0_t1_loop.trips) : Fin 2 → Nat :=
  let c19 : Index := 19#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v172 : Index := Scalar.indexCast v47
  ![19, v172.toNat]
def k0_off37 (k0_t1 : Fin k0_t1_loop.trips) : Fin 2 → Nat :=
  let c17_40 : Index := 17#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v174 : Index := Scalar.indexCast v47
  ![17, v174.toNat]
def k0_off38 (k0_t1 : Fin k0_t1_loop.trips) : Fin 2 → Nat :=
  let c20 : Index := 20#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v179 : Index := Scalar.indexCast v47
  ![20, v179.toNat]
def k0_off39 (k0_t1 : Fin k0_t1_loop.trips) : Fin 2 → Nat :=
  let c18_41 : Index := 18#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v181 : Index := Scalar.indexCast v47
  ![18, v181.toNat]
def k0_off40 (k0_t1 : Fin k0_t1_loop.trips) : Fin 2 → Nat :=
  let c21 : Index := 21#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v186 : Index := Scalar.indexCast v47
  ![21, v186.toNat]
def k0_off41 (k0_t1 : Fin k0_t1_loop.trips) : Fin 2 → Nat :=
  let c19_42 : Index := 19#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v188 : Index := Scalar.indexCast v47
  ![19, v188.toNat]
def k0_off42 (k0_t1 : Fin k0_t1_loop.trips) : Fin 2 → Nat :=
  let c22 : Index := 22#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v193 : Index := Scalar.indexCast v47
  ![22, v193.toNat]
def k0_off43 (k0_t1 : Fin k0_t1_loop.trips) : Fin 2 → Nat :=
  let c20_43 : Index := 20#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v195 : Index := Scalar.indexCast v47
  ![20, v195.toNat]
def k0_off44 (k0_t1 : Fin k0_t1_loop.trips) : Fin 2 → Nat :=
  let c23 : Index := 23#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v200 : Index := Scalar.indexCast v47
  ![23, v200.toNat]
def k0_off45 (k0_t1 : Fin k0_t1_loop.trips) : Fin 2 → Nat :=
  let c21_44 : Index := 21#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v202 : Index := Scalar.indexCast v47
  ![21, v202.toNat]
def k0_off46 (k0_t1 : Fin k0_t1_loop.trips) : Fin 2 → Nat :=
  let c24 : Index := 24#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v207 : Index := Scalar.indexCast v47
  ![24, v207.toNat]
def k0_off47 (k0_t1 : Fin k0_t1_loop.trips) : Fin 2 → Nat :=
  let c22_45 : Index := 22#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v209 : Index := Scalar.indexCast v47
  ![22, v209.toNat]
def k0_off48 (k0_t1 : Fin k0_t1_loop.trips) : Fin 2 → Nat :=
  let c25 : Index := 25#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v214 : Index := Scalar.indexCast v47
  ![25, v214.toNat]
def k0_off49 (k0_t1 : Fin k0_t1_loop.trips) : Fin 2 → Nat :=
  let c23_46 : Index := 23#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v216 : Index := Scalar.indexCast v47
  ![23, v216.toNat]
def k0_off50 (k0_t1 : Fin k0_t1_loop.trips) : Fin 2 → Nat :=
  let c26 : Index := 26#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v221 : Index := Scalar.indexCast v47
  ![26, v221.toNat]
def k0_off51 (k0_t1 : Fin k0_t1_loop.trips) : Fin 2 → Nat :=
  let c24_47 : Index := 24#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v223 : Index := Scalar.indexCast v47
  ![24, v223.toNat]
def k0_off52 (k0_t1 : Fin k0_t1_loop.trips) : Fin 2 → Nat :=
  let c27 : Index := 27#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v228 : Index := Scalar.indexCast v47
  ![27, v228.toNat]
def k0_off53 (k0_t1 : Fin k0_t1_loop.trips) : Fin 2 → Nat :=
  let c25_48 : Index := 25#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v230 : Index := Scalar.indexCast v47
  ![25, v230.toNat]
def k0_off54 (k0_t1 : Fin k0_t1_loop.trips) : Fin 2 → Nat :=
  let c28 : Index := 28#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v235 : Index := Scalar.indexCast v47
  ![28, v235.toNat]
def k0_off55 (k0_t1 : Fin k0_t1_loop.trips) : Fin 2 → Nat :=
  let c26_49 : Index := 26#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v237 : Index := Scalar.indexCast v47
  ![26, v237.toNat]
def k0_off56 (k0_t1 : Fin k0_t1_loop.trips) : Fin 2 → Nat :=
  let c29 : Index := 29#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v242 : Index := Scalar.indexCast v47
  ![29, v242.toNat]
def k0_off57 (k0_t1 : Fin k0_t1_loop.trips) : Fin 2 → Nat :=
  let c27_50 : Index := 27#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v244 : Index := Scalar.indexCast v47
  ![27, v244.toNat]
def k0_off58 (k0_t1 : Fin k0_t1_loop.trips) : Fin 2 → Nat :=
  let c30 : Index := 30#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v249 : Index := Scalar.indexCast v47
  ![30, v249.toNat]
def k0_off59 (k0_t1 : Fin k0_t1_loop.trips) : Fin 2 → Nat :=
  let c28_51 : Index := 28#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v251 : Index := Scalar.indexCast v47
  ![28, v251.toNat]
def k0_off60 (k0_t1 : Fin k0_t1_loop.trips) : Fin 2 → Nat :=
  let c31 : Index := 31#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v256 : Index := Scalar.indexCast v47
  ![31, v256.toNat]
def k0_off61 (k0_t1 : Fin k0_t1_loop.trips) : Fin 2 → Nat :=
  let c29_52 : Index := 29#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v258 : Index := Scalar.indexCast v47
  ![29, v258.toNat]
def k0_off62 (k0_t1 : Fin k0_t1_loop.trips) : Fin 2 → Nat :=
  let c32_53 : Index := 32#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v263 : Index := Scalar.indexCast v47
  ![32, v263.toNat]
def k0_off63 (k0_t1 : Fin k0_t1_loop.trips) : Fin 2 → Nat :=
  let c30_54 : Index := 30#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v265 : Index := Scalar.indexCast v47
  ![30, v265.toNat]
def k0_off64 (k0_t1 : Fin k0_t1_loop.trips) : Fin 2 → Nat :=
  let c0_55 : Index := 0#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v270 : Index := Scalar.indexCast v47
  ![0, v270.toNat]
def k0_off65 (k0_t1 : Fin k0_t1_loop.trips) : Fin 2 → Nat :=
  let c34 : Index := 34#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v279 : Index := Scalar.indexCast v47
  ![34, v279.toNat]
def k0_off66 (k0_t1 : Fin k0_t1_loop.trips) : Fin 2 → Nat :=
  let c35 : Index := 35#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v286 : Index := Scalar.indexCast v47
  ![35, v286.toNat]
def k0_off67 (k0_t1 : Fin k0_t1_loop.trips) : Fin 2 → Nat :=
  let c36 : Index := 36#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v293 : Index := Scalar.indexCast v47
  ![36, v293.toNat]
def k0_off68 (k0_t1 : Fin k0_t1_loop.trips) : Fin 2 → Nat :=
  let c37 : Index := 37#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v300 : Index := Scalar.indexCast v47
  ![37, v300.toNat]
def k0_off69 (k0_t1 : Fin k0_t1_loop.trips) : Fin 2 → Nat :=
  let c38 : Index := 38#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v307 : Index := Scalar.indexCast v47
  ![38, v307.toNat]
def k0_off70 (k0_t1 : Fin k0_t1_loop.trips) : Fin 2 → Nat :=
  let c39 : Index := 39#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v314 : Index := Scalar.indexCast v47
  ![39, v314.toNat]
def k0_off71 (k0_t1 : Fin k0_t1_loop.trips) : Fin 2 → Nat :=
  let c40 : Index := 40#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v321 : Index := Scalar.indexCast v47
  ![40, v321.toNat]
def k0_off72 (k0_t1 : Fin k0_t1_loop.trips) : Fin 2 → Nat :=
  let c41 : Index := 41#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v328 : Index := Scalar.indexCast v47
  ![41, v328.toNat]
def k0_off73 (k0_t1 : Fin k0_t1_loop.trips) : Fin 2 → Nat :=
  let c42 : Index := 42#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v335 : Index := Scalar.indexCast v47
  ![42, v335.toNat]
def k0_off74 (k0_t1 : Fin k0_t1_loop.trips) : Fin 2 → Nat :=
  let c43 : Index := 43#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v342 : Index := Scalar.indexCast v47
  ![43, v342.toNat]
def k0_off75 (k0_t1 : Fin k0_t1_loop.trips) : Fin 2 → Nat :=
  let c44 : Index := 44#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v349 : Index := Scalar.indexCast v47
  ![44, v349.toNat]
def k0_off76 (k0_t1 : Fin k0_t1_loop.trips) : Fin 2 → Nat :=
  let c45 : Index := 45#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v356 : Index := Scalar.indexCast v47
  ![45, v356.toNat]
def k0_off77 (k0_t1 : Fin k0_t1_loop.trips) : Fin 2 → Nat :=
  let c46 : Index := 46#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v363 : Index := Scalar.indexCast v47
  ![46, v363.toNat]
def k0_off78 (k0_t1 : Fin k0_t1_loop.trips) : Fin 2 → Nat :=
  let c47 : Index := 47#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v370 : Index := Scalar.indexCast v47
  ![47, v370.toNat]
def k0_off79 (k0_t1 : Fin k0_t1_loop.trips) : Fin 2 → Nat :=
  let c48 : Index := 48#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v377 : Index := Scalar.indexCast v47
  ![48, v377.toNat]
def k0_off80 (k0_t1 : Fin k0_t1_loop.trips) : Fin 2 → Nat :=
  let c49 : Index := 49#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v384 : Index := Scalar.indexCast v47
  ![49, v384.toNat]
def k0_off81 (k0_t1 : Fin k0_t1_loop.trips) : Fin 2 → Nat :=
  let c50 : Index := 50#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v391 : Index := Scalar.indexCast v47
  ![50, v391.toNat]
def k0_off82 (k0_t1 : Fin k0_t1_loop.trips) : Fin 2 → Nat :=
  let c51 : Index := 51#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v398 : Index := Scalar.indexCast v47
  ![51, v398.toNat]
def k0_off83 (k0_t1 : Fin k0_t1_loop.trips) : Fin 2 → Nat :=
  let c52 : Index := 52#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v405 : Index := Scalar.indexCast v47
  ![52, v405.toNat]
def k0_off84 (k0_t1 : Fin k0_t1_loop.trips) : Fin 2 → Nat :=
  let c53 : Index := 53#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v412 : Index := Scalar.indexCast v47
  ![53, v412.toNat]
def k0_off85 (k0_t1 : Fin k0_t1_loop.trips) : Fin 2 → Nat :=
  let c54 : Index := 54#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v419 : Index := Scalar.indexCast v47
  ![54, v419.toNat]
def k0_off86 (k0_t1 : Fin k0_t1_loop.trips) : Fin 2 → Nat :=
  let c55 : Index := 55#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v426 : Index := Scalar.indexCast v47
  ![55, v426.toNat]
def k0_off87 (k0_t1 : Fin k0_t1_loop.trips) : Fin 2 → Nat :=
  let c56 : Index := 56#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v433 : Index := Scalar.indexCast v47
  ![56, v433.toNat]
def k0_off88 (k0_t1 : Fin k0_t1_loop.trips) : Fin 2 → Nat :=
  let c57 : Index := 57#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v440 : Index := Scalar.indexCast v47
  ![57, v440.toNat]
def k0_off89 (k0_t1 : Fin k0_t1_loop.trips) : Fin 2 → Nat :=
  let c58 : Index := 58#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v447 : Index := Scalar.indexCast v47
  ![58, v447.toNat]
def k0_off90 (k0_t1 : Fin k0_t1_loop.trips) : Fin 2 → Nat :=
  let c59 : Index := 59#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v454 : Index := Scalar.indexCast v47
  ![59, v454.toNat]
def k0_off91 (k0_t1 : Fin k0_t1_loop.trips) : Fin 2 → Nat :=
  let c60 : Index := 60#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v461 : Index := Scalar.indexCast v47
  ![60, v461.toNat]
def k0_off92 (k0_t1 : Fin k0_t1_loop.trips) : Fin 2 → Nat :=
  let c61 : Index := 61#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v468 : Index := Scalar.indexCast v47
  ![61, v468.toNat]
def k0_off93 (k0_t1 : Fin k0_t1_loop.trips) : Fin 2 → Nat :=
  let c62 : Index := 62#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v475 : Index := Scalar.indexCast v47
  ![62, v475.toNat]
def k0_off94 (k0_t1 : Fin k0_t1_loop.trips) : Fin 2 → Nat :=
  let c63 : Index := 63#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v482 : Index := Scalar.indexCast v47
  ![63, v482.toNat]
def k0_off95 (k0_t1 : Fin k0_t1_loop.trips) : Fin 2 → Nat :=
  let c64 : Index := 64#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v489 : Index := Scalar.indexCast v47
  ![64, v489.toNat]
def k0_off96 (k0_t1 : Fin k0_t1_loop.trips) : Fin 2 → Nat :=
  let c32_88 : Index := 32#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v496 : Index := Scalar.indexCast v47
  ![32, v496.toNat]
def k0_off97 (k0_t1 : Fin k0_t1_loop.trips) : Fin 2 → Nat :=
  let c66 : Index := 66#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v505 : Index := Scalar.indexCast v47
  ![66, v505.toNat]
def k0_off98 (k0_t1 : Fin k0_t1_loop.trips) : Fin 2 → Nat :=
  let c67 : Index := 67#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v512 : Index := Scalar.indexCast v47
  ![67, v512.toNat]
def k0_off99 (k0_t1 : Fin k0_t1_loop.trips) : Fin 2 → Nat :=
  let c68 : Index := 68#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v519 : Index := Scalar.indexCast v47
  ![68, v519.toNat]
def k0_off100 (k0_t1 : Fin k0_t1_loop.trips) : Fin 2 → Nat :=
  let c69 : Index := 69#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v526 : Index := Scalar.indexCast v47
  ![69, v526.toNat]
def k0_off101 (k0_t1 : Fin k0_t1_loop.trips) : Fin 2 → Nat :=
  let c70 : Index := 70#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v533 : Index := Scalar.indexCast v47
  ![70, v533.toNat]
def k0_off102 (k0_t1 : Fin k0_t1_loop.trips) : Fin 2 → Nat :=
  let c71 : Index := 71#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v540 : Index := Scalar.indexCast v47
  ![71, v540.toNat]
def k0_off103 (k0_t1 : Fin k0_t1_loop.trips) : Fin 2 → Nat :=
  let c72 : Index := 72#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v547 : Index := Scalar.indexCast v47
  ![72, v547.toNat]
def k0_off104 (k0_t1 : Fin k0_t1_loop.trips) : Fin 2 → Nat :=
  let c73 : Index := 73#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v554 : Index := Scalar.indexCast v47
  ![73, v554.toNat]
def k0_off105 (k0_t1 : Fin k0_t1_loop.trips) : Fin 2 → Nat :=
  let c74 : Index := 74#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v561 : Index := Scalar.indexCast v47
  ![74, v561.toNat]
def k0_off106 (k0_t1 : Fin k0_t1_loop.trips) : Fin 2 → Nat :=
  let c75 : Index := 75#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v568 : Index := Scalar.indexCast v47
  ![75, v568.toNat]
def k0_off107 (k0_t1 : Fin k0_t1_loop.trips) : Fin 2 → Nat :=
  let c76 : Index := 76#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v575 : Index := Scalar.indexCast v47
  ![76, v575.toNat]
def k0_off108 (k0_t1 : Fin k0_t1_loop.trips) : Fin 2 → Nat :=
  let c77 : Index := 77#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v582 : Index := Scalar.indexCast v47
  ![77, v582.toNat]
def k0_off109 (k0_t1 : Fin k0_t1_loop.trips) : Fin 2 → Nat :=
  let c78 : Index := 78#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v589 : Index := Scalar.indexCast v47
  ![78, v589.toNat]
def k0_off110 (k0_t1 : Fin k0_t1_loop.trips) : Fin 2 → Nat :=
  let c79 : Index := 79#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v596 : Index := Scalar.indexCast v47
  ![79, v596.toNat]
def k0_off111 (k0_t1 : Fin k0_t1_loop.trips) : Fin 2 → Nat :=
  let c80 : Index := 80#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v603 : Index := Scalar.indexCast v47
  ![80, v603.toNat]
def k0_off112 (k0_t1 : Fin k0_t1_loop.trips) : Fin 2 → Nat :=
  let c81 : Index := 81#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v610 : Index := Scalar.indexCast v47
  ![81, v610.toNat]
def k0_off113 (k0_t1 : Fin k0_t1_loop.trips) : Fin 2 → Nat :=
  let c82 : Index := 82#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v617 : Index := Scalar.indexCast v47
  ![82, v617.toNat]
def k0_off114 (k0_t1 : Fin k0_t1_loop.trips) : Fin 2 → Nat :=
  let c83 : Index := 83#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v624 : Index := Scalar.indexCast v47
  ![83, v624.toNat]
def k0_off115 (k0_t1 : Fin k0_t1_loop.trips) : Fin 2 → Nat :=
  let c84 : Index := 84#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v631 : Index := Scalar.indexCast v47
  ![84, v631.toNat]
def k0_off116 (k0_t1 : Fin k0_t1_loop.trips) : Fin 2 → Nat :=
  let c85 : Index := 85#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v638 : Index := Scalar.indexCast v47
  ![85, v638.toNat]
def k0_off117 (k0_t1 : Fin k0_t1_loop.trips) : Fin 2 → Nat :=
  let c86 : Index := 86#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v645 : Index := Scalar.indexCast v47
  ![86, v645.toNat]
def k0_off118 (k0_t1 : Fin k0_t1_loop.trips) : Fin 2 → Nat :=
  let c87 : Index := 87#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v652 : Index := Scalar.indexCast v47
  ![87, v652.toNat]
def k0_off119 (k0_t1 : Fin k0_t1_loop.trips) : Fin 2 → Nat :=
  let c88 : Index := 88#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v659 : Index := Scalar.indexCast v47
  ![88, v659.toNat]
def k0_off120 (k0_t1 : Fin k0_t1_loop.trips) : Fin 2 → Nat :=
  let c89 : Index := 89#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v666 : Index := Scalar.indexCast v47
  ![89, v666.toNat]
def k0_off121 (k0_t1 : Fin k0_t1_loop.trips) : Fin 2 → Nat :=
  let c90 : Index := 90#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v673 : Index := Scalar.indexCast v47
  ![90, v673.toNat]
def k0_off122 (k0_t1 : Fin k0_t1_loop.trips) : Fin 2 → Nat :=
  let c91 : Index := 91#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v680 : Index := Scalar.indexCast v47
  ![91, v680.toNat]
def k0_off123 (k0_t1 : Fin k0_t1_loop.trips) : Fin 2 → Nat :=
  let c92 : Index := 92#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v687 : Index := Scalar.indexCast v47
  ![92, v687.toNat]
def k0_off124 (k0_t1 : Fin k0_t1_loop.trips) : Fin 2 → Nat :=
  let c93 : Index := 93#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v694 : Index := Scalar.indexCast v47
  ![93, v694.toNat]
def k0_off125 (k0_t1 : Fin k0_t1_loop.trips) : Fin 2 → Nat :=
  let c94 : Index := 94#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v701 : Index := Scalar.indexCast v47
  ![94, v701.toNat]
def k0_off126 (k0_t1 : Fin k0_t1_loop.trips) : Fin 2 → Nat :=
  let c95 : Index := 95#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v708 : Index := Scalar.indexCast v47
  ![95, v708.toNat]
def k0_off127 (k0_t1 : Fin k0_t1_loop.trips) : Fin 2 → Nat :=
  let c96 : Index := 96#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v715 : Index := Scalar.indexCast v47
  ![96, v715.toNat]
def k0_off128 (k0_t1 : Fin k0_t1_loop.trips) : Fin 2 → Nat :=
  let c64_121 : Index := 64#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v722 : Index := Scalar.indexCast v47
  ![64, v722.toNat]
def k0_off129 (k0_t1 : Fin k0_t1_loop.trips) : Fin 2 → Nat :=
  let c98 : Index := 98#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v731 : Index := Scalar.indexCast v47
  ![98, v731.toNat]
def k0_off130 (k0_t1 : Fin k0_t1_loop.trips) : Fin 2 → Nat :=
  let c99 : Index := 99#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v738 : Index := Scalar.indexCast v47
  ![99, v738.toNat]
def k0_off131 (k0_t1 : Fin k0_t1_loop.trips) : Fin 2 → Nat :=
  let c100 : Index := 100#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v745 : Index := Scalar.indexCast v47
  ![100, v745.toNat]
def k0_off132 (k0_t1 : Fin k0_t1_loop.trips) : Fin 2 → Nat :=
  let c101 : Index := 101#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v752 : Index := Scalar.indexCast v47
  ![101, v752.toNat]
def k0_off133 (k0_t1 : Fin k0_t1_loop.trips) : Fin 2 → Nat :=
  let c102 : Index := 102#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v759 : Index := Scalar.indexCast v47
  ![102, v759.toNat]
def k0_off134 (k0_t1 : Fin k0_t1_loop.trips) : Fin 2 → Nat :=
  let c103 : Index := 103#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v766 : Index := Scalar.indexCast v47
  ![103, v766.toNat]
def k0_off135 (k0_t1 : Fin k0_t1_loop.trips) : Fin 2 → Nat :=
  let c104 : Index := 104#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v773 : Index := Scalar.indexCast v47
  ![104, v773.toNat]
def k0_off136 (k0_t1 : Fin k0_t1_loop.trips) : Fin 2 → Nat :=
  let c105 : Index := 105#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v780 : Index := Scalar.indexCast v47
  ![105, v780.toNat]
def k0_off137 (k0_t1 : Fin k0_t1_loop.trips) : Fin 2 → Nat :=
  let c106 : Index := 106#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v787 : Index := Scalar.indexCast v47
  ![106, v787.toNat]
def k0_off138 (k0_t1 : Fin k0_t1_loop.trips) : Fin 2 → Nat :=
  let c107 : Index := 107#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v794 : Index := Scalar.indexCast v47
  ![107, v794.toNat]
def k0_off139 (k0_t1 : Fin k0_t1_loop.trips) : Fin 2 → Nat :=
  let c108 : Index := 108#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v801 : Index := Scalar.indexCast v47
  ![108, v801.toNat]
def k0_off140 (k0_t1 : Fin k0_t1_loop.trips) : Fin 2 → Nat :=
  let c109 : Index := 109#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v808 : Index := Scalar.indexCast v47
  ![109, v808.toNat]
def k0_off141 (k0_t1 : Fin k0_t1_loop.trips) : Fin 2 → Nat :=
  let c110 : Index := 110#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v815 : Index := Scalar.indexCast v47
  ![110, v815.toNat]
def k0_off142 (k0_t1 : Fin k0_t1_loop.trips) : Fin 2 → Nat :=
  let c111 : Index := 111#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v822 : Index := Scalar.indexCast v47
  ![111, v822.toNat]
def k0_off143 (k0_t1 : Fin k0_t1_loop.trips) : Fin 2 → Nat :=
  let c112 : Index := 112#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v829 : Index := Scalar.indexCast v47
  ![112, v829.toNat]
def k0_off144 (k0_t1 : Fin k0_t1_loop.trips) : Fin 2 → Nat :=
  let c113 : Index := 113#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v836 : Index := Scalar.indexCast v47
  ![113, v836.toNat]
def k0_off145 (k0_t1 : Fin k0_t1_loop.trips) : Fin 2 → Nat :=
  let c114 : Index := 114#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v843 : Index := Scalar.indexCast v47
  ![114, v843.toNat]
def k0_off146 (k0_t1 : Fin k0_t1_loop.trips) : Fin 2 → Nat :=
  let c115 : Index := 115#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v850 : Index := Scalar.indexCast v47
  ![115, v850.toNat]
def k0_off147 (k0_t1 : Fin k0_t1_loop.trips) : Fin 2 → Nat :=
  let c116 : Index := 116#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v857 : Index := Scalar.indexCast v47
  ![116, v857.toNat]
def k0_off148 (k0_t1 : Fin k0_t1_loop.trips) : Fin 2 → Nat :=
  let c117 : Index := 117#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v864 : Index := Scalar.indexCast v47
  ![117, v864.toNat]
def k0_off149 (k0_t1 : Fin k0_t1_loop.trips) : Fin 2 → Nat :=
  let c118 : Index := 118#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v871 : Index := Scalar.indexCast v47
  ![118, v871.toNat]
def k0_off150 (k0_t1 : Fin k0_t1_loop.trips) : Fin 2 → Nat :=
  let c119 : Index := 119#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v878 : Index := Scalar.indexCast v47
  ![119, v878.toNat]
def k0_off151 (k0_t1 : Fin k0_t1_loop.trips) : Fin 2 → Nat :=
  let c120 : Index := 120#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v885 : Index := Scalar.indexCast v47
  ![120, v885.toNat]
def k0_off152 (k0_t1 : Fin k0_t1_loop.trips) : Fin 2 → Nat :=
  let c121 : Index := 121#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v892 : Index := Scalar.indexCast v47
  ![121, v892.toNat]
def k0_off153 (k0_t1 : Fin k0_t1_loop.trips) : Fin 2 → Nat :=
  let c122 : Index := 122#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v899 : Index := Scalar.indexCast v47
  ![122, v899.toNat]
def k0_off154 (k0_t1 : Fin k0_t1_loop.trips) : Fin 2 → Nat :=
  let c123 : Index := 123#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v906 : Index := Scalar.indexCast v47
  ![123, v906.toNat]
def k0_off155 (k0_t1 : Fin k0_t1_loop.trips) : Fin 2 → Nat :=
  let c124 : Index := 124#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v913 : Index := Scalar.indexCast v47
  ![124, v913.toNat]
def k0_off156 (k0_t1 : Fin k0_t1_loop.trips) : Fin 2 → Nat :=
  let c125 : Index := 125#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v920 : Index := Scalar.indexCast v47
  ![125, v920.toNat]
def k0_off157 (k0_t1 : Fin k0_t1_loop.trips) : Fin 2 → Nat :=
  let c126 : Index := 126#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v927 : Index := Scalar.indexCast v47
  ![126, v927.toNat]
def k0_off158 (k0_t1 : Fin k0_t1_loop.trips) : Fin 2 → Nat :=
  let c127 : Index := 127#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v934 : Index := Scalar.indexCast v47
  ![127, v934.toNat]
def k0_off159 (k0_t1 : Fin k0_t1_loop.trips) : Fin 2 → Nat :=
  let c128_153 : Index := 128#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v941 : Index := Scalar.indexCast v47
  ![128, v941.toNat]
def k0_off160 (k0_t1 : Fin k0_t1_loop.trips) : Fin 2 → Nat :=
  let c96_155 : Index := 96#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v948 : Index := Scalar.indexCast v47
  ![96, v948.toNat]
def k0_cond2 (i : grid0.Coords) : BitVec 1 :=
  let arg1 : BitVec 32 := BitVec.ofNat 32 (i 1).val
  let c63_i32 : BitVec 32 := 63#32
  let v39 : BitVec 1 := Scalar.cmpi .eq arg1 c63_i32
  let v40 : BitVec 32 := Scalar.extui v39
  let c0_i32_19 : BitVec 32 := 0#32
  let v41 : BitVec 1 := Scalar.cmpi .ne v40 c0_i32_19
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x30x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConfIdeal.lean ====
abbrev S2x8192x1024 : Shape := ⟨3, ![2, 8192, 1024]⟩
abbrev S2x30x1024 : Shape := ⟨3, ![2, 30, 1024]⟩
abbrev S31x1024 : Shape := ⟨2, ![31, 1024]⟩
abbrev S1024 : Shape := ⟨1, ![1024]⟩
abbrev S1x1024 : Shape := ⟨2, ![1, 1024]⟩
abbrev S1x128x1024 : Shape := ⟨3, ![1, 128, 1024]⟩
abbrev S1x30x1024 : Shape := ⟨3, ![1, 30, 1024]⟩
abbrev S160x1024 : Shape := ⟨2, ![160, 1024]⟩
abbrev S128x1024 : Shape := ⟨2, ![128, 1024]⟩
abbrev S32x1024 : Shape := ⟨2, ![32, 1024]⟩
abbrev S30x1024 : Shape := ⟨2, ![30, 1024]⟩
abbrev S1x128 : Shape := ⟨2, ![1, 128]⟩
abbrev S32x128 : Shape := ⟨2, ![32, 128]⟩
abbrev S128 : Shape := ⟨1, ![128]⟩
abbrev S128x1 : Shape := ⟨2, ![128, 1]⟩

abbrev nBuf : Space → Nat
  | .hbm => 11
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2x8192x1024, .f32⟩
  | .hbm, ⟨10, _⟩ => ⟨S2x30x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x30x1024, .f32⟩
  | .local _ .vmem, ⟨3, _⟩ => ⟨S1x30x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x30x1024, .f32⟩
  | .local _ .vmem, ⟨11, _⟩ => ⟨S1x30x1024, .f32⟩
  | .local _ .vmem, ⟨12, _⟩ => ⟨S160x1024, .f32⟩
  | .local _ .vmem, ⟨13, _⟩ => ⟨S128x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_4 : BitVec 32 := 0#32
  let c8_i32 : BitVec 32 := 8#32
  let v8 : BitVec 32 := Scalar.addi c0_i32_4 c8_i32
  let c1_i32 : BitVec 32 := 1#32
  ⟨c0_i32_4, v8, c1_i32⟩
def k0_mult1 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  v46
def k0_off1 (k0_t1 : Fin k0_t1_loop.trips) : Fin 2 → Nat :=
  let c0_23 : Index := 0#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v48 : Index := Scalar.indexCast v47
  ![0, v48.toNat]
def k0_off2 (k0_t1 : Fin k0_t1_loop.trips) : Fin 2 → Nat :=
  let c2 : Index := 2#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v53 : Index := Scalar.indexCast v47
  ![2, v53.toNat]
def k0_off3 (k0_t1 : Fin k0_t1_loop.trips) : Fin 2 → Nat :=
  let c0_24 : Index := 0#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v55 : Index := Scalar.indexCast v47
  ![0, v55.toNat]
def k0_off4 (k0_t1 : Fin k0_t1_loop.trips) : Fin 2 → Nat :=
  let c3 : Index := 3#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v60 : Index := Scalar.indexCast v47
  ![3, v60.toNat]
def k0_off5 (k0_t1 : Fin k0_t1_loop.trips) : Fin 2 → Nat :=
  let c1 : Index := 1#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v62 : Index := Scalar.indexCast v47
  ![1, v62.toNat]
def k0_off6 (k0_t1 : Fin k0_t1_loop.trips) : Fin 2 → Nat :=
  let c4 : Index := 4#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v67 : Index := Scalar.indexCast v47
  ![4, v67.toNat]
def k0_off7 (k0_t1 : Fin k0_t1_loop.trips) : Fin 2 → Nat :=
  let c2_25 : Index := 2#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v69 : Index := Scalar.indexCast v47
  ![2, v69.toNat]
def k0_off8 (k0_t1 : Fin k0_t1_loop.trips) : Fin 2 → Nat :=
  let c5 : Index := 5#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v74 : Index := Scalar.indexCast v47
  ![5, v74.toNat]
def k0_off9 (k0_t1 : Fin k0_t1_loop.trips) : Fin 2 → Nat :=
  let c3_26 : Index := 3#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v76 : Index := Scalar.indexCast v47
  ![3, v76.toNat]
def k0_off10 (k0_t1 : Fin k0_t1_loop.trips) : Fin 2 → Nat :=
  let c6 : Index := 6#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v81 : Index := Scalar.indexCast v47
  ![6, v81.toNat]
def k0_off11 (k0_t1 : Fin k0_t1_loop.trips) : Fin 2 → Nat :=
  let c4_27 : Index := 4#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v83 : Index := Scalar.indexCast v47
  ![4, v83.toNat]
def k0_off12 (k0_t1 : Fin k0_t1_loop.trips) : Fin 2 → Nat :=
  let c7 : Index := 7#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v88 : Index := Scalar.indexCast v47
  ![7, v88.toNat]
def k0_off13 (k0_t1 : Fin k0_t1_loop.trips) : Fin 2 → Nat :=
  let c5_28 : Index := 5#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v90 : Index := Scalar.indexCast v47
  ![5, v90.toNat]
def k0_off14 (k0_t1 : Fin k0_t1_loop.trips) : Fin 2 → Nat :=
  let c8 : Index := 8#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v95 : Index := Scalar.indexCast v47
  ![8, v95.toNat]
def k0_off15 (k0_t1 : Fin k0_t1_loop.trips) : Fin 2 → Nat :=
  let c6_29 : Index := 6#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v97 : Index := Scalar.indexCast v47
  ![6, v97.toNat]
def k0_off16 (k0_t1 : Fin k0_t1_loop.trips) : Fin 2 → Nat :=
  let c9 : Index := 9#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v102 : Index := Scalar.indexCast v47
  ![9, v102.toNat]
def k0_off17 (k0_t1 : Fin k0_t1_loop.trips) : Fin 2 → Nat :=
  let c7_30 : Index := 7#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v104 : Index := Scalar.indexCast v47
  ![7, v104.toNat]
def k0_off18 (k0_t1 : Fin k0_t1_loop.trips) : Fin 2 → Nat :=
  let c10 : Index := 10#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v109 : Index := Scalar.indexCast v47
  ![10, v109.toNat]
def k0_off19 (k0_t1 : Fin k0_t1_loop.trips) : Fin 2 → Nat :=
  let c8_31 : Index := 8#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v111 : Index := Scalar.indexCast v47
  ![8, v111.toNat]
def k0_off20 (k0_t1 : Fin k0_t1_loop.trips) : Fin 2 → Nat :=
  let c11 : Index := 11#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v116 : Index := Scalar.indexCast v47
  ![11, v116.toNat]
def k0_off21 (k0_t1 : Fin k0_t1_loop.trips) : Fin 2 → Nat :=
  let c9_32 : Index := 9#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v118 : Index := Scalar.indexCast v47
  ![9, v118.toNat]
def k0_off22 (k0_t1 : Fin k0_t1_loop.trips) : Fin 2 → Nat :=
  let c12 : Index := 12#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v123 : Index := Scalar.indexCast v47
  ![12, v123.toNat]
def k0_off23 (k0_t1 : Fin k0_t1_loop.trips) : Fin 2 → Nat :=
  let c10_33 : Index := 10#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v125 : Index := Scalar.indexCast v47
  ![10, v125.toNat]
def k0_off24 (k0_t1 : Fin k0_t1_loop.trips) : Fin 2 → Nat :=
  let c13 : Index := 13#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v130 : Index := Scalar.indexCast v47
  ![13, v130.toNat]
def k0_off25 (k0_t1 : Fin k0_t1_loop.trips) : Fin 2 → Nat :=
  let c11_34 : Index := 11#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v132 : Index := Scalar.indexCast v47
  ![11, v132.toNat]
def k0_off26 (k0_t1 : Fin k0_t1_loop.trips) : Fin 2 → Nat :=
  let c14 : Index := 14#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v137 : Index := Scalar.indexCast v47
  ![14, v137.toNat]
def k0_off27 (k0_t1 : Fin k0_t1_loop.trips) : Fin 2 → Nat :=
  let c12_35 : Index := 12#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v139 : Index := Scalar.indexCast v47
  ![12, v139.toNat]
def k0_off28 (k0_t1 : Fin k0_t1_loop.trips) : Fin 2 → Nat :=
  let c15 : Index := 15#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v144 : Index := Scalar.indexCast v47
  ![15, v144.toNat]
def k0_off29 (k0_t1 : Fin k0_t1_loop.trips) : Fin 2 → Nat :=
  let c13_36 : Index := 13#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v146 : Index := Scalar.indexCast v47
  ![13, v146.toNat]
def k0_off30 (k0_t1 : Fin k0_t1_loop.trips) : Fin 2 → Nat :=
  let c16 : Index := 16#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v151 : Index := Scalar.indexCast v47
  ![16, v151.toNat]
def k0_off31 (k0_t1 : Fin k0_t1_loop.trips) : Fin 2 → Nat :=
  let c14_37 : Index := 14#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v153 : Index := Scalar.indexCast v47
  ![14, v153.toNat]
def k0_off32 (k0_t1 : Fin k0_t1_loop.trips) : Fin 2 → Nat :=
  let c17 : Index := 17#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v158 : Index := Scalar.indexCast v47
  ![17, v158.toNat]
def k0_off33 (k0_t1 : Fin k0_t1_loop.trips) : Fin 2 → Nat :=
  let c15_38 : Index := 15#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v160 : Index := Scalar.indexCast v47
  ![15, v160.toNat]
def k0_off34 (k0_t1 : Fin k0_t1_loop.trips) : Fin 2 → Nat :=
  let c18 : Index := 18#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v165 : Index := Scalar.indexCast v47
  ![18, v165.toNat]
def k0_off35 (k0_t1 : Fin k0_t1_loop.trips) : Fin 2 → Nat :=
  let c16_39 : Index := 16#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v167 : Index := Scalar.indexCast v47
  ![16, v167.toNat]
def k0_off36 (k0_t1 : Fin k0_t1_loop.trips) : Fin 2 → Nat :=
  let c19 : Index := 19#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v172 : Index := Scalar.indexCast v47
  ![19, v172.toNat]
def k0_off37 (k0_t1 : Fin k0_t1_loop.trips) : Fin 2 → Nat :=
  let c17_40 : Index := 17#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v174 : Index := Scalar.indexCast v47
  ![17, v174.toNat]
def k0_off38 (k0_t1 : Fin k0_t1_loop.trips) : Fin 2 → Nat :=
  let c20 : Index := 20#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v179 : Index := Scalar.indexCast v47
  ![20, v179.toNat]
def k0_off39 (k0_t1 : Fin k0_t1_loop.trips) : Fin 2 → Nat :=
  let c18_41 : Index := 18#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v181 : Index := Scalar.indexCast v47
  ![18, v181.toNat]
def k0_off40 (k0_t1 : Fin k0_t1_loop.trips) : Fin 2 → Nat :=
  let c21 : Index := 21#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v186 : Index := Scalar.indexCast v47
  ![21, v186.toNat]
def k0_off41 (k0_t1 : Fin k0_t1_loop.trips) : Fin 2 → Nat :=
  let c19_42 : Index := 19#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v188 : Index := Scalar.indexCast v47
  ![19, v188.toNat]
def k0_off42 (k0_t1 : Fin k0_t1_loop.trips) : Fin 2 → Nat :=
  let c22 : Index := 22#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v193 : Index := Scalar.indexCast v47
  ![22, v193.toNat]
def k0_off43 (k0_t1 : Fin k0_t1_loop.trips) : Fin 2 → Nat :=
  let c20_43 : Index := 20#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v195 : Index := Scalar.indexCast v47
  ![20, v195.toNat]
def k0_off44 (k0_t1 : Fin k0_t1_loop.trips) : Fin 2 → Nat :=
  let c23 : Index := 23#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v200 : Index := Scalar.indexCast v47
  ![23, v200.toNat]
def k0_off45 (k0_t1 : Fin k0_t1_loop.trips) : Fin 2 → Nat :=
  let c21_44 : Index := 21#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v202 : Index := Scalar.indexCast v47
  ![21, v202.toNat]
def k0_off46 (k0_t1 : Fin k0_t1_loop.trips) : Fin 2 → Nat :=
  let c24 : Index := 24#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v207 : Index := Scalar.indexCast v47
  ![24, v207.toNat]
def k0_off47 (k0_t1 : Fin k0_t1_loop.trips) : Fin 2 → Nat :=
  let c22_45 : Index := 22#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v209 : Index := Scalar.indexCast v47
  ![22, v209.toNat]
def k0_off48 (k0_t1 : Fin k0_t1_loop.trips) : Fin 2 → Nat :=
  let c25 : Index := 25#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v214 : Index := Scalar.indexCast v47
  ![25, v214.toNat]
def k0_off49 (k0_t1 : Fin k0_t1_loop.trips) : Fin 2 → Nat :=
  let c23_46 : Index := 23#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v216 : Index := Scalar.indexCast v47
  ![23, v216.toNat]
def k0_off50 (k0_t1 : Fin k0_t1_loop.trips) : Fin 2 → Nat :=
  let c26 : Index := 26#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v221 : Index := Scalar.indexCast v47
  ![26, v221.toNat]
def k0_off51 (k0_t1 : Fin k0_t1_loop.trips) : Fin 2 → Nat :=
  let c24_47 : Index := 24#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v223 : Index := Scalar.indexCast v47
  ![24, v223.toNat]
def k0_off52 (k0_t1 : Fin k0_t1_loop.trips) : Fin 2 → Nat :=
  let c27 : Index := 27#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v228 : Index := Scalar.indexCast v47
  ![27, v228.toNat]
def k0_off53 (k0_t1 : Fin k0_t1_loop.trips) : Fin 2 → Nat :=
  let c25_48 : Index := 25#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v230 : Index := Scalar.indexCast v47
  ![25, v230.toNat]
def k0_off54 (k0_t1 : Fin k0_t1_loop.trips) : Fin 2 → Nat :=
  let c28 : Index := 28#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v235 : Index := Scalar.indexCast v47
  ![28, v235.toNat]
def k0_off55 (k0_t1 : Fin k0_t1_loop.trips) : Fin 2 → Nat :=
  let c26_49 : Index := 26#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v237 : Index := Scalar.indexCast v47
  ![26, v237.toNat]
def k0_off56 (k0_t1 : Fin k0_t1_loop.trips) : Fin 2 → Nat :=
  let c29 : Index := 29#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v242 : Index := Scalar.indexCast v47
  ![29, v242.toNat]
def k0_off57 (k0_t1 : Fin k0_t1_loop.trips) : Fin 2 → Nat :=
  let c27_50 : Index := 27#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v244 : Index := Scalar.indexCast v47
  ![27, v244.toNat]
def k0_off58 (k0_t1 : Fin k0_t1_loop.trips) : Fin 2 → Nat :=
  let c30 : Index := 30#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v249 : Index := Scalar.indexCast v47
  ![30, v249.toNat]
def k0_off59 (k0_t1 : Fin k0_t1_loop.trips) : Fin 2 → Nat :=
  let c28_51 : Index := 28#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v251 : Index := Scalar.indexCast v47
  ![28, v251.toNat]
def k0_off60 (k0_t1 : Fin k0_t1_loop.trips) : Fin 2 → Nat :=
  let c31 : Index := 31#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v256 : Index := Scalar.indexCast v47
  ![31, v256.toNat]
def k0_off61 (k0_t1 : Fin k0_t1_loop.trips) : Fin 2 → Nat :=
  let c29_52 : Index := 29#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v258 : Index := Scalar.indexCast v47
  ![29, v258.toNat]
def k0_off62 (k0_t1 : Fin k0_t1_loop.trips) : Fin 2 → Nat :=
  let c32_53 : Index := 32#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v263 : Index := Scalar.indexCast v47
  ![32, v263.toNat]
def k0_off63 (k0_t1 : Fin k0_t1_loop.trips) : Fin 2 → Nat :=
  let c30_54 : Index := 30#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v265 : Index := Scalar.indexCast v47
  ![30, v265.toNat]
def k0_off64 (k0_t1 : Fin k0_t1_loop.trips) : Fin 2 → Nat :=
  let c0_55 : Index := 0#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v270 : Index := Scalar.indexCast v47
  ![0, v270.toNat]
def k0_off65 (k0_t1 : Fin k0_t1_loop.trips) : Fin 2 → Nat :=
  let c34 : Index := 34#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v279 : Index := Scalar.indexCast v47
  ![34, v279.toNat]
def k0_off66 (k0_t1 : Fin k0_t1_loop.trips) : Fin 2 → Nat :=
  let c35 : Index := 35#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v286 : Index := Scalar.indexCast v47
  ![35, v286.toNat]
def k0_off67 (k0_t1 : Fin k0_t1_loop.trips) : Fin 2 → Nat :=
  let c36 : Index := 36#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v293 : Index := Scalar.indexCast v47
  ![36, v293.toNat]
def k0_off68 (k0_t1 : Fin k0_t1_loop.trips) : Fin 2 → Nat :=
  let c37 : Index := 37#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v300 : Index := Scalar.indexCast v47
  ![37, v300.toNat]
def k0_off69 (k0_t1 : Fin k0_t1_loop.trips) : Fin 2 → Nat :=
  let c38 : Index := 38#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v307 : Index := Scalar.indexCast v47
  ![38, v307.toNat]
def k0_off70 (k0_t1 : Fin k0_t1_loop.trips) : Fin 2 → Nat :=
  let c39 : Index := 39#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v314 : Index := Scalar.indexCast v47
  ![39, v314.toNat]
def k0_off71 (k0_t1 : Fin k0_t1_loop.trips) : Fin 2 → Nat :=
  let c40 : Index := 40#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v321 : Index := Scalar.indexCast v47
  ![40, v321.toNat]
def k0_off72 (k0_t1 : Fin k0_t1_loop.trips) : Fin 2 → Nat :=
  let c41 : Index := 41#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v328 : Index := Scalar.indexCast v47
  ![41, v328.toNat]
def k0_off73 (k0_t1 : Fin k0_t1_loop.trips) : Fin 2 → Nat :=
  let c42 : Index := 42#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v335 : Index := Scalar.indexCast v47
  ![42, v335.toNat]
def k0_off74 (k0_t1 : Fin k0_t1_loop.trips) : Fin 2 → Nat :=
  let c43 : Index := 43#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v342 : Index := Scalar.indexCast v47
  ![43, v342.toNat]
def k0_off75 (k0_t1 : Fin k0_t1_loop.trips) : Fin 2 → Nat :=
  let c44 : Index := 44#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v349 : Index := Scalar.indexCast v47
  ![44, v349.toNat]
def k0_off76 (k0_t1 : Fin k0_t1_loop.trips) : Fin 2 → Nat :=
  let c45 : Index := 45#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v356 : Index := Scalar.indexCast v47
  ![45, v356.toNat]
def k0_off77 (k0_t1 : Fin k0_t1_loop.trips) : Fin 2 → Nat :=
  let c46 : Index := 46#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v363 : Index := Scalar.indexCast v47
  ![46, v363.toNat]
def k0_off78 (k0_t1 : Fin k0_t1_loop.trips) : Fin 2 → Nat :=
  let c47 : Index := 47#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v370 : Index := Scalar.indexCast v47
  ![47, v370.toNat]
def k0_off79 (k0_t1 : Fin k0_t1_loop.trips) : Fin 2 → Nat :=
  let c48 : Index := 48#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v377 : Index := Scalar.indexCast v47
  ![48, v377.toNat]
def k0_off80 (k0_t1 : Fin k0_t1_loop.trips) : Fin 2 → Nat :=
  let c49 : Index := 49#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v384 : Index := Scalar.indexCast v47
  ![49, v384.toNat]
def k0_off81 (k0_t1 : Fin k0_t1_loop.trips) : Fin 2 → Nat :=
  let c50 : Index := 50#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v391 : Index := Scalar.indexCast v47
  ![50, v391.toNat]
def k0_off82 (k0_t1 : Fin k0_t1_loop.trips) : Fin 2 → Nat :=
  let c51 : Index := 51#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v398 : Index := Scalar.indexCast v47
  ![51, v398.toNat]
def k0_off83 (k0_t1 : Fin k0_t1_loop.trips) : Fin 2 → Nat :=
  let c52 : Index := 52#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v405 : Index := Scalar.indexCast v47
  ![52, v405.toNat]
def k0_off84 (k0_t1 : Fin k0_t1_loop.trips) : Fin 2 → Nat :=
  let c53 : Index := 53#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v412 : Index := Scalar.indexCast v47
  ![53, v412.toNat]
def k0_off85 (k0_t1 : Fin k0_t1_loop.trips) : Fin 2 → Nat :=
  let c54 : Index := 54#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v419 : Index := Scalar.indexCast v47
  ![54, v419.toNat]
def k0_off86 (k0_t1 : Fin k0_t1_loop.trips) : Fin 2 → Nat :=
  let c55 : Index := 55#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v426 : Index := Scalar.indexCast v47
  ![55, v426.toNat]
def k0_off87 (k0_t1 : Fin k0_t1_loop.trips) : Fin 2 → Nat :=
  let c56 : Index := 56#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v433 : Index := Scalar.indexCast v47
  ![56, v433.toNat]
def k0_off88 (k0_t1 : Fin k0_t1_loop.trips) : Fin 2 → Nat :=
  let c57 : Index := 57#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v440 : Index := Scalar.indexCast v47
  ![57, v440.toNat]
def k0_off89 (k0_t1 : Fin k0_t1_loop.trips) : Fin 2 → Nat :=
  let c58 : Index := 58#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v447 : Index := Scalar.indexCast v47
  ![58, v447.toNat]
def k0_off90 (k0_t1 : Fin k0_t1_loop.trips) : Fin 2 → Nat :=
  let c59 : Index := 59#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v454 : Index := Scalar.indexCast v47
  ![59, v454.toNat]
def k0_off91 (k0_t1 : Fin k0_t1_loop.trips) : Fin 2 → Nat :=
  let c60 : Index := 60#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v461 : Index := Scalar.indexCast v47
  ![60, v461.toNat]
def k0_off92 (k0_t1 : Fin k0_t1_loop.trips) : Fin 2 → Nat :=
  let c61 : Index := 61#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v468 : Index := Scalar.indexCast v47
  ![61, v468.toNat]
def k0_off93 (k0_t1 : Fin k0_t1_loop.trips) : Fin 2 → Nat :=
  let c62 : Index := 62#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v475 : Index := Scalar.indexCast v47
  ![62, v475.toNat]
def k0_off94 (k0_t1 : Fin k0_t1_loop.trips) : Fin 2 → Nat :=
  let c63 : Index := 63#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v482 : Index := Scalar.indexCast v47
  ![63, v482.toNat]
def k0_off95 (k0_t1 : Fin k0_t1_loop.trips) : Fin 2 → Nat :=
  let c64 : Index := 64#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v489 : Index := Scalar.indexCast v47
  ![64, v489.toNat]
def k0_off96 (k0_t1 : Fin k0_t1_loop.trips) : Fin 2 → Nat :=
  let c32_88 : Index := 32#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v496 : Index := Scalar.indexCast v47
  ![32, v496.toNat]
def k0_off97 (k0_t1 : Fin k0_t1_loop.trips) : Fin 2 → Nat :=
  let c66 : Index := 66#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v505 : Index := Scalar.indexCast v47
  ![66, v505.toNat]
def k0_off98 (k0_t1 : Fin k0_t1_loop.trips) : Fin 2 → Nat :=
  let c67 : Index := 67#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v512 : Index := Scalar.indexCast v47
  ![67, v512.toNat]
def k0_off99 (k0_t1 : Fin k0_t1_loop.trips) : Fin 2 → Nat :=
  let c68 : Index := 68#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v519 : Index := Scalar.indexCast v47
  ![68, v519.toNat]
def k0_off100 (k0_t1 : Fin k0_t1_loop.trips) : Fin 2 → Nat :=
  let c69 : Index := 69#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v526 : Index := Scalar.indexCast v47
  ![69, v526.toNat]
def k0_off101 (k0_t1 : Fin k0_t1_loop.trips) : Fin 2 → Nat :=
  let c70 : Index := 70#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v533 : Index := Scalar.indexCast v47
  ![70, v533.toNat]
def k0_off102 (k0_t1 : Fin k0_t1_loop.trips) : Fin 2 → Nat :=
  let c71 : Index := 71#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v540 : Index := Scalar.indexCast v47
  ![71, v540.toNat]
def k0_off103 (k0_t1 : Fin k0_t1_loop.trips) : Fin 2 → Nat :=
  let c72 : Index := 72#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v547 : Index := Scalar.indexCast v47
  ![72, v547.toNat]
def k0_off104 (k0_t1 : Fin k0_t1_loop.trips) : Fin 2 → Nat :=
  let c73 : Index := 73#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v554 : Index := Scalar.indexCast v47
  ![73, v554.toNat]
def k0_off105 (k0_t1 : Fin k0_t1_loop.trips) : Fin 2 → Nat :=
  let c74 : Index := 74#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v561 : Index := Scalar.indexCast v47
  ![74, v561.toNat]
def k0_off106 (k0_t1 : Fin k0_t1_loop.trips) : Fin 2 → Nat :=
  let c75 : Index := 75#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v568 : Index := Scalar.indexCast v47
  ![75, v568.toNat]
def k0_off107 (k0_t1 : Fin k0_t1_loop.trips) : Fin 2 → Nat :=
  let c76 : Index := 76#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v575 : Index := Scalar.indexCast v47
  ![76, v575.toNat]
def k0_off108 (k0_t1 : Fin k0_t1_loop.trips) : Fin 2 → Nat :=
  let c77 : Index := 77#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v582 : Index := Scalar.indexCast v47
  ![77, v582.toNat]
def k0_off109 (k0_t1 : Fin k0_t1_loop.trips) : Fin 2 → Nat :=
  let c78 : Index := 78#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v589 : Index := Scalar.indexCast v47
  ![78, v589.toNat]
def k0_off110 (k0_t1 : Fin k0_t1_loop.trips) : Fin 2 → Nat :=
  let c79 : Index := 79#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v596 : Index := Scalar.indexCast v47
  ![79, v596.toNat]
def k0_off111 (k0_t1 : Fin k0_t1_loop.trips) : Fin 2 → Nat :=
  let c80 : Index := 80#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v603 : Index := Scalar.indexCast v47
  ![80, v603.toNat]
def k0_off112 (k0_t1 : Fin k0_t1_loop.trips) : Fin 2 → Nat :=
  let c81 : Index := 81#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v610 : Index := Scalar.indexCast v47
  ![81, v610.toNat]
def k0_off113 (k0_t1 : Fin k0_t1_loop.trips) : Fin 2 → Nat :=
  let c82 : Index := 82#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v617 : Index := Scalar.indexCast v47
  ![82, v617.toNat]
def k0_off114 (k0_t1 : Fin k0_t1_loop.trips) : Fin 2 → Nat :=
  let c83 : Index := 83#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v624 : Index := Scalar.indexCast v47
  ![83, v624.toNat]
def k0_off115 (k0_t1 : Fin k0_t1_loop.trips) : Fin 2 → Nat :=
  let c84 : Index := 84#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v631 : Index := Scalar.indexCast v47
  ![84, v631.toNat]
def k0_off116 (k0_t1 : Fin k0_t1_loop.trips) : Fin 2 → Nat :=
  let c85 : Index := 85#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v638 : Index := Scalar.indexCast v47
  ![85, v638.toNat]
def k0_off117 (k0_t1 : Fin k0_t1_loop.trips) : Fin 2 → Nat :=
  let c86 : Index := 86#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v645 : Index := Scalar.indexCast v47
  ![86, v645.toNat]
def k0_off118 (k0_t1 : Fin k0_t1_loop.trips) : Fin 2 → Nat :=
  let c87 : Index := 87#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v652 : Index := Scalar.indexCast v47
  ![87, v652.toNat]
def k0_off119 (k0_t1 : Fin k0_t1_loop.trips) : Fin 2 → Nat :=
  let c88 : Index := 88#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v659 : Index := Scalar.indexCast v47
  ![88, v659.toNat]
def k0_off120 (k0_t1 : Fin k0_t1_loop.trips) : Fin 2 → Nat :=
  let c89 : Index := 89#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v666 : Index := Scalar.indexCast v47
  ![89, v666.toNat]
def k0_off121 (k0_t1 : Fin k0_t1_loop.trips) : Fin 2 → Nat :=
  let c90 : Index := 90#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v673 : Index := Scalar.indexCast v47
  ![90, v673.toNat]
def k0_off122 (k0_t1 : Fin k0_t1_loop.trips) : Fin 2 → Nat :=
  let c91 : Index := 91#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v680 : Index := Scalar.indexCast v47
  ![91, v680.toNat]
def k0_off123 (k0_t1 : Fin k0_t1_loop.trips) : Fin 2 → Nat :=
  let c92 : Index := 92#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v687 : Index := Scalar.indexCast v47
  ![92, v687.toNat]
def k0_off124 (k0_t1 : Fin k0_t1_loop.trips) : Fin 2 → Nat :=
  let c93 : Index := 93#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v694 : Index := Scalar.indexCast v47
  ![93, v694.toNat]
def k0_off125 (k0_t1 : Fin k0_t1_loop.trips) : Fin 2 → Nat :=
  let c94 : Index := 94#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v701 : Index := Scalar.indexCast v47
  ![94, v701.toNat]
def k0_off126 (k0_t1 : Fin k0_t1_loop.trips) : Fin 2 → Nat :=
  let c95 : Index := 95#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v708 : Index := Scalar.indexCast v47
  ![95, v708.toNat]
def k0_off127 (k0_t1 : Fin k0_t1_loop.trips) : Fin 2 → Nat :=
  let c96 : Index := 96#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v715 : Index := Scalar.indexCast v47
  ![96, v715.toNat]
def k0_off128 (k0_t1 : Fin k0_t1_loop.trips) : Fin 2 → Nat :=
  let c64_121 : Index := 64#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v722 : Index := Scalar.indexCast v47
  ![64, v722.toNat]
def k0_off129 (k0_t1 : Fin k0_t1_loop.trips) : Fin 2 → Nat :=
  let c98 : Index := 98#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v731 : Index := Scalar.indexCast v47
  ![98, v731.toNat]
def k0_off130 (k0_t1 : Fin k0_t1_loop.trips) : Fin 2 → Nat :=
  let c99 : Index := 99#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v738 : Index := Scalar.indexCast v47
  ![99, v738.toNat]
def k0_off131 (k0_t1 : Fin k0_t1_loop.trips) : Fin 2 → Nat :=
  let c100 : Index := 100#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v745 : Index := Scalar.indexCast v47
  ![100, v745.toNat]
def k0_off132 (k0_t1 : Fin k0_t1_loop.trips) : Fin 2 → Nat :=
  let c101 : Index := 101#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v752 : Index := Scalar.indexCast v47
  ![101, v752.toNat]
def k0_off133 (k0_t1 : Fin k0_t1_loop.trips) : Fin 2 → Nat :=
  let c102 : Index := 102#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v759 : Index := Scalar.indexCast v47
  ![102, v759.toNat]
def k0_off134 (k0_t1 : Fin k0_t1_loop.trips) : Fin 2 → Nat :=
  let c103 : Index := 103#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v766 : Index := Scalar.indexCast v47
  ![103, v766.toNat]
def k0_off135 (k0_t1 : Fin k0_t1_loop.trips) : Fin 2 → Nat :=
  let c104 : Index := 104#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v773 : Index := Scalar.indexCast v47
  ![104, v773.toNat]
def k0_off136 (k0_t1 : Fin k0_t1_loop.trips) : Fin 2 → Nat :=
  let c105 : Index := 105#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v780 : Index := Scalar.indexCast v47
  ![105, v780.toNat]
def k0_off137 (k0_t1 : Fin k0_t1_loop.trips) : Fin 2 → Nat :=
  let c106 : Index := 106#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v787 : Index := Scalar.indexCast v47
  ![106, v787.toNat]
def k0_off138 (k0_t1 : Fin k0_t1_loop.trips) : Fin 2 → Nat :=
  let c107 : Index := 107#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v794 : Index := Scalar.indexCast v47
  ![107, v794.toNat]
def k0_off139 (k0_t1 : Fin k0_t1_loop.trips) : Fin 2 → Nat :=
  let c108 : Index := 108#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v801 : Index := Scalar.indexCast v47
  ![108, v801.toNat]
def k0_off140 (k0_t1 : Fin k0_t1_loop.trips) : Fin 2 → Nat :=
  let c109 : Index := 109#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v808 : Index := Scalar.indexCast v47
  ![109, v808.toNat]
def k0_off141 (k0_t1 : Fin k0_t1_loop.trips) : Fin 2 → Nat :=
  let c110 : Index := 110#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v815 : Index := Scalar.indexCast v47
  ![110, v815.toNat]
def k0_off142 (k0_t1 : Fin k0_t1_loop.trips) : Fin 2 → Nat :=
  let c111 : Index := 111#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v822 : Index := Scalar.indexCast v47
  ![111, v822.toNat]
def k0_off143 (k0_t1 : Fin k0_t1_loop.trips) : Fin 2 → Nat :=
  let c112 : Index := 112#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v829 : Index := Scalar.indexCast v47
  ![112, v829.toNat]
def k0_off144 (k0_t1 : Fin k0_t1_loop.trips) : Fin 2 → Nat :=
  let c113 : Index := 113#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v836 : Index := Scalar.indexCast v47
  ![113, v836.toNat]
def k0_off145 (k0_t1 : Fin k0_t1_loop.trips) : Fin 2 → Nat :=
  let c114 : Index := 114#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v843 : Index := Scalar.indexCast v47
  ![114, v843.toNat]
def k0_off146 (k0_t1 : Fin k0_t1_loop.trips) : Fin 2 → Nat :=
  let c115 : Index := 115#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v850 : Index := Scalar.indexCast v47
  ![115, v850.toNat]
def k0_off147 (k0_t1 : Fin k0_t1_loop.trips) : Fin 2 → Nat :=
  let c116 : Index := 116#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v857 : Index := Scalar.indexCast v47
  ![116, v857.toNat]
def k0_off148 (k0_t1 : Fin k0_t1_loop.trips) : Fin 2 → Nat :=
  let c117 : Index := 117#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v864 : Index := Scalar.indexCast v47
  ![117, v864.toNat]
def k0_off149 (k0_t1 : Fin k0_t1_loop.trips) : Fin 2 → Nat :=
  let c118 : Index := 118#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v871 : Index := Scalar.indexCast v47
  ![118, v871.toNat]
def k0_off150 (k0_t1 : Fin k0_t1_loop.trips) : Fin 2 → Nat :=
  let c119 : Index := 119#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v878 : Index := Scalar.indexCast v47
  ![119, v878.toNat]
def k0_off151 (k0_t1 : Fin k0_t1_loop.trips) : Fin 2 → Nat :=
  let c120 : Index := 120#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v885 : Index := Scalar.indexCast v47
  ![120, v885.toNat]
def k0_off152 (k0_t1 : Fin k0_t1_loop.trips) : Fin 2 → Nat :=
  let c121 : Index := 121#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v892 : Index := Scalar.indexCast v47
  ![121, v892.toNat]
def k0_off153 (k0_t1 : Fin k0_t1_loop.trips) : Fin 2 → Nat :=
  let c122 : Index := 122#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v899 : Index := Scalar.indexCast v47
  ![122, v899.toNat]
def k0_off154 (k0_t1 : Fin k0_t1_loop.trips) : Fin 2 → Nat :=
  let c123 : Index := 123#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v906 : Index := Scalar.indexCast v47
  ![123, v906.toNat]
def k0_off155 (k0_t1 : Fin k0_t1_loop.trips) : Fin 2 → Nat :=
  let c124 : Index := 124#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v913 : Index := Scalar.indexCast v47
  ![124, v913.toNat]
def k0_off156 (k0_t1 : Fin k0_t1_loop.trips) : Fin 2 → Nat :=
  let c125 : Index := 125#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v920 : Index := Scalar.indexCast v47
  ![125, v920.toNat]
def k0_off157 (k0_t1 : Fin k0_t1_loop.trips) : Fin 2 → Nat :=
  let c126 : Index := 126#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v927 : Index := Scalar.indexCast v47
  ![126, v927.toNat]
def k0_off158 (k0_t1 : Fin k0_t1_loop.trips) : Fin 2 → Nat :=
  let c127 : Index := 127#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v934 : Index := Scalar.indexCast v47
  ![127, v934.toNat]
def k0_off159 (k0_t1 : Fin k0_t1_loop.trips) : Fin 2 → Nat :=
  let c128_153 : Index := 128#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v941 : Index := Scalar.indexCast v47
  ![128, v941.toNat]
def k0_off160 (k0_t1 : Fin k0_t1_loop.trips) : Fin 2 → Nat :=
  let c96_155 : Index := 96#32
  let c0_i32_4 : BitVec 32 := 0#32
  let c1_i32 : BitVec 32 := 1#32
  let arg12 : BitVec 32 := Scf.iv c0_i32_4 c1_i32 k0_t1
  let c128_i32 : BitVec 32 := 128#32
  let v46 : BitVec 32 := Scalar.muli arg12 c128_i32
  let v47 : BitVec 32 := v46
  let v948 : Index := Scalar.indexCast v47
  ![96, v948.toNat]
def k0_cond2 (i : grid0.Coords) : BitVec 1 :=
  let arg1 : BitVec 32 := BitVec.ofNat 32 (i 1).val
  let c63_i32 : BitVec 32 := 63#32
  let v39 : BitVec 1 := Scalar.cmpi .eq arg1 c63_i32
  let v40 : BitVec 32 := Scalar.extui v39
  let c0_i32_19 : BitVec 32 := 0#32
  let v41 : BitVec 1 := Scalar.cmpi .ne v40 c0_i32_19
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x30x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConfReferenceIdeal.lean ====
abbrev S2x8192x1024 : Shape := ⟨3, ![2, 8192, 1024]⟩
abbrev S2x30x1024 : Shape := ⟨3, ![2, 30, 1024]⟩
abbrev S31x1024 : Shape := ⟨2, ![31, 1024]⟩
abbrev S1024 : Shape := ⟨1, ![1024]⟩
abbrev S2x8222x1024 : Shape := ⟨3, ![2, 8222, 1024]⟩
abbrev S1x1024 : Shape := ⟨2, ![1, 1024]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩

abbrev nBuf : Space → Nat
  | .hbm => 266
  | .vmem => 0
  | .smem => 0
  | _ => 0

abbrev hbmTy0_0 (i : Nat) : BufTy := match i % 128 with
  | 0 => ⟨S2x8192x1024, .f32⟩
  | 1 => ⟨S2x30x1024, .f32⟩
  | 2 => ⟨S31x1024, .f32⟩
  | 3 => ⟨S1024, .f32⟩
  | 4 => ⟨S1024, .f32⟩
  | 5 => ⟨S1024, .f32⟩
  | 6 => ⟨S2x8222x1024, .f32⟩
  | 7 => ⟨S2x8192x1024, .f32⟩
  | 8 => ⟨S1x1024, .f32⟩
  | 9 => ⟨S1024, .f32⟩
  | 10 => ⟨S1x1x1024, .f32⟩
  | 11 => ⟨S2x8192x1024, .f32⟩
  | 12 => ⟨S2x8192x1024, .f32⟩
  | 13 => ⟨S_, .f32⟩
  | 14 => ⟨S2x8192x1024, .f32⟩
  | 15 => ⟨S2x8192x1024, .f32⟩
  | 16 => ⟨S2x8192x1024, .f32⟩
  | 17 => ⟨S1x1024, .f32⟩
  | 18 => ⟨S1024, .f32⟩
  | 19 => ⟨S1x1x1024, .f32⟩
  | 20 => ⟨S2x8192x1024, .f32⟩
  | 21 => ⟨S2x8192x1024, .f32⟩
  | 22 => ⟨S2x8192x1024, .f32⟩
  | 23 => ⟨S2x8192x1024, .f32⟩
  | 24 => ⟨S1x1024, .f32⟩
  | 25 => ⟨S1024, .f32⟩
  | 26 => ⟨S1x1x1024, .f32⟩
  | 27 => ⟨S2x8192x1024, .f32⟩
  | 28 => ⟨S2x8192x1024, .f32⟩
  | 29 => ⟨S2x8192x1024, .f32⟩
  | 30 => ⟨S2x8192x1024, .f32⟩
  | 31 => ⟨S1x1024, .f32⟩
  | 32 => ⟨S1024, .f32⟩
  | 33 => ⟨S1x1x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S1x1024, .f32⟩
  | 39 => ⟨S1024, .f32⟩
  | 40 => ⟨S1x1x1024, .f32⟩
  | 41 => ⟨S2x8192x1024, .f32⟩
  | 42 => ⟨S2x8192x1024, .f32⟩
  | 43 => ⟨S2x8192x1024, .f32⟩
  | 44 => ⟨S2x8192x1024, .f32⟩
  | 45 => ⟨S1x1024, .f32⟩
  | 46 => ⟨S1024, .f32⟩
  | 47 => ⟨S1x1x1024, .f32⟩
  | 48 => ⟨S2x8192x1024, .f32⟩
  | 49 => ⟨S2x8192x1024, .f32⟩
  | 50 => ⟨S2x8192x1024, .f32⟩
  | 51 => ⟨S2x8192x1024, .f32⟩
  | 52 => ⟨S1x1024, .f32⟩
  | 53 => ⟨S1024, .f32⟩
  | 54 => ⟨S1x1x1024, .f32⟩
  | 55 => ⟨S2x8192x1024, .f32⟩
  | 56 => ⟨S2x8192x1024, .f32⟩
  | 57 => ⟨S2x8192x1024, .f32⟩
  | 58 => ⟨S2x8192x1024, .f32⟩
  | 59 => ⟨S1x1024, .f32⟩
  | 60 => ⟨S1024, .f32⟩
  | 61 => ⟨S1x1x1024, .f32⟩
  | 62 => ⟨S2x8192x1024, .f32⟩
  | 63 => ⟨S2x8192x1024, .f32⟩
  | 64 => ⟨S2x8192x1024, .f32⟩
  | 65 => ⟨S2x8192x1024, .f32⟩
  | 66 => ⟨S1x1024, .f32⟩
  | 67 => ⟨S1024, .f32⟩
  | 68 => ⟨S1x1x1024, .f32⟩
  | 69 => ⟨S2x8192x1024, .f32⟩
  | 70 => ⟨S2x8192x1024, .f32⟩
  | 71 => ⟨S2x8192x1024, .f32⟩
  | 72 => ⟨S2x8192x1024, .f32⟩
  | 73 => ⟨S1x1024, .f32⟩
  | 74 => ⟨S1024, .f32⟩
  | 75 => ⟨S1x1x1024, .f32⟩
  | 76 => ⟨S2x8192x1024, .f32⟩
  | 77 => ⟨S2x8192x1024, .f32⟩
  | 78 => ⟨S2x8192x1024, .f32⟩
  | 79 => ⟨S2x8192x1024, .f32⟩
  | 80 => ⟨S1x1024, .f32⟩
  | 81 => ⟨S1024, .f32⟩
  | 82 => ⟨S1x1x1024, .f32⟩
  | 83 => ⟨S2x8192x1024, .f32⟩
  | 84 => ⟨S2x8192x1024, .f32⟩
  | 85 => ⟨S2x8192x1024, .f32⟩
  | 86 => ⟨S2x8192x1024, .f32⟩
  | 87 => ⟨S1x1024, .f32⟩
  | 88 => ⟨S1024, .f32⟩
  | 89 => ⟨S1x1x1024, .f32⟩
  | 90 => ⟨S2x8192x1024, .f32⟩
  | 91 => ⟨S2x8192x1024, .f32⟩
  | 92 => ⟨S2x8192x1024, .f32⟩
  | 93 => ⟨S2x8192x1024, .f32⟩
  | 94 => ⟨S1x1024, .f32⟩
  | 95 => ⟨S1024, .f32⟩
  | 96 => ⟨S1x1x1024, .f32⟩
  | 97 => ⟨S2x8192x1024, .f32⟩
  | 98 => ⟨S2x8192x1024, .f32⟩
  | 99 => ⟨S2x8192x1024, .f32⟩
  | 100 => ⟨S2x8192x1024, .f32⟩
  | 101 => ⟨S1x1024, .f32⟩
  | 102 => ⟨S1024, .f32⟩
  | 103 => ⟨S1x1x1024, .f32⟩
  | 104 => ⟨S2x8192x1024, .f32⟩
  | 105 => ⟨S2x8192x1024, .f32⟩
  | 106 => ⟨S2x8192x1024, .f32⟩
  | 107 => ⟨S2x8192x1024, .f32⟩
  | 108 => ⟨S1x1024, .f32⟩
  | 109 => ⟨S1024, .f32⟩
  | 110 => ⟨S1x1x1024, .f32⟩
  | 111 => ⟨S2x8192x1024, .f32⟩
  | 112 => ⟨S2x8192x1024, .f32⟩
  | 113 => ⟨S2x8192x1024, .f32⟩
  | 114 => ⟨S2x8192x1024, .f32⟩
  | 115 => ⟨S1x1024, .f32⟩
  | 116 => ⟨S1024, .f32⟩
  | 117 => ⟨S1x1x1024, .f32⟩
  | 118 => ⟨S2x8192x1024, .f32⟩
  | 119 => ⟨S2x8192x1024, .f32⟩
  | 120 => ⟨S2x8192x1024, .f32⟩
  | 121 => ⟨S2x8192x1024, .f32⟩
  | 122 => ⟨S1x1024, .f32⟩
  | 123 => ⟨S1024, .f32⟩
  | 124 => ⟨S1x1x1024, .f32⟩
  | 125 => ⟨S2x8192x1024, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S1x1024, .f32⟩
  | 2 => ⟨S1024, .f32⟩
  | 3 => ⟨S1x1x1024, .f32⟩
  | 4 => ⟨S2x8192x1024, .f32⟩
  | 5 => ⟨S2x8192x1024, .f32⟩
  | 6 => ⟨S2x8192x1024, .f32⟩
  | 7 => ⟨S2x8192x1024, .f32⟩
  | 8 => ⟨S1x1024, .f32⟩
  | 9 => ⟨S1024, .f32⟩
  | 10 => ⟨S1x1x1024, .f32⟩
  | 11 => ⟨S2x8192x1024, .f32⟩
  | 12 => ⟨S2x8192x1024, .f32⟩
  | 13 => ⟨S2x8192x1024, .f32⟩
  | 14 => ⟨S2x8192x1024, .f32⟩
  | 15 => ⟨S1x1024, .f32⟩
  | 16 => ⟨S1024, .f32⟩
  | 17 => ⟨S1x1x1024, .f32⟩
  | 18 => ⟨S2x8192x1024, .f32⟩
  | 19 => ⟨S2x8192x1024, .f32⟩
  | 20 => ⟨S2x8192x1024, .f32⟩
  | 21 => ⟨S2x8192x1024, .f32⟩
  | 22 => ⟨S1x1024, .f32⟩
  | 23 => ⟨S1024, .f32⟩
  | 24 => ⟨S1x1x1024, .f32⟩
  | 25 => ⟨S2x8192x1024, .f32⟩
  | 26 => ⟨S2x8192x1024, .f32⟩
  | 27 => ⟨S2x8192x1024, .f32⟩
  | 28 => ⟨S2x8192x1024, .f32⟩
  | 29 => ⟨S1x1024, .f32⟩
  | 30 => ⟨S1024, .f32⟩
  | 31 => ⟨S1x1x1024, .f32⟩
  | 32 => ⟨S2x8192x1024, .f32⟩
  | 33 => ⟨S2x8192x1024, .f32⟩
  | 34 => ⟨S2x8192x1024, .f32⟩
  | 35 => ⟨S2x8192x1024, .f32⟩
  | 36 => ⟨S1x1024, .f32⟩
  | 37 => ⟨S1024, .f32⟩
  | 38 => ⟨S1x1x1024, .f32⟩
  | 39 => ⟨S2x8192x1024, .f32⟩
  | 40 => ⟨S2x8192x1024, .f32⟩
  | 41 => ⟨S2x8192x1024, .f32⟩
  | 42 => ⟨S2x8192x1024, .f32⟩
  | 43 => ⟨S1x1024, .f32⟩
  | 44 => ⟨S1024, .f32⟩
  | 45 => ⟨S1x1x1024, .f32⟩
  | 46 => ⟨S2x8192x1024, .f32⟩
  | 47 => ⟨S2x8192x1024, .f32⟩
  | 48 => ⟨S2x8192x1024, .f32⟩
  | 49 => ⟨S2x8192x1024, .f32⟩
  | 50 => ⟨S1x1024, .f32⟩
  | 51 => ⟨S1024, .f32⟩
  | 52 => ⟨S1x1x1024, .f32⟩
  | 53 => ⟨S2x8192x1024, .f32⟩
  | 54 => ⟨S2x8192x1024, .f32⟩
  | 55 => ⟨S2x8192x1024, .f32⟩
  | 56 => ⟨S2x8192x1024, .f32⟩
  | 57 => ⟨S1x1024, .f32⟩
  | 58 => ⟨S1024, .f32⟩
  | 59 => ⟨S1x1x1024, .f32⟩
  | 60 => ⟨S2x8192x1024, .f32⟩
  | 61 => ⟨S2x8192x1024, .f32⟩
  | 62 => ⟨S2x8192x1024, .f32⟩
  | 63 => ⟨S2x8192x1024, .f32⟩
  | 64 => ⟨S1x1024, .f32⟩
  | 65 => ⟨S1024, .f32⟩
  | 66 => ⟨S1x1x1024, .f32⟩
  | 67 => ⟨S2x8192x1024, .f32⟩
  | 68 => ⟨S2x8192x1024, .f32⟩
  | 69 => ⟨S2x8192x1024, .f32⟩
  | 70 => ⟨S2x8192x1024, .f32⟩
  | 71 => ⟨S1x1024, .f32⟩
  | 72 => ⟨S1024, .f32⟩
  | 73 => ⟨S1x1x1024, .f32⟩
  | 74 => ⟨S2x8192x1024, .f32⟩
  | 75 => ⟨S2x8192x1024, .f32⟩
  | 76 => ⟨S2x8192x1024, .f32⟩
  | 77 => ⟨S2x8192x1024, .f32⟩
  | 78 => ⟨S1x1024, .f32⟩
  | 79 => ⟨S1024, .f32⟩
  | 80 => ⟨S1x1x1024, .f32⟩
  | 81 => ⟨S2x8192x1024, .f32⟩
  | 82 => ⟨S2x8192x1024, .f32⟩
  | 83 => ⟨S2x8192x1024, .f32⟩
  | 84 => ⟨S2x8192x1024, .f32⟩
  | 85 => ⟨S1x1024, .f32⟩
  | 86 => ⟨S1024, .f32⟩
  | 87 => ⟨S1x1x1024, .f32⟩
  | 88 => ⟨S2x8192x1024, .f32⟩
  | 89 => ⟨S2x8192x1024, .f32⟩
  | 90 => ⟨S2x8192x1024, .f32⟩
  | 91 => ⟨S2x8192x1024, .f32⟩
  | 92 => ⟨S1x1024, .f32⟩
  | 93 => ⟨S1024, .f32⟩
  | 94 => ⟨S1x1x1024, .f32⟩
  | 95 => ⟨S2x8192x1024, .f32⟩
  | 96 => ⟨S2x8192x1024, .f32⟩
  | 97 => ⟨S2x8192x1024, .f32⟩
  | 98 => ⟨S1x1x1024, .f32⟩
  | 99 => ⟨S2x8192x1024, .f32⟩
  | 100 => ⟨S2x8192x1024, .f32⟩
  | 101 => ⟨S2x30x1024, .f32⟩
  | 102 => ⟨S_, .f32⟩
  | 103 => ⟨S2x8192, .f32⟩
  | 104 => ⟨S2x8192x1, .f32⟩
  | 105 => ⟨S_, .f32⟩
  | 106 => ⟨S2x8192x1, .f32⟩
  | 107 => ⟨S2x8192x1, .f32⟩
  | 108 => ⟨S2x8192x1024, .f32⟩
  | 109 => ⟨S2x8192x1024, .f32⟩
  | 110 => ⟨S2x8192x1024, .f32⟩
  | 111 => ⟨S_, .f32⟩
  | 112 => ⟨S2x8192, .f32⟩
  | 113 => ⟨S2x8192x1, .f32⟩
  | 114 => ⟨S_, .f32⟩
  | 115 => ⟨S2x8192x1, .f32⟩
  | 116 => ⟨S2x8192x1, .f32⟩
  | 117 => ⟨S_, .f32⟩
  | 118 => ⟨S2x8192x1, .f32⟩
  | 119 => ⟨S2x8192x1, .f32⟩
  | 120 => ⟨S2x8192x1, .f32⟩
  | 121 => ⟨S2x8192x1024, .f32⟩
  | 122 => ⟨S2x8192x1024, .f32⟩
  | 123 => ⟨S1x1x1024, .f32⟩
  | 124 => ⟨S2x8192x1024, .f32⟩
  | 125 => ⟨S2x8192x1024, .f32⟩
  | 126 => ⟨S1x1x1024, .f32⟩
  | 127 => ⟨S2x8192x1024, .f32⟩
  | _ => ⟨S2x8192x1024, .f32⟩

abbrev hbmTy0_2 (i : Nat) : BufTy := match i % 128 with
  | 0 => ⟨S2x8192x1024, .f32⟩
  | 1 => ⟨S2x8192x1024, .f32⟩
  | 2 => ⟨S2x8192x1024, .f32⟩
  | 3 => ⟨S_, .f32⟩
  | 4 => ⟨S2x8192x1024, .f32⟩
  | 5 => ⟨S2x8192x1024, .f32⟩
  | 6 => ⟨S_, .f32⟩
  | 7 => ⟨S2x8192x1024, .f32⟩
  | 8 => ⟨S2x8192x1024, .f32⟩
  | 9 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_cst_0 : Ref sig .tc := ⟨.hbm, 230, rfl⟩
abbrev main_v223 : Ref sig .tc := ⟨.hbm, 231, rfl⟩
abbrev main_v224 : Ref sig .tc := ⟨.hbm, 232, rfl⟩
abbrev main_cst_1 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_2 : Ref sig .tc := ⟨.hbm, 239, rfl⟩
abbrev main_v230 : Ref sig .tc := ⟨.hbm, 240, rfl⟩
abbrev main_v231 : Ref sig .tc := ⟨.hbm, 241, rfl⟩
abbrev main_cst_3 : Ref sig .tc := ⟨.hbm, 242, rfl⟩
abbrev main_v232 : Ref sig .tc := ⟨.hbm, 243, rfl⟩
abbrev main_v233 : Ref sig .tc := ⟨.hbm, 244, rfl⟩
abbrev main_cst_4 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_call0_v0 : Ref sig .tc := ⟨.hbm, 257, rfl⟩
abbrev main_call0_v1 : Ref sig .tc := ⟨.hbm, 258, rfl⟩
abbrev main_call0_cst : Ref sig .tc := ⟨.hbm, 259, rfl⟩
abbrev main_call0_v2 : Ref sig .tc := ⟨.hbm, 260, rfl⟩
abbrev main_call0_v3 : Ref sig .tc := ⟨.hbm, 261, rfl⟩
abbrev main_call0_cst_0 : Ref sig .tc := ⟨.hbm, 262, rfl⟩
abbrev main_call0_v4 : Ref sig .tc := ⟨.hbm, 263, rfl⟩
abbrev main_call0_v5 : Ref sig .tc := ⟨.hbm, 264, rfl⟩
abbrev main_v245 : Ref sig .tc := ⟨.hbm, 265, rfl⟩

abbrev nD : Nat := 1
abbrev τ : Topo := Topo.v7x

variable {F : FTy → Type} [FloatOps F]
-- ==== SampleQkv.lean ====
abbrev S1024x1024 : Shape := ⟨2, ![1024, 1024]⟩
abbrev S1024x3072 : Shape := ⟨2, ![1024, 3072]⟩
abbrev S2x2x1024 : Shape := ⟨3, ![2, 2, 1024]⟩
abbrev S512x1024 : Shape := ⟨2, ![512, 1024]⟩
abbrev S1x2x1024 : Shape := ⟨3, ![1, 2, 1024]⟩
abbrev S256x1024 : Shape := ⟨2, ![256, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S1024x1024, .f32⟩
  | .hbm, ⟨1, _⟩ => ⟨S1024x3072, .f32⟩
  | .hbm, ⟨2, _⟩ => ⟨S1024x3072, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S2x2x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x2x1024, .f32⟩
  | .local _ .vmem, ⟨14, _⟩ => ⟨S1x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SampleQkvReferenceIdeal.lean ====
abbrev S1024x1024 : Shape := ⟨2, ![1024, 1024]⟩
abbrev S1024x3072 : Shape := ⟨2, ![1024, 3072]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x3072, .f32⟩
  | .hbm, ⟨2, _⟩ => ⟨S1024x3072, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SampleConf.lean ====
abbrev S128x8x1024 : Shape := ⟨3, ![128, 8, 1024]⟩
abbrev S128x30x1024 : Shape := ⟨3, ![128, 30, 1024]⟩
abbrev S31x1024 : Shape := ⟨2, ![31, 1024]⟩
abbrev S1024 : Shape := ⟨1, ![1024]⟩
abbrev S1x1024 : Shape := ⟨2, ![1, 1024]⟩
abbrev S1x8x1024 : Shape := ⟨3, ![1, 8, 1024]⟩
abbrev S1x30x1024 : Shape := ⟨3, ![1, 30, 1024]⟩
abbrev S40x1024 : Shape := ⟨2, ![40, 1024]⟩
abbrev S8x1024 : Shape := ⟨2, ![8, 1024]⟩
abbrev S32x1024 : Shape := ⟨2, ![32, 1024]⟩
abbrev S30x1024 : Shape := ⟨2, ![30, 1024]⟩
abbrev S1x128 : Shape := ⟨2, ![1, 128]⟩
abbrev S8x128 : Shape := ⟨2, ![8, 128]⟩
abbrev S8 : Shape := ⟨1, ![8]⟩
abbrev S8x1 : Shape := ⟨2, ![8, 1]⟩

abbrev nBuf : Space → Nat
  | .hbm => 11
  | .vmem => 14
  | .smem => 0
  | _ => 0

abbrev bufTy : (tb : Table) → Fin (tcTables nBuf tb) → BufTy
  | .hbm, ⟨0, _⟩ => ⟨S128x8x1024, .f32⟩
  | .hbm, ⟨1, _⟩ => ⟨S128x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S128x8x1024, .f32⟩
  | .hbm, ⟨10, _⟩ => ⟨S128x30x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x30x1024, .f32⟩
  | .local _ .vmem, ⟨3, _⟩ => ⟨S1x30x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x30x1024, .f32⟩
  | .local _ .vmem, ⟨11, _⟩ => ⟨S1x30x1024, .f32⟩
  | .local _ .vmem, ⟨12, _⟩ => ⟨S40x1024, .f32⟩
  | .local _ .vmem, ⟨13, _⟩ => ⟨S8x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![128, 1], ![false, false]⟩

@[reducible] def k0_t1_loop : Scf.Loop 32 :=
  let c0_i32_4 : BitVec 32 := 0#32
  let c8_i32 : BitVec 32 := 8#32
  let v8 : BitVec 32 := Scalar.addi c0_i32_4 c8_i32
  let c1_i32 : BitVec 32 := 1#32
  ⟨c0_i32_4, v8, c1_i32⟩
def k0_mult1 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  v42
def k0_off1 (k0_t1 : Fin k0_t1_loop.trips) : Fin 2 → Nat :=
  let c0_21 : Index := 0#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v44 : Index := Scalar.indexCast v43
  ![0, v44.toNat]
def k0_off2 (k0_t1 : Fin k0_t1_loop.trips) : Fin 2 → Nat :=
  let c2 : Index := 2#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v49 : Index := Scalar.indexCast v43
  ![2, v49.toNat]
def k0_off3 (k0_t1 : Fin k0_t1_loop.trips) : Fin 2 → Nat :=
  let c0_22 : Index := 0#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v51 : Index := Scalar.indexCast v43
  ![0, v51.toNat]
def k0_off4 (k0_t1 : Fin k0_t1_loop.trips) : Fin 2 → Nat :=
  let c3 : Index := 3#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v56 : Index := Scalar.indexCast v43
  ![3, v56.toNat]
def k0_off5 (k0_t1 : Fin k0_t1_loop.trips) : Fin 2 → Nat :=
  let c1 : Index := 1#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v58 : Index := Scalar.indexCast v43
  ![1, v58.toNat]
def k0_off6 (k0_t1 : Fin k0_t1_loop.trips) : Fin 2 → Nat :=
  let c4 : Index := 4#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v63 : Index := Scalar.indexCast v43
  ![4, v63.toNat]
def k0_off7 (k0_t1 : Fin k0_t1_loop.trips) : Fin 2 → Nat :=
  let c2_23 : Index := 2#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v65 : Index := Scalar.indexCast v43
  ![2, v65.toNat]
def k0_off8 (k0_t1 : Fin k0_t1_loop.trips) : Fin 2 → Nat :=
  let c5 : Index := 5#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v70 : Index := Scalar.indexCast v43
  ![5, v70.toNat]
def k0_off9 (k0_t1 : Fin k0_t1_loop.trips) : Fin 2 → Nat :=
  let c3_24 : Index := 3#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v72 : Index := Scalar.indexCast v43
  ![3, v72.toNat]
def k0_off10 (k0_t1 : Fin k0_t1_loop.trips) : Fin 2 → Nat :=
  let c6 : Index := 6#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v77 : Index := Scalar.indexCast v43
  ![6, v77.toNat]
def k0_off11 (k0_t1 : Fin k0_t1_loop.trips) : Fin 2 → Nat :=
  let c4_25 : Index := 4#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v79 : Index := Scalar.indexCast v43
  ![4, v79.toNat]
def k0_off12 (k0_t1 : Fin k0_t1_loop.trips) : Fin 2 → Nat :=
  let c7 : Index := 7#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v84 : Index := Scalar.indexCast v43
  ![7, v84.toNat]
def k0_off13 (k0_t1 : Fin k0_t1_loop.trips) : Fin 2 → Nat :=
  let c5_26 : Index := 5#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v86 : Index := Scalar.indexCast v43
  ![5, v86.toNat]
def k0_off14 (k0_t1 : Fin k0_t1_loop.trips) : Fin 2 → Nat :=
  let c8 : Index := 8#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v91 : Index := Scalar.indexCast v43
  ![8, v91.toNat]
def k0_off15 (k0_t1 : Fin k0_t1_loop.trips) : Fin 2 → Nat :=
  let c6_27 : Index := 6#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v93 : Index := Scalar.indexCast v43
  ![6, v93.toNat]
def k0_off16 (k0_t1 : Fin k0_t1_loop.trips) : Fin 2 → Nat :=
  let c9 : Index := 9#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v98 : Index := Scalar.indexCast v43
  ![9, v98.toNat]
def k0_off17 (k0_t1 : Fin k0_t1_loop.trips) : Fin 2 → Nat :=
  let c7_28 : Index := 7#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v100 : Index := Scalar.indexCast v43
  ![7, v100.toNat]
def k0_off18 (k0_t1 : Fin k0_t1_loop.trips) : Fin 2 → Nat :=
  let c10 : Index := 10#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v105 : Index := Scalar.indexCast v43
  ![10, v105.toNat]
def k0_off19 (k0_t1 : Fin k0_t1_loop.trips) : Fin 2 → Nat :=
  let c8_29 : Index := 8#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v107 : Index := Scalar.indexCast v43
  ![8, v107.toNat]
def k0_off20 (k0_t1 : Fin k0_t1_loop.trips) : Fin 2 → Nat :=
  let c11 : Index := 11#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v112 : Index := Scalar.indexCast v43
  ![11, v112.toNat]
def k0_off21 (k0_t1 : Fin k0_t1_loop.trips) : Fin 2 → Nat :=
  let c9_30 : Index := 9#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v114 : Index := Scalar.indexCast v43
  ![9, v114.toNat]
def k0_off22 (k0_t1 : Fin k0_t1_loop.trips) : Fin 2 → Nat :=
  let c12 : Index := 12#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v119 : Index := Scalar.indexCast v43
  ![12, v119.toNat]
def k0_off23 (k0_t1 : Fin k0_t1_loop.trips) : Fin 2 → Nat :=
  let c10_31 : Index := 10#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v121 : Index := Scalar.indexCast v43
  ![10, v121.toNat]
def k0_off24 (k0_t1 : Fin k0_t1_loop.trips) : Fin 2 → Nat :=
  let c13 : Index := 13#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v126 : Index := Scalar.indexCast v43
  ![13, v126.toNat]
def k0_off25 (k0_t1 : Fin k0_t1_loop.trips) : Fin 2 → Nat :=
  let c11_32 : Index := 11#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v128 : Index := Scalar.indexCast v43
  ![11, v128.toNat]
def k0_off26 (k0_t1 : Fin k0_t1_loop.trips) : Fin 2 → Nat :=
  let c14 : Index := 14#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v133 : Index := Scalar.indexCast v43
  ![14, v133.toNat]
def k0_off27 (k0_t1 : Fin k0_t1_loop.trips) : Fin 2 → Nat :=
  let c12_33 : Index := 12#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v135 : Index := Scalar.indexCast v43
  ![12, v135.toNat]
def k0_off28 (k0_t1 : Fin k0_t1_loop.trips) : Fin 2 → Nat :=
  let c15 : Index := 15#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v140 : Index := Scalar.indexCast v43
  ![15, v140.toNat]
def k0_off29 (k0_t1 : Fin k0_t1_loop.trips) : Fin 2 → Nat :=
  let c13_34 : Index := 13#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v142 : Index := Scalar.indexCast v43
  ![13, v142.toNat]
def k0_off30 (k0_t1 : Fin k0_t1_loop.trips) : Fin 2 → Nat :=
  let c16 : Index := 16#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v147 : Index := Scalar.indexCast v43
  ![16, v147.toNat]
def k0_off31 (k0_t1 : Fin k0_t1_loop.trips) : Fin 2 → Nat :=
  let c14_35 : Index := 14#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v149 : Index := Scalar.indexCast v43
  ![14, v149.toNat]
def k0_off32 (k0_t1 : Fin k0_t1_loop.trips) : Fin 2 → Nat :=
  let c17 : Index := 17#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v154 : Index := Scalar.indexCast v43
  ![17, v154.toNat]
def k0_off33 (k0_t1 : Fin k0_t1_loop.trips) : Fin 2 → Nat :=
  let c15_36 : Index := 15#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v156 : Index := Scalar.indexCast v43
  ![15, v156.toNat]
def k0_off34 (k0_t1 : Fin k0_t1_loop.trips) : Fin 2 → Nat :=
  let c18 : Index := 18#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v161 : Index := Scalar.indexCast v43
  ![18, v161.toNat]
def k0_off35 (k0_t1 : Fin k0_t1_loop.trips) : Fin 2 → Nat :=
  let c16_37 : Index := 16#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v163 : Index := Scalar.indexCast v43
  ![16, v163.toNat]
def k0_off36 (k0_t1 : Fin k0_t1_loop.trips) : Fin 2 → Nat :=
  let c19 : Index := 19#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v168 : Index := Scalar.indexCast v43
  ![19, v168.toNat]
def k0_off37 (k0_t1 : Fin k0_t1_loop.trips) : Fin 2 → Nat :=
  let c17_38 : Index := 17#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v170 : Index := Scalar.indexCast v43
  ![17, v170.toNat]
def k0_off38 (k0_t1 : Fin k0_t1_loop.trips) : Fin 2 → Nat :=
  let c20 : Index := 20#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v175 : Index := Scalar.indexCast v43
  ![20, v175.toNat]
def k0_off39 (k0_t1 : Fin k0_t1_loop.trips) : Fin 2 → Nat :=
  let c18_39 : Index := 18#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v177 : Index := Scalar.indexCast v43
  ![18, v177.toNat]
def k0_off40 (k0_t1 : Fin k0_t1_loop.trips) : Fin 2 → Nat :=
  let c21 : Index := 21#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v182 : Index := Scalar.indexCast v43
  ![21, v182.toNat]
def k0_off41 (k0_t1 : Fin k0_t1_loop.trips) : Fin 2 → Nat :=
  let c19_40 : Index := 19#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v184 : Index := Scalar.indexCast v43
  ![19, v184.toNat]
def k0_off42 (k0_t1 : Fin k0_t1_loop.trips) : Fin 2 → Nat :=
  let c22 : Index := 22#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v189 : Index := Scalar.indexCast v43
  ![22, v189.toNat]
def k0_off43 (k0_t1 : Fin k0_t1_loop.trips) : Fin 2 → Nat :=
  let c20_41 : Index := 20#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v191 : Index := Scalar.indexCast v43
  ![20, v191.toNat]
def k0_off44 (k0_t1 : Fin k0_t1_loop.trips) : Fin 2 → Nat :=
  let c23 : Index := 23#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v196 : Index := Scalar.indexCast v43
  ![23, v196.toNat]
def k0_off45 (k0_t1 : Fin k0_t1_loop.trips) : Fin 2 → Nat :=
  let c21_42 : Index := 21#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v198 : Index := Scalar.indexCast v43
  ![21, v198.toNat]
def k0_off46 (k0_t1 : Fin k0_t1_loop.trips) : Fin 2 → Nat :=
  let c24 : Index := 24#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v203 : Index := Scalar.indexCast v43
  ![24, v203.toNat]
def k0_off47 (k0_t1 : Fin k0_t1_loop.trips) : Fin 2 → Nat :=
  let c22_43 : Index := 22#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v205 : Index := Scalar.indexCast v43
  ![22, v205.toNat]
def k0_off48 (k0_t1 : Fin k0_t1_loop.trips) : Fin 2 → Nat :=
  let c25 : Index := 25#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v210 : Index := Scalar.indexCast v43
  ![25, v210.toNat]
def k0_off49 (k0_t1 : Fin k0_t1_loop.trips) : Fin 2 → Nat :=
  let c23_44 : Index := 23#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v212 : Index := Scalar.indexCast v43
  ![23, v212.toNat]
def k0_off50 (k0_t1 : Fin k0_t1_loop.trips) : Fin 2 → Nat :=
  let c26 : Index := 26#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v217 : Index := Scalar.indexCast v43
  ![26, v217.toNat]
def k0_off51 (k0_t1 : Fin k0_t1_loop.trips) : Fin 2 → Nat :=
  let c24_45 : Index := 24#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v219 : Index := Scalar.indexCast v43
  ![24, v219.toNat]
def k0_off52 (k0_t1 : Fin k0_t1_loop.trips) : Fin 2 → Nat :=
  let c27 : Index := 27#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v224 : Index := Scalar.indexCast v43
  ![27, v224.toNat]
def k0_off53 (k0_t1 : Fin k0_t1_loop.trips) : Fin 2 → Nat :=
  let c25_46 : Index := 25#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v226 : Index := Scalar.indexCast v43
  ![25, v226.toNat]
def k0_off54 (k0_t1 : Fin k0_t1_loop.trips) : Fin 2 → Nat :=
  let c28 : Index := 28#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v231 : Index := Scalar.indexCast v43
  ![28, v231.toNat]
def k0_off55 (k0_t1 : Fin k0_t1_loop.trips) : Fin 2 → Nat :=
  let c26_47 : Index := 26#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v233 : Index := Scalar.indexCast v43
  ![26, v233.toNat]
def k0_off56 (k0_t1 : Fin k0_t1_loop.trips) : Fin 2 → Nat :=
  let c29 : Index := 29#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v238 : Index := Scalar.indexCast v43
  ![29, v238.toNat]
def k0_off57 (k0_t1 : Fin k0_t1_loop.trips) : Fin 2 → Nat :=
  let c27_48 : Index := 27#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v240 : Index := Scalar.indexCast v43
  ![27, v240.toNat]
def k0_off58 (k0_t1 : Fin k0_t1_loop.trips) : Fin 2 → Nat :=
  let c30 : Index := 30#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v245 : Index := Scalar.indexCast v43
  ![30, v245.toNat]
def k0_off59 (k0_t1 : Fin k0_t1_loop.trips) : Fin 2 → Nat :=
  let c28_49 : Index := 28#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v247 : Index := Scalar.indexCast v43
  ![28, v247.toNat]
def k0_off60 (k0_t1 : Fin k0_t1_loop.trips) : Fin 2 → Nat :=
  let c31 : Index := 31#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v252 : Index := Scalar.indexCast v43
  ![31, v252.toNat]
def k0_off61 (k0_t1 : Fin k0_t1_loop.trips) : Fin 2 → Nat :=
  let c29_50 : Index := 29#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v254 : Index := Scalar.indexCast v43
  ![29, v254.toNat]
def k0_off62 (k0_t1 : Fin k0_t1_loop.trips) : Fin 2 → Nat :=
  let c32_51 : Index := 32#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v259 : Index := Scalar.indexCast v43
  ![32, v259.toNat]
def k0_off63 (k0_t1 : Fin k0_t1_loop.trips) : Fin 2 → Nat :=
  let c30_52 : Index := 30#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v261 : Index := Scalar.indexCast v43
  ![30, v261.toNat]
def k0_off64 (k0_t1 : Fin k0_t1_loop.trips) : Fin 2 → Nat :=
  let c0_53 : Index := 0#32
  let c0_i32_4 : BitVec 32 := 0#32
  let c1_i32 : BitVec 32 := 1#32
  let arg12 : BitVec 32 := Scf.iv c0_i32_4 c1_i32 k0_t1
  let c128_i32 : BitVec 32 := 128#32
  let v42 : BitVec 32 := Scalar.muli arg12 c128_i32
  let v43 : BitVec 32 := v42
  let v266 : Index := Scalar.indexCast v43
  ![0, v266.toNat]
def k0_cond2 (i : grid0.Coords) : BitVec 1 :=
  let arg1 : BitVec 32 := BitVec.ofNat 32 (i 1).val
  let c0_i32_19 : BitVec 32 := 0#32
  let v39 : BitVec 1 := Scalar.cmpi .eq arg1 c0_i32_19
  let v40 : BitVec 32 := Scalar.extui v39
  let c0_i32_20 : BitVec 32 := 0#32
  let v41 : BitVec 1 := Scalar.cmpi .ne v40 c0_i32_20
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x30x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SampleConfReferenceIdeal.lean ====
abbrev S128x8x1024 : Shape := ⟨3, ![128, 8, 1024]⟩
abbrev S128x30x1024 : Shape := ⟨3, ![128, 30, 1024]⟩
abbrev S31x1024 : Shape := ⟨2, ![31, 1024]⟩
abbrev S1024 : Shape := ⟨1, ![1024]⟩
abbrev S128x38x1024 : Shape := ⟨3, ![128, 38, 1024]⟩
abbrev S1x1024 : Shape := ⟨2, ![1, 1024]⟩
abbrev S1x1x1024 : Shape := ⟨3, ![1, 1, 1024]⟩
abbrev S_ : Shape := ⟨0, ![]⟩
abbrev S128x8 : Shape := ⟨2, ![128, 8]⟩
abbrev S128x8x1 : Shape := ⟨3, ![128, 8, 1]⟩

abbrev nBuf : Space → Nat
  | .hbm => 266
  | .vmem => 0
  | .smem => 0
  | _ => 0

abbrev hbmTy0_0 (i : Nat) : BufTy := match i % 128 with
  | 0 => ⟨S128x8x1024, .f32⟩
  | 1 => ⟨S128x30x1024, .f32⟩
  | 2 => ⟨S31x1024, .f32⟩
  | 3 => ⟨S1024, .f32⟩
  | 4 => ⟨S1024, .f32⟩
  | 5 => ⟨S1024, .f32⟩
  | 6 => ⟨S128x38x1024, .f32⟩
  | 7 => ⟨S128x8x1024, .f32⟩
  | 8 => ⟨S1x1024, .f32⟩
  | 9 => ⟨S1024, .f32⟩
  | 10 => ⟨S1x1x1024, .f32⟩
  | 11 => ⟨S128x8x1024, .f32⟩
  | 12 => ⟨S128x8x1024, .f32⟩
  | 13 => ⟨S_, .f32⟩
  | 14 => ⟨S128x8x1024, .f32⟩
  | 15 => ⟨S128x8x1024, .f32⟩
  | 16 => ⟨S128x8x1024, .f32⟩
  | 17 => ⟨S1x1024, .f32⟩
  | 18 => ⟨S1024, .f32⟩
  | 19 => ⟨S1x1x1024, .f32⟩
  | 20 => ⟨S128x8x1024, .f32⟩
  | 21 => ⟨S128x8x1024, .f32⟩
  | 22 => ⟨S128x8x1024, .f32⟩
  | 23 => ⟨S128x8x1024, .f32⟩
  | 24 => ⟨S1x1024, .f32⟩
  | 25 => ⟨S1024, .f32⟩
  | 26 => ⟨S1x1x1024, .f32⟩
  | 27 => ⟨S128x8x1024, .f32⟩
  | 28 => ⟨S128x8x1024, .f32⟩
  | 29 => ⟨S128x8x1024, .f32⟩
  | 30 => ⟨S128x8x1024, .f32⟩
  | 31 => ⟨S1x1024, .f32⟩
  | 32 => ⟨S1024, .f32⟩
  | 33 => ⟨S1x1x1024, .f32⟩
  | 34 => ⟨S128x8x1024, .f32⟩
  | 35 => ⟨S128x8x1024, .f32⟩
  | 36 => ⟨S128x8x1024, .f32⟩
  | 37 => ⟨S128x8x1024, .f32⟩
  | 38 => ⟨S1x1024, .f32⟩
  | 39 => ⟨S1024, .f32⟩
  | 40 => ⟨S1x1x1024, .f32⟩
  | 41 => ⟨S128x8x1024, .f32⟩
  | 42 => ⟨S128x8x1024, .f32⟩
  | 43 => ⟨S128x8x1024, .f32⟩
  | 44 => ⟨S128x8x1024, .f32⟩
  | 45 => ⟨S1x1024, .f32⟩
  | 46 => ⟨S1024, .f32⟩
  | 47 => ⟨S1x1x1024, .f32⟩
  | 48 => ⟨S128x8x1024, .f32⟩
  | 49 => ⟨S128x8x1024, .f32⟩
  | 50 => ⟨S128x8x1024, .f32⟩
  | 51 => ⟨S128x8x1024, .f32⟩
  | 52 => ⟨S1x1024, .f32⟩
  | 53 => ⟨S1024, .f32⟩
  | 54 => ⟨S1x1x1024, .f32⟩
  | 55 => ⟨S128x8x1024, .f32⟩
  | 56 => ⟨S128x8x1024, .f32⟩
  | 57 => ⟨S128x8x1024, .f32⟩
  | 58 => ⟨S128x8x1024, .f32⟩
  | 59 => ⟨S1x1024, .f32⟩
  | 60 => ⟨S1024, .f32⟩
  | 61 => ⟨S1x1x1024, .f32⟩
  | 62 => ⟨S128x8x1024, .f32⟩
  | 63 => ⟨S128x8x1024, .f32⟩
  | 64 => ⟨S128x8x1024, .f32⟩
  | 65 => ⟨S128x8x1024, .f32⟩
  | 66 => ⟨S1x1024, .f32⟩
  | 67 => ⟨S1024, .f32⟩
  | 68 => ⟨S1x1x1024, .f32⟩
  | 69 => ⟨S128x8x1024, .f32⟩
  | 70 => ⟨S128x8x1024, .f32⟩
  | 71 => ⟨S128x8x1024, .f32⟩
  | 72 => ⟨S128x8x1024, .f32⟩
  | 73 => ⟨S1x1024, .f32⟩
  | 74 => ⟨S1024, .f32⟩
  | 75 => ⟨S1x1x1024, .f32⟩
  | 76 => ⟨S128x8x1024, .f32⟩
  | 77 => ⟨S128x8x1024, .f32⟩
  | 78 => ⟨S128x8x1024, .f32⟩
  | 79 => ⟨S128x8x1024, .f32⟩
  | 80 => ⟨S1x1024, .f32⟩
  | 81 => ⟨S1024, .f32⟩
  | 82 => ⟨S1x1x1024, .f32⟩
  | 83 => ⟨S128x8x1024, .f32⟩
  | 84 => ⟨S128x8x1024, .f32⟩
  | 85 => ⟨S128x8x1024, .f32⟩
  | 86 => ⟨S128x8x1024, .f32⟩
  | 87 => ⟨S1x1024, .f32⟩
  | 88 => ⟨S1024, .f32⟩
  | 89 => ⟨S1x1x1024, .f32⟩
  | 90 => ⟨S128x8x1024, .f32⟩
  | 91 => ⟨S128x8x1024, .f32⟩
  | 92 => ⟨S128x8x1024, .f32⟩
  | 93 => ⟨S128x8x1024, .f32⟩
  | 94 => ⟨S1x1024, .f32⟩
  | 95 => ⟨S1024, .f32⟩
  | 96 => ⟨S1x1x1024, .f32⟩
  | 97 => ⟨S128x8x1024, .f32⟩
  | 98 => ⟨S128x8x1024, .f32⟩
  | 99 => ⟨S128x8x1024, .f32⟩
  | 100 => ⟨S128x8x1024, .f32⟩
  | 101 => ⟨S1x1024, .f32⟩
  | 102 => ⟨S1024, .f32⟩
  | 103 => ⟨S1x1x1024, .f32⟩
  | 104 => ⟨S128x8x1024, .f32⟩
  | 105 => ⟨S128x8x1024, .f32⟩
  | 106 => ⟨S128x8x1024, .f32⟩
  | 107 => ⟨S128x8x1024, .f32⟩
  | 108 => ⟨S1x1024, .f32⟩
  | 109 => ⟨S1024, .f32⟩
  | 110 => ⟨S1x1x1024, .f32⟩
  | 111 => ⟨S128x8x1024, .f32⟩
  | 112 => ⟨S128x8x1024, .f32⟩
  | 113 => ⟨S128x8x1024, .f32⟩
  | 114 => ⟨S128x8x1024, .f32⟩
  | 115 => ⟨S1x1024, .f32⟩
  | 116 => ⟨S1024, .f32⟩
  | 117 => ⟨S1x1x1024, .f32⟩
  | 118 => ⟨S128x8x1024, .f32⟩
  | 119 => ⟨S128x8x1024, .f32⟩
  | 120 => ⟨S128x8x1024, .f32⟩
  | 121 => ⟨S128x8x1024, .f32⟩
  | 122 => ⟨S1x1024, .f32⟩
  | 123 => ⟨S1024, .f32⟩
  | 124 => ⟨S1x1x1024, .f32⟩
  | 125 => ⟨S128x8x1024, .f32⟩
  | 126 => ⟨S128x8x1024, .f32⟩
  | 127 => ⟨S128x8x1024, .f32⟩
  | _ => ⟨S128x8x1024, .f32⟩

abbrev hbmTy0_1 (i : Nat) : BufTy := match i % 128 with
  | 0 => ⟨S128x8x1024, .f32⟩
  | 1 => ⟨S1x1024, .f32⟩
  | 2 => ⟨S1024, .f32⟩
  | 3 => ⟨S1x1x1024, .f32⟩
  | 4 => ⟨S128x8x1024, .f32⟩
  | 5 => ⟨S128x8x1024, .f32⟩
  | 6 => ⟨S128x8x1024, .f32⟩
  | 7 => ⟨S128x8x1024, .f32⟩
  | 8 => ⟨S1x1024, .f32⟩
  | 9 => ⟨S1024, .f32⟩
  | 10 => ⟨S1x1x1024, .f32⟩
  | 11 => ⟨S128x8x1024, .f32⟩
  | 12 => ⟨S128x8x1024, .f32⟩
  | 13 => ⟨S128x8x1024, .f32⟩
  | 14 => ⟨S128x8x1024, .f32⟩
  | 15 => ⟨S1x1024, .f32⟩
  | 16 => ⟨S1024, .f32⟩
  | 17 => ⟨S1x1x1024, .f32⟩
  | 18 => ⟨S128x8x1024, .f32⟩
  | 19 => ⟨S128x8x1024, .f32⟩
  | 20 => ⟨S128x8x1024, .f32⟩
  | 21 => ⟨S128x8x1024, .f32⟩
  | 22 => ⟨S1x1024, .f32⟩
  | 23 => ⟨S1024, .f32⟩
  | 24 => ⟨S1x1x1024, .f32⟩
  | 25 => ⟨S128x8x1024, .f32⟩
  | 26 => ⟨S128x8x1024, .f32⟩
  | 27 => ⟨S128x8x1024, .f32⟩
  | 28 => ⟨S128x8x1024, .f32⟩
  | 29 => ⟨S1x1024, .f32⟩
  | 30 => ⟨S1024, .f32⟩
  | 31 => ⟨S1x1x1024, .f32⟩
  | 32 => ⟨S128x8x1024, .f32⟩
  | 33 => ⟨S128x8x1024, .f32⟩
  | 34 => ⟨S128x8x1024, .f32⟩
  | 35 => ⟨S128x8x1024, .f32⟩
  | 36 => ⟨S1x1024, .f32⟩
  | 37 => ⟨S1024, .f32⟩
  | 38 => ⟨S1x1x1024, .f32⟩
  | 39 => ⟨S128x8x1024, .f32⟩
  | 40 => ⟨S128x8x1024, .f32⟩
  | 41 => ⟨S128x8x1024, .f32⟩
  | 42 => ⟨S128x8x1024, .f32⟩
  | 43 => ⟨S1x1024, .f32⟩
  | 44 => ⟨S1024, .f32⟩
  | 45 => ⟨S1x1x1024, .f32⟩
  | 46 => ⟨S128x8x1024, .f32⟩
  | 47 => ⟨S128x8x1024, .f32⟩
  | 48 => ⟨S128x8x1024, .f32⟩
  | 49 => ⟨S128x8x1024, .f32⟩
  | 50 => ⟨S1x1024, .f32⟩
  | 51 => ⟨S1024, .f32⟩
  | 52 => ⟨S1x1x1024, .f32⟩
  | 53 => ⟨S128x8x1024, .f32⟩
  | 54 => ⟨S128x8x1024, .f32⟩
  | 55 => ⟨S128x8x1024, .f32⟩
  | 56 => ⟨S128x8x1024, .f32⟩
  | 57 => ⟨S1x1024, .f32⟩
  | 58 => ⟨S1024, .f32⟩
  | 59 => ⟨S1x1x1024, .f32⟩
  | 60 => ⟨S128x8x1024, .f32⟩
  | 61 => ⟨S128x8x1024, .f32⟩
  | 62 => ⟨S128x8x1024, .f32⟩
  | 63 => ⟨S128x8x1024, .f32⟩
  | 64 => ⟨S1x1024, .f32⟩
  | 65 => ⟨S1024, .f32⟩
  | 66 => ⟨S1x1x1024, .f32⟩
  | 67 => ⟨S128x8x1024, .f32⟩
  | 68 => ⟨S128x8x1024, .f32⟩
  | 69 => ⟨S128x8x1024, .f32⟩
  | 70 => ⟨S128x8x1024, .f32⟩
  | 71 => ⟨S1x1024, .f32⟩
  | 72 => ⟨S1024, .f32⟩
  | 73 => ⟨S1x1x1024, .f32⟩
  | 74 => ⟨S128x8x1024, .f32⟩
  | 75 => ⟨S128x8x1024, .f32⟩
  | 76 => ⟨S128x8x1024, .f32⟩
  | 77 => ⟨S128x8x1024, .f32⟩
  | 78 => ⟨S1x1024, .f32⟩
  | 79 => ⟨S1024, .f32⟩
  | 80 => ⟨S1x1x1024, .f32⟩
  | 81 => ⟨S128x8x1024, .f32⟩
  | 82 => ⟨S128x8x1024, .f32⟩
  | 83 => ⟨S128x8x1024, .f32⟩
  | 84 => ⟨S128x8x1024, .f32⟩
  | 85 => ⟨S1x1024, .f32⟩
  | 86 => ⟨S1024, .f32⟩
  | 87 => ⟨S1x1x1024, .f32⟩
  | 88 => ⟨S128x8x1024, .f32⟩
  | 89 => ⟨S128x8x1024, .f32⟩
  | 90 => ⟨S128x8x1024, .f32⟩
  | 91 => ⟨S128x8x1024, .f32⟩
  | 92 => ⟨S1x1024, .f32⟩
  | 93 => ⟨S1024, .f32⟩
  | 94 => ⟨S1x1x1024, .f32⟩
  | 95 => ⟨S128x8x1024, .f32⟩
  | 96 => ⟨S128x8x1024, .f32⟩
  | 97 => ⟨S128x8x1024, .f32⟩
  | 98 => ⟨S1x1x1024, .f32⟩
  | 99 => ⟨S128x8x1024, .f32⟩
  | 100 => ⟨S128x8x1024, .f32⟩
  | 101 => ⟨S128x30x1024, .f32⟩
  | 102 => ⟨S_, .f32⟩
  | 103 => ⟨S128x8, .f32⟩
  | 104 => ⟨S128x8x1, .f32⟩
  | 105 => ⟨S_, .f32⟩
  | 106 => ⟨S128x8x1, .f32⟩
  | 107 => ⟨S128x8x1, .f32⟩
  | 108 => ⟨S128x8x1024, .f32⟩
  | 109 => ⟨S128x8x1024, .f32⟩
  | 110 => ⟨S128x8x1024, .f32⟩
  | 111 => ⟨S_, .f32⟩
  | 112 => ⟨S128x8, .f32⟩
  | 113 => ⟨S128x8x1, .f32⟩
  | 114 => ⟨S_, .f32⟩
  | 115 => ⟨S128x8x1, .f32⟩
  | 116 => ⟨S128x8x1, .f32⟩
  | 117 => ⟨S_, .f32⟩
  | 118 => ⟨S128x8x1, .f32⟩
  | 119 => ⟨S128x8x1, .f32⟩
  | 120 => ⟨S128x8x1, .f32⟩
  | 121 => ⟨S128x8x1024, .f32⟩
  | 122 => ⟨S128x8x1024, .f32⟩
  | 123 => ⟨S1x1x1024, .f32⟩
  | 124 => ⟨S128x8x1024, .f32⟩
  | 125 => ⟨S128x8x1024, .f32⟩
  | 126 => ⟨S1x1x1024, .f32⟩
  | 127 => ⟨S128x8x1024, .f32⟩
  | _ => ⟨S128x8x1024, .f32⟩

abbrev hbmTy0_2 (i : Nat) : BufTy := match i % 128 with
  | 0 => ⟨S128x8x1024, .f32⟩
  | 1 => ⟨S128x8x1024, .f32⟩
  | 2 => ⟨S128x8x1024, .f32⟩
  | 3 => ⟨S_, .f32⟩
  | 4 => ⟨S128x8x1024, .f32⟩
  | 5 => ⟨S128x8x1024, .f32⟩
  | 6 => ⟨S_, .f32⟩
  | 7 => ⟨S128x8x1024, .f32⟩
  | 8 => ⟨S128x8x1024, .f32⟩
  | 9 => ⟨S128x8x1024, .f32⟩
  | _ => ⟨S128x8x1024, .f32⟩

abbrev hbmTy (i : Nat) : BufTy := match i / 128 with
  | 0 => hbmTy0_0 i
  | 1 => hbmTy0_1 i
  | 2 => hbmTy0_2 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_cst_0 : Ref sig .tc := ⟨.hbm, 230, rfl⟩
abbrev main_v223 : Ref sig .tc := ⟨.hbm, 231, rfl⟩
abbrev main_v224 : Ref sig .tc := ⟨.hbm, 232, rfl⟩
abbrev main_cst_1 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_2 : Ref sig .tc := ⟨.hbm, 239, rfl⟩
abbrev main_v230 : Ref sig .tc := ⟨.hbm, 240, rfl⟩
abbrev main_v231 : Ref sig .tc := ⟨.hbm, 241, rfl⟩
abbrev main_cst_3 : Ref sig .tc := ⟨.hbm, 242, rfl⟩
abbrev main_v232 : Ref sig .tc := ⟨.hbm, 243, rfl⟩
abbrev main_v233 : Ref sig .tc := ⟨.hbm, 244, rfl⟩
abbrev main_cst_4 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_call0_v0 : Ref sig .tc := ⟨.hbm, 257, rfl⟩
abbrev main_call0_v1 : Ref sig .tc := ⟨.hbm, 258, rfl⟩
abbrev main_call0_cst : Ref sig .tc := ⟨.hbm, 259, rfl⟩
abbrev main_call0_v2 : Ref sig .tc := ⟨.hbm, 260, rfl⟩
abbrev main_call0_v3 : Ref sig .tc := ⟨.hbm, 261, rfl⟩
abbrev main_call0_cst_0 : Ref sig .tc := ⟨.hbm, 262, rfl⟩
abbrev main_call0_v4 : Ref sig .tc := ⟨.hbm, 263, rfl⟩
abbrev main_call0_v5 : Ref sig .tc := ⟨.hbm, 264, rfl⟩
abbrev main_v245 : Ref sig .tc := ⟨.hbm, 265, rfl⟩

abbrev nD : Nat := 1
abbrev τ : Topo := Topo.v7x

variable {F : FTy → Type} [FloatOps F]
-- ==== Ssd.lean ====
abbrev S2x8192x2560 : Shape := ⟨3, ![2, 8192, 2560]⟩
abbrev S2x8192x128 : Shape := ⟨3, ![2, 8192, 128]⟩
abbrev S2x3x1536 : Shape := ⟨3, ![2, 3, 1536]⟩
abbrev S2x16x64x128 : Shape := ⟨4, ![2, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x1536 : Shape := ⟨2, ![1, 1536]⟩
abbrev S1x16 : Shape := ⟨2, ![1, 16]⟩
abbrev S_ : Shape := ⟨0, ![]⟩
abbrev S1x128 : Shape := ⟨2, ![1, 128]⟩
abbrev S16x64 : Shape := ⟨2, ![16, 64]⟩
abbrev S1x1024 : Shape := ⟨2, ![1, 1024]⟩
abbrev S2x8x128x128 : Shape := ⟨4, ![2, 8, 128, 128]⟩
abbrev S2x8192x1024 : Shape := ⟨3, ![2, 8192, 1024]⟩
abbrev S1x128x2560 : Shape := ⟨3, ![1, 128, 2560]⟩
abbrev S1x128x128 : Shape := ⟨3, ![1, 128, 128]⟩
abbrev S1x3x1536 : Shape := ⟨3, ![1, 3, 1536]⟩
abbrev S1x8x128x128 : Shape := ⟨4, ![1, 8, 128, 128]⟩
abbrev S1x128x1024 : Shape := ⟨3, ![1, 128, 1024]⟩
abbrev S136x1536 : Shape := ⟨2, ![136, 1536]⟩
abbrev S8x128x128 : Shape := ⟨3, ![8, 128, 128]⟩
abbrev S128x1024 : Shape := ⟨2, ![128, 1024]⟩
abbrev S8x1536 : Shape := ⟨2, ![8, 1536]⟩
abbrev S3x1536 : Shape := ⟨2, ![3, 1536]⟩
abbrev S1x128x1536 : Shape := ⟨3, ![1, 128, 1536]⟩
abbrev S128x1536 : Shape := ⟨2, ![128, 1536]⟩
abbrev S128x256 : Shape := ⟨2, ![128, 256]⟩
abbrev S128x128 : Shape := ⟨2, ![128, 128]⟩
abbrev S128x1 : Shape := ⟨2, ![128, 1]⟩
abbrev S1x1 : Shape := ⟨2, ![1, 1]⟩
abbrev S128 : Shape := ⟨1, ![128]⟩

abbrev nBuf : Space → Nat
  | .hbm => 27
  | .vmem => 23
  | .smem => 0
  | _ => 0

abbrev bufTy : (tb : Table) → Fin (tcTables nBuf tb) → BufTy
  | .hbm, ⟨0, _⟩ => ⟨S2x8192x2560, .f32⟩
  | .hbm, ⟨1, _⟩ => ⟨S2x8192x128, .f32⟩
  | .hbm, ⟨2, _⟩ => ⟨S2x3x1536, .f32⟩
  | .hbm, ⟨3, _⟩ => ⟨S2x16x64x128, .f32⟩
  | .hbm, ⟨4, _⟩ => ⟨S4x1536, .f32⟩
  | .hbm, ⟨5, _⟩ => ⟨S1536, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S1024, .f32⟩
  | .hbm, ⟨10, _⟩ => ⟨S1x1536, .f32⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x16, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S2x8x128x128, .f32⟩
  | .hbm, ⟨24, _⟩ => ⟨S2x8192x1024, .f32⟩
  | .hbm, ⟨25, _⟩ => ⟨S2x8x128x128, .f32⟩
  | .hbm, ⟨26, _⟩ => ⟨S2x3x1536, .f32⟩
  | .local _ .vmem, ⟨0, _⟩ => ⟨S1x128x2560, .f32⟩
  | .local _ .vmem, ⟨1, _⟩ => ⟨S1x128x2560, .f32⟩
  | .local _ .vmem, ⟨2, _⟩ => ⟨S1x128x128, .f32⟩
  | .local _ .vmem, ⟨3, _⟩ => ⟨S1x128x128, .f32⟩
  | .local _ .vmem, ⟨4, _⟩ => ⟨S1x3x1536, .f32⟩
  | .local _ .vmem, ⟨5, _⟩ => ⟨S1x3x1536, .f32⟩
  | .local _ .vmem, ⟨6, _⟩ => ⟨S1x8x128x128, .f32⟩
  | .local _ .vmem, ⟨7, _⟩ => ⟨S1x8x128x128, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S1x3x1536, .f32⟩
  | .local _ .vmem, ⟨19, _⟩ => ⟨S1x3x1536, .f32⟩
  | .local _ .vmem, ⟨20, _⟩ => ⟨S136x1536, .f32⟩
  | .local _ .vmem, ⟨21, _⟩ => ⟨S8x128x128, .f32⟩
  | .local _ .vmem, ⟨22, _⟩ => ⟨S128x1024, .f32⟩
  | _, _ => ⟨S2x8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 64], ![false, false]⟩

def k0_cond3 (i : grid0.Coords) : BitVec 1 :=
  let arg1 : BitVec 32 := BitVec.ofNat 32 (i 1).val
  let c63_i32_206 : BitVec 32 := 63#32
  let v813 : BitVec 1 := Scalar.cmpi .eq arg1 c63_i32_206
  let v814 : BitVec 32 := Scalar.extui v813
  let c0_i32_207 : BitVec 32 := 0#32
  let v815 : BitVec 1 := Scalar.cmpi .ne v814 c0_i32_207
  v815

def k0_cond2 (i : grid0.Coords) : BitVec 1 :=
  let arg1 : BitVec 32 := BitVec.ofNat 32 (i 1).val
  let c63_i32 : BitVec 32 := 63#32
  let v34 : BitVec 1 := Scalar.cmpi .eq arg1 c63_i32
  let v35 : BitVec 32 := Scalar.extui v34
  let c0_i32_15 : BitVec 32 := 0#32
  let v36 : BitVec 1 := Scalar.cmpi .ne v35 c0_i32_15
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x3x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SsdIdeal.lean ====
abbrev S2x8192x2560 : Shape := ⟨3, ![2, 8192, 2560]⟩
abbrev S2x8192x128 : Shape := ⟨3, ![2, 8192, 128]⟩
abbrev S2x3x1536 : Shape := ⟨3, ![2, 3, 1536]⟩
abbrev S2x16x64x128 : Shape := ⟨4, ![2, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x1536 : Shape := ⟨2, ![1, 1536]⟩
abbrev S1x16 : Shape := ⟨2, ![1, 16]⟩
abbrev S_ : Shape := ⟨0, ![]⟩
abbrev S1x128 : Shape := ⟨2, ![1, 128]⟩
abbrev S16x64 : Shape := ⟨2, ![16, 64]⟩
abbrev S1x1024 : Shape := ⟨2, ![1, 1024]⟩
abbrev S2x8x128x128 : Shape := ⟨4, ![2, 8, 128, 128]⟩
abbrev S2x8192x1024 : Shape := ⟨3, ![2, 8192, 1024]⟩
abbrev S1x128x2560 : Shape := ⟨3, ![1, 128, 2560]⟩
abbrev S1x128x128 : Shape := ⟨3, ![1, 128, 128]⟩
abbrev S1x3x1536 : Shape := ⟨3, ![1, 3, 1536]⟩
abbrev S1x8x128x128 : Shape := ⟨4, ![1, 8, 128, 128]⟩
abbrev S1x128x1024 : Shape := ⟨3, ![1, 128, 1024]⟩
abbrev S136x1536 : Shape := ⟨2, ![136, 1536]⟩
abbrev S8x128x128 : Shape := ⟨3, ![8, 128, 128]⟩
abbrev S128x1024 : Shape := ⟨2, ![128, 1024]⟩
abbrev S8x1536 : Shape := ⟨2, ![8, 1536]⟩
abbrev S3x1536 : Shape := ⟨2, ![3, 1536]⟩
abbrev S1x128x1536 : Shape := ⟨3, ![1, 128, 1536]⟩
abbrev S128x1536 : Shape := ⟨2, ![128, 1536]⟩
abbrev S128x256 : Shape := ⟨2, ![128, 256]⟩
abbrev S128x128 : Shape := ⟨2, ![128, 128]⟩
abbrev S128x1 : Shape := ⟨2, ![128, 1]⟩
abbrev S1x1 : Shape := ⟨2, ![1, 1]⟩
abbrev S128 : Shape := ⟨1, ![128]⟩

abbrev nBuf : Space → Nat
  | .hbm => 27
  | .vmem => 23
  | .smem => 0
  | _ => 0

abbrev bufTy : (tb : Table) → Fin (tcTables nBuf tb) → BufTy
  | .hbm, ⟨0, _⟩ => ⟨S2x8192x2560, .f32⟩
  | .hbm, ⟨1, _⟩ => ⟨S2x8192x128, .f32⟩
  | .hbm, ⟨2, _⟩ => ⟨S2x3x1536, .f32⟩
  | .hbm, ⟨3, _⟩ => ⟨S2x16x64x128, .f32⟩
  | .hbm, ⟨4, _⟩ => ⟨S4x1536, .f32⟩
  | .hbm, ⟨5, _⟩ => ⟨S1536, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S1024, .f32⟩
  | .hbm, ⟨10, _⟩ => ⟨S1x1536, .f32⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x16, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S2x8x128x128, .f32⟩
  | .hbm, ⟨24, _⟩ => ⟨S2x8192x1024, .f32⟩
  | .hbm, ⟨25, _⟩ => ⟨S2x8x128x128, .f32⟩
  | .hbm, ⟨26, _⟩ => ⟨S2x3x1536, .f32⟩
  | .local _ .vmem, ⟨0, _⟩ => ⟨S1x128x2560, .f32⟩
  | .local _ .vmem, ⟨1, _⟩ => ⟨S1x128x2560, .f32⟩
  | .local _ .vmem, ⟨2, _⟩ => ⟨S1x128x128, .f32⟩
  | .local _ .vmem, ⟨3, _⟩ => ⟨S1x128x128, .f32⟩
  | .local _ .vmem, ⟨4, _⟩ => ⟨S1x3x1536, .f32⟩
  | .local _ .vmem, ⟨5, _⟩ => ⟨S1x3x1536, .f32⟩
  | .local _ .vmem, ⟨6, _⟩ => ⟨S1x8x128x128, .f32⟩
  | .local _ .vmem, ⟨7, _⟩ => ⟨S1x8x128x128, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S1x3x1536, .f32⟩
  | .local _ .vmem, ⟨19, _⟩ => ⟨S1x3x1536, .f32⟩
  | .local _ .vmem, ⟨20, _⟩ => ⟨S136x1536, .f32⟩
  | .local _ .vmem, ⟨21, _⟩ => ⟨S8x128x128, .f32⟩
  | .local _ .vmem, ⟨22, _⟩ => ⟨S128x1024, .f32⟩
  | _, _ => ⟨S2x8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 64], ![false, false]⟩

def k0_cond3 (i : grid0.Coords) : BitVec 1 :=
  let arg1 : BitVec 32 := BitVec.ofNat 32 (i 1).val
  let c63_i32_206 : BitVec 32 := 63#32
  let v813 : BitVec 1 := Scalar.cmpi .eq arg1 c63_i32_206
  let v814 : BitVec 32 := Scalar.extui v813
  let c0_i32_207 : BitVec 32 := 0#32
  let v815 : BitVec 1 := Scalar.cmpi .ne v814 c0_i32_207
  v815

def k0_cond2 (i : grid0.Coords) : BitVec 1 :=
  let arg1 : BitVec 32 := BitVec.ofNat 32 (i 1).val
  let c63_i32 : BitVec 32 := 63#32
  let v34 : BitVec 1 := Scalar.cmpi .eq arg1 c63_i32
  let v35 : BitVec 32 := Scalar.extui v34
  let c0_i32_15 : BitVec 32 := 0#32
  let v36 : BitVec 1 := Scalar.cmpi .ne v35 c0_i32_15
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x3x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SsdReferenceIdeal.lean ====
abbrev S2x8192x2560 : Shape := ⟨3, ![2, 8192, 2560]⟩
abbrev S2x8192x128 : Shape := ⟨3, ![2, 8192, 128]⟩
abbrev S2x3x1536 : Shape := ⟨3, ![2, 3, 1536]⟩
abbrev S2x16x64x128 : Shape := ⟨4, ![2, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S2x8192x1536 : Shape := ⟨3, ![2, 8192, 1536]⟩
abbrev S2x8195x1536 : Shape := ⟨3, ![2, 8195, 1536]⟩
abbrev S1x1536 : Shape := ⟨2, ![1, 1536]⟩
abbrev S1x1x1536 : Shape := ⟨3, ![1, 1, 1536]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x2560, .f32⟩
  | .hbm, ⟨1, _⟩ => ⟨S2x8192x128, .f32⟩
  | .hbm, ⟨2, _⟩ => ⟨S2x3x1536, .f32⟩
  | .hbm, ⟨3, _⟩ => ⟨S2x16x64x128, .f32⟩
  | .hbm, ⟨4, _⟩ => ⟨S4x1536, .f32⟩
  | .hbm, ⟨5, _⟩ => ⟨S1536, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S1024, .f32⟩
  | .hbm, ⟨10, _⟩ => ⟨S2x8192x1536, .f32⟩
  | .hbm, ⟨11, _⟩ => ⟨S2x8195x1536, .f32⟩
  | .hbm, ⟨12, _⟩ => ⟨S2x8192x1536, .f32⟩
  | .hbm, ⟨13, _⟩ => ⟨S1x1536, .f32⟩
  | .hbm, ⟨14, _⟩ => ⟨S1536, .f32⟩
  | .hbm, ⟨15, _⟩ => ⟨S1x1x1536, .f32⟩
  | .hbm, ⟨16, _⟩ => ⟨S2x8192x1536, .f32⟩
  | .hbm, ⟨17, _⟩ => ⟨S2x8192x1536, .f32⟩
  | .hbm, ⟨18, _⟩ => ⟨S_, .f32⟩
  | .hbm, ⟨19, _⟩ => ⟨S2x8192x1536, .f32⟩
  | .hbm, ⟨20, _⟩ => ⟨S2x8192x1536, .f32⟩
  | .hbm, ⟨21, _⟩ => ⟨S2x8192x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S2x8192x1536, .f32⟩
  | .hbm, ⟨26, _⟩ => ⟨S2x8192x1536, .f32⟩
  | .hbm, ⟨27, _⟩ => ⟨S2x8192x1536, .f32⟩
  | .hbm, ⟨28, _⟩ => ⟨S2x8192x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S2x8192x1536, .f32⟩
  | .hbm, ⟨33, _⟩ => ⟨S2x8192x1536, .f32⟩
  | .hbm, ⟨34, _⟩ => ⟨S2x8192x1536, .f32⟩
  | .hbm, ⟨35, _⟩ => ⟨S2x8192x1536, .f32⟩
  | .hbm, ⟨36, _⟩ => ⟨S1x1536, .f32⟩
  | .hbm, ⟨37, _⟩ => ⟨S1536, .f32⟩
  | .hbm, ⟨38, _⟩ => ⟨S1x1x1536, .f32⟩
  | .hbm, ⟨39, _⟩ => ⟨S2x8192x1536, .f32⟩
  | .hbm, ⟨40, _⟩ => ⟨S2x8192x1536, .f32⟩
  | .hbm, ⟨41, _⟩ => ⟨S2x8192x1536, .f32⟩
  | .hbm, ⟨42, _⟩ => ⟨S1x1x1536, .f32⟩
  | .hbm, ⟨43, _⟩ => ⟨S2x8192x1536, .f32⟩
  | .hbm, ⟨44, _⟩ => ⟨S2x8192x1536, .f32⟩
  | .hbm, ⟨45, _⟩ => ⟨S2x3x1536, .f32⟩
  | _, _ => ⟨S2x8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== SampleSsd.lean ====
abbrev S128x8x2560 : Shape := ⟨3, ![128, 8, 2560]⟩
abbrev S128x8x128 : Shape := ⟨3, ![128, 8, 128]⟩
abbrev S128x3x1536 : Shape := ⟨3, ![128, 3, 1536]⟩
abbrev S128x16x64x128 : Shape := ⟨4, ![128, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x1536 : Shape := ⟨2, ![1, 1536]⟩
abbrev S1x16 : Shape := ⟨2, ![1, 16]⟩
abbrev S_ : Shape := ⟨0, ![]⟩
abbrev S1x128 : Shape := ⟨2, ![1, 128]⟩
abbrev S16x64 : Shape := ⟨2, ![16, 64]⟩
abbrev S1x1024 : Shape := ⟨2, ![1, 1024]⟩
abbrev S128x8x128x128 : Shape := ⟨4, ![128, 8, 128, 128]⟩
abbrev S128x8x1024 : Shape := ⟨3, ![128, 8, 1024]⟩
abbrev S1x8x2560 : Shape := ⟨3, ![1, 8, 2560]⟩
abbrev S1x8x128 : Shape := ⟨3, ![1, 8, 128]⟩
abbrev S1x3x1536 : Shape := ⟨3, ![1, 3, 1536]⟩
abbrev S1x8x128x128 : Shape := ⟨4, ![1, 8, 128, 128]⟩
abbrev S1x8x1024 : Shape := ⟨3, ![1, 8, 1024]⟩
abbrev S16x1536 : Shape := ⟨2, ![16, 1536]⟩
abbrev S8x128x128 : Shape := ⟨3, ![8, 128, 128]⟩
abbrev S8x1024 : Shape := ⟨2, ![8, 1024]⟩
abbrev S8x1536 : Shape := ⟨2, ![8, 1536]⟩
abbrev S3x1536 : Shape := ⟨2, ![3, 1536]⟩
abbrev S1x8x1536 : Shape := ⟨3, ![1, 8, 1536]⟩
abbrev S8x256 : Shape := ⟨2, ![8, 256]⟩
abbrev S8x128 : Shape := ⟨2, ![8, 128]⟩
abbrev S8x8 : Shape := ⟨2, ![8, 8]⟩
abbrev S128x8 : Shape := ⟨2, ![128, 8]⟩
abbrev S128x1 : Shape := ⟨2, ![128, 1]⟩
abbrev S128x128 : Shape := ⟨2, ![128, 128]⟩
abbrev S8x1 : Shape := ⟨2, ![8, 1]⟩
abbrev S1x8 : Shape := ⟨2, ![1, 8]⟩
abbrev S1x128x128 : Shape := ⟨3, ![1, 128, 128]⟩
abbrev S1x1 : Shape := ⟨2, ![1, 1]⟩
abbrev S8 : Shape := ⟨1, ![8]⟩

abbrev nBuf : Space → Nat
  | .hbm => 27
  | .vmem => 23
  | .smem => 0
  | _ => 0

abbrev bufTy : (tb : Table) → Fin (tcTables nBuf tb) → BufTy
  | .hbm, ⟨0, _⟩ => ⟨S128x8x2560, .f32⟩
  | .hbm, ⟨1, _⟩ => ⟨S128x8x128, .f32⟩
  | .hbm, ⟨2, _⟩ => ⟨S128x3x1536, .f32⟩
  | .hbm, ⟨3, _⟩ => ⟨S128x16x64x128, .f32⟩
  | .hbm, ⟨4, _⟩ => ⟨S4x1536, .f32⟩
  | .hbm, ⟨5, _⟩ => ⟨S1536, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S1024, .f32⟩
  | .hbm, ⟨10, _⟩ => ⟨S1x1536, .f32⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x16, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S128x8x128x128, .f32⟩
  | .hbm, ⟨24, _⟩ => ⟨S128x8x1024, .f32⟩
  | .hbm, ⟨25, _⟩ => ⟨S128x8x128x128, .f32⟩
  | .hbm, ⟨26, _⟩ => ⟨S128x3x1536, .f32⟩
  | .local _ .vmem, ⟨0, _⟩ => ⟨S1x8x2560, .f32⟩
  | .local _ .vmem, ⟨1, _⟩ => ⟨S1x8x2560, .f32⟩
  | .local _ .vmem, ⟨2, _⟩ => ⟨S1x8x128, .f32⟩
  | .local _ .vmem, ⟨3, _⟩ => ⟨S1x8x128, .f32⟩
  | .local _ .vmem, ⟨4, _⟩ => ⟨S1x3x1536, .f32⟩
  | .local _ .vmem, ⟨5, _⟩ => ⟨S1x3x1536, .f32⟩
  | .local _ .vmem, ⟨6, _⟩ => ⟨S1x8x128x128, .f32⟩
  | .local _ .vmem, ⟨7, _⟩ => ⟨S1x8x128x128, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S1x3x1536, .f32⟩
  | .local _ .vmem, ⟨19, _⟩ => ⟨S1x3x1536, .f32⟩
  | .local _ .vmem, ⟨20, _⟩ => ⟨S16x1536, .f32⟩
  | .local _ .vmem, ⟨21, _⟩ => ⟨S8x128x128, .f32⟩
  | .local _ .vmem, ⟨22, _⟩ => ⟨S8x1024, .f32⟩
  | _, _ => ⟨S128x8x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![128, 1], ![false, false]⟩

def k0_cond3 (i : grid0.Coords) : BitVec 1 :=
  let arg1 : BitVec 32 := BitVec.ofNat 32 (i 1).val
  let c0_i32_207 : BitVec 32 := 0#32
  let v813 : BitVec 1 := Scalar.cmpi .eq arg1 c0_i32_207
  let v814 : BitVec 32 := Scalar.extui v813
  let c0_i32_208 : BitVec 32 := 0#32
  let v815 : BitVec 1 := Scalar.cmpi .ne v814 c0_i32_208
  v815

def k0_cond2 (i : grid0.Coords) : BitVec 1 :=
  let arg1 : BitVec 32 := BitVec.ofNat 32 (i 1).val
  let c0_i32_15 : BitVec 32 := 0#32
  let v34 : BitVec 1 := Scalar.cmpi .eq arg1 c0_i32_15
  let v35 : BitVec 32 := Scalar.extui v34
  let c0_i32_16 : BitVec 32 := 0#32
  let v36 : BitVec 1 := Scalar.cmpi .ne v35 c0_i32_16
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x3x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SampleSsdReferenceIdeal.lean ====
abbrev S128x8x2560 : Shape := ⟨3, ![128, 8, 2560]⟩
abbrev S128x8x128 : Shape := ⟨3, ![128, 8, 128]⟩
abbrev S128x3x1536 : Shape := ⟨3, ![128, 3, 1536]⟩
abbrev S128x16x64x128 : Shape := ⟨4, ![128, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S128x8x1536 : Shape := ⟨3, ![128, 8, 1536]⟩
abbrev S128x11x1536 : Shape := ⟨3, ![128, 11, 1536]⟩
abbrev S1x1536 : Shape := ⟨2, ![1, 1536]⟩
abbrev S1x1x1536 : Shape := ⟨3, ![1, 1, 1536]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S128x8x2560, .f32⟩
  | .hbm, ⟨1, _⟩ => ⟨S128x8x128, .f32⟩
  | .hbm, ⟨2, _⟩ => ⟨S128x3x1536, .f32⟩
  | .hbm, ⟨3, _⟩ => ⟨S128x16x64x128, .f32⟩
  | .hbm, ⟨4, _⟩ => ⟨S4x1536, .f32⟩
  | .hbm, ⟨5, _⟩ => ⟨S1536, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S1024, .f32⟩
  | .hbm, ⟨10, _⟩ => ⟨S128x8x1536, .f32⟩
  | .hbm, ⟨11, _⟩ => ⟨S128x11x1536, .f32⟩
  | .hbm, ⟨12, _⟩ => ⟨S128x8x1536, .f32⟩
  | .hbm, ⟨13, _⟩ => ⟨S1x1536, .f32⟩
  | .hbm, ⟨14, _⟩ => ⟨S1536, .f32⟩
  | .hbm, ⟨15, _⟩ => ⟨S1x1x1536, .f32⟩
  | .hbm, ⟨16, _⟩ => ⟨S128x8x1536, .f32⟩
  | .hbm, ⟨17, _⟩ => ⟨S128x8x1536, .f32⟩
  | .hbm, ⟨18, _⟩ => ⟨S_, .f32⟩
  | .hbm, ⟨19, _⟩ => ⟨S128x8x1536, .f32⟩
  | .hbm, ⟨20, _⟩ => ⟨S128x8x1536, .f32⟩
  | .hbm, ⟨21, _⟩ => ⟨S128x8x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S128x8x1536, .f32⟩
  | .hbm, ⟨26, _⟩ => ⟨S128x8x1536, .f32⟩
  | .hbm, ⟨27, _⟩ => ⟨S128x8x1536, .f32⟩
  | .hbm, ⟨28, _⟩ => ⟨S128x8x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S128x8x1536, .f32⟩
  | .hbm, ⟨33, _⟩ => ⟨S128x8x1536, .f32⟩
  | .hbm, ⟨34, _⟩ => ⟨S128x8x1536, .f32⟩
  | .hbm, ⟨35, _⟩ => ⟨S128x8x1536, .f32⟩
  | .hbm, ⟨36, _⟩ => ⟨S1x1536, .f32⟩
  | .hbm, ⟨37, _⟩ => ⟨S1536, .f32⟩
  | .hbm, ⟨38, _⟩ => ⟨S1x1x1536, .f32⟩
  | .hbm, ⟨39, _⟩ => ⟨S128x8x1536, .f32⟩
  | .hbm, ⟨40, _⟩ => ⟨S128x8x1536, .f32⟩
  | .hbm, ⟨41, _⟩ => ⟨S128x8x1536, .f32⟩
  | .hbm, ⟨42, _⟩ => ⟨S1x1x1536, .f32⟩
  | .hbm, ⟨43, _⟩ => ⟨S128x8x1536, .f32⟩
  | .hbm, ⟨44, _⟩ => ⟨S128x8x1536, .f32⟩
  | .hbm, ⟨45, _⟩ => ⟨S128x3x1536, .f32⟩
  | _, _ => ⟨S128x8x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Cases.lean ====
/- What one grid point of the kernel leaves in its three scratch arrays and in its output block, as the body's own
   named terms over the point's input blocks: the running sum of the experts, the gates, the rows cast down. -/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.RoutedFfn

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem zero2 : (![0, 0] : Fin 2 → Nat) = fun _ => 0 := funext fun a => by match a with | ⟨0, _⟩ => rfl | ⟨1, _⟩ => rfl
theorem zero3 : (![0, 0, 0] : Fin 3 → Nat) = fun _ => 0 :=
  funext fun a => by match a with | ⟨0, _⟩ => rfl | ⟨1, _⟩ => rfl | ⟨2, _⟩ => rfl

/-- The gates of a block of rows `x` under the padded router matrix `wr`: what a row tile's first point stores. -/
def gatesOf (x : Vec F S512x1024 .f32) (wr : Vec F S1024x128 .f32) : Vec F S512x128 .f32 :=
  k0_pay12 (iota .tc S512x128 32 [1] iota_S512x128_d1_w32) (k0_pay7 x wr) (k0_pay10 x wr) (k0_pay11 x wr)

/-- The gates after a row tile's first point. -/
theorem gates_A (c : Dev nD) (t : Fin cfg0.N) (h0 : t.val % 16 = 0) :
    (outsAt0 m c t.val t.isLt).2.2.1 = gatesOf (iblk m c 0 t) (iblk m c 1 t) := by
  rw [outsAt0_A m c t h0 (by omega)]
  dsimp only
  unfold sout0_A_1
  rw [View.read_writes_eq_canon _ _ _ (scover0_A_1 c _ _ _ _ _ _ _ _ _ _ _ _ _ _ _ _ _ _ _ _ _ _ _ _ _ _ _ _ _ _ _ _ )]
  unfold kernelRun0_A
  dsimp only
  sl_unfold_words
  rw [View.canon_unit_zero zero2]
  simp only [View.readAt_eq_ld, (hs0_0 t).read_unread, (hs0_1 t).read_unread,
    View.ld_unit_zero (S := S512x1024) zero2, View.ld_unit_zero (S := S1024x128) zero2]
  rfl

/-- The rows cast down after a row tile's first point. -/
theorem rows_A (c : Dev nD) (t : Fin cfg0.N) (h0 : t.val % 16 = 0) :
    (outsAt0 m c t.val t.isLt).2.2.2 = k0_pay4 (iblk m c 0 t) := by
  rw [outsAt0_A m c t h0 (by omega)]
  dsimp only
  unfold sout0_A_2
  rw [View.read_writes_eq_canon _ _ _ (scover0_A_2 c _ _ _ _ _ _ _ _ _ _ _ _ _ _ _ _ _ _ _ _ _ _ _ _ _ _ _ _ _ _ _ _ )]
  unfold kernelRun0_A
  dsimp only
  sl_unfold_words
  rw [View.canon_unit_zero zero2]
  simp only [View.readAt_eq_ld, (hs0_0 t).read_unread, View.ld_unit_zero (S := S512x1024) zero2]

/-- The running sum after a row tile's first point: one step from zero. -/
theorem acc_A (c : Dev nD) (t : Fin cfg0.N) (h0 : t.val % 16 = 0) :
    (outsAt0 m c t.val t.isLt).2.1
      = k0_pay1 (k0_pay13 (grid0.coords t) (k0_pay4 (iblk m c 0 t)) (iblk m c 2 t) (iblk m c 3 t) (gatesOf (iblk m c 0 t) (iblk m c 1 t)) k0_pay3 (iblk m c 4 t)) := by
  rw [outsAt0_A m c t h0 (by omega)]
  dsimp only
  unfold sout0_A_0
  rw [View.read_writes_eq_canon _ _ _ (scover0_A_0 c _ _ _ _ _ _ _ _ _ _ _ _ _ _ _ _ _ _ _ _ _ _ _ _ _ _ _ _ _ _ _ _ )]
  unfold kernelRun0_A
  dsimp only
  sl_unfold_words
  rw [View.canon_cons_unit_zero zero2]
  rw [View.readCov_unit_zero (S := S512x1024) _ zero2]
  rw [View.readCov_unit_zero (S := S512x1024) _ zero2]
  rw [View.readCov_unit_zero (S := S512x128) _ zero2]
  simp only [View.readAt_eq_ld, (hs0_0 t).read_unread, (hs0_1 t).read_unread, (hs0_2 t).read_unread,
    (hs0_3 t).read_unread, (hs0_4 t).read_unread, View.ld_unit_zero (S := S512x1024) zero2,
    View.ld_unit_zero (S := S1024x128) zero2, View.ld_unit_zero (S := S1x1024x1408) zero3,
    View.ld_unit_zero (S := S1x1408x1024) zero3]
  rfl

/-- The gates are left alone at a middle point. -/
theorem gates_B (c : Dev nD) (t : Fin cfg0.N) (h0 : ¬t.val % 16 = 0) (h1 : ¬t.val % 16 = 15) :
    (outsAt0 m c t.val t.isLt).2.2.1 = (outsAt0 m c (t.val - 1) (by omega)).2.2.1 := by
  rw [outsAt0_B m c t h0 h1]
  dsimp only
  unfold sout0_B_1
  rfl

/-- The rows cast down are left alone at a middle point. -/
theorem rows_B (c : Dev nD) (t : Fin cfg0.N) (h0 : ¬t.val % 16 = 0) (h1 : ¬t.val % 16 = 15) :
    (outsAt0 m c t.val t.isLt).2.2.2 = (outsAt0 m c (t.val - 1) (by omega)).2.2.2 := by
  rw [outsAt0_B m c t h0 h1]
  dsimp only
  unfold sout0_B_2
  rfl

/-- The running sum after a middle point: one step more. -/
theorem acc_B (c : Dev nD) (t : Fin cfg0.N) (h0 : ¬t.val % 16 = 0) (h1 : ¬t.val % 16 = 15) :
    (outsAt0 m c t.val t.isLt).2.1
      = k0_pay1 (k0_pay13 (grid0.coords t) (outsAt0 m c (t.val - 1) (by omega)).2.2.2 (iblk m c 2 t) (iblk m c 3 t) (outsAt0 m c (t.val - 1) (by omega)).2.2.1
          (outsAt0 m c (t.val - 1) (by omega)).2.1 (iblk m c 4 t)) := by
  rw [outsAt0_B m c t h0 h1]
  dsimp only
  unfold sout0_B_0
  rw [View.read_writes_eq_canon _ _ _ (scover0_B_0 c _ _ _ _ _ _ _ _ _ _ _ _ _ _ _ _ _ _ _ _ _ _ _ _ _ _ _ _ _ _ _ _ _ _ _ )]
  unfold kernelRun0_B
  dsimp only
  sl_unfold_words
  rw [View.canon_unit_zero zero2]
  simp only [View.readAt_eq_ld, (hs0_2 t).read_unread, (hs0_3 t).read_unread, (hs0_4 t).read_unread,
    (Memref.isWhole_whole cc0_scratch0).read_unread, (Memref.isWhole_whole cc0_scratch1).read_unread,
    (Memref.isWhole_whole cc0_scratch2).read_unread, View.ld_unit_zero (S := S512x1024) zero2,
    View.ld_unit_zero (S := S512x128) zero2, View.ld_unit_zero (S := S1x1024x1408) zero3,
    View.ld_unit_zero (S := S1x1408x1024) zero3]

/-- The gates are left alone at a row tile's last point. -/
theorem gates_C (c : Dev nD) (t : Fin cfg0.N) (h1 : t.val % 16 = 15) :
    (outsAt0 m c t.val t.isLt).2.2.1 = (outsAt0 m c (t.val - 1) (by omega)).2.2.1 := by
  rw [outsAt0_C m c t (by omega) h1]
  dsimp only
  unfold sout0_C_1
  rfl

/-- The rows cast down are left alone at a row tile's last point. -/
theorem rows_C (c : Dev nD) (t : Fin cfg0.N) (h1 : t.val % 16 = 15) :
    (outsAt0 m c t.val t.isLt).2.2.2 = (outsAt0 m c (t.val - 1) (by omega)).2.2.2 := by
  rw [outsAt0_C m c t (by omega) h1]
  dsimp only
  unfold sout0_C_2
  rfl

/-- The running sum after a row tile's last point: one step more. -/
theorem acc_C (c : Dev nD) (t : Fin cfg0.N) (h1 : t.val % 16 = 15) :
    (outsAt0 m c t.val t.isLt).2.1
      = k0_pay1 (k0_pay13 (grid0.coords t) (outsAt0 m c (t.val - 1) (by omega)).2.2.2 (iblk m c 2 t) (iblk m c 3 t) (outsAt0 m c (t.val - 1) (by omega)).2.2.1
          (outsAt0 m c (t.val - 1) (by omega)).2.1 (iblk m c 4 t)) := by
  rw [outsAt0_C m c t (by omega) h1]
  dsimp only
  unfold sout0_C_0
  rw [View.read_writes_eq_canon _ _ _ (scover0_C_0 c _ _ _ _ _ _ _ _ _ _ _ _ _ _ _ _ _ _ _ _ _ _ _ _ _ _ _ _ _ _ _ _ _ _ _ )]
  unfold kernelRun0_C
  dsimp only
  sl_unfold_words
  rw [View.canon_unit_zero zero2]
  simp only [View.readAt_eq_ld, (hs0_2 t).read_unread, (hs0_3 t).read_unread, (hs0_4 t).read_unread,
    (Memref.isWhole_whole cc0_scratch0).read_unread, (Memref.isWhole_whole cc0_scratch1).read_unread,
    (Memref.isWhole_whole cc0_scratch2).read_unread, View.ld_unit_zero (S := S512x1024) zero2,
    View.ld_unit_zero (S := S512x128) zero2, View.ld_unit_zero (S := S1x1024x1408) zero3,
    View.ld_unit_zero (S := S1x1408x1024) zero3]

/-- What a row tile's last point writes out: the layer norm over the finished sum. -/
theorem out_C (c : Dev nD) (t : Fin cfg0.N) (h1 : t.val % 16 = 15) :
    (outsAt0 m c t.val t.isLt).1
      = k0_pay2 (iblk m c 0 t) (k0_pay1 (k0_pay13 (grid0.coords t) (outsAt0 m c (t.val - 1) (by omega)).2.2.2 (iblk m c 2 t) (iblk m c 3 t) (outsAt0 m c (t.val - 1) (by omega)).2.2.1
          (outsAt0 m c (t.val - 1) (by omega)).2.1 (iblk m c 4 t))) (iblk m c 5 t) (iblk m c 6 t) := by
  rw [outsAt0_C m c t (by omega) h1]
  dsimp only
  unfold out0_C_7
  rw [View.read_writes_eq_canon _ _ _ (cover0_C_7 c _ _ _ _ _ _ _ _ _ _ _ _ _ _ _ _ _ _ _ _ _ _ _ _ _ _ _ _ _ _ _ _ _ _ _ )]
  unfold kernelRun0_C
  dsimp only
  sl_unfold_words
  rw [View.canon_unit_zero zero2]
  rw [View.readCov_unit_zero (S := S512x1024) _ zero2]
  simp only [View.readAt_eq_ld, (hs0_0 t).read_unread, (hs0_2 t).read_unread, (hs0_3 t).read_unread,
    (hs0_4 t).read_unread, (hs0_5 t).read_unread, (hs0_6 t).read_unread,
    (Memref.isWhole_whole cc0_scratch0).read_unread, (Memref.isWhole_whole cc0_scratch1).read_unread,
    (Memref.isWhole_whole cc0_scratch2).read_unread, View.ld_unit_zero (S := S512x1024) zero2,
    View.ld_unit_zero (S := S512x128) zero2, View.ld_unit_zero (S := S1x1024) zero2,
    View.ld_unit_zero (S := S1x1024x1408) zero3, View.ld_unit_zero (S := S1x1408x1024) zero3]

end Cert.RoutedFfn

end
-- ==== Proof.Top2.lean ====
/-
  The two largest of eight numbers, ties to the lower index: what it means (`IsTop2`), that they exist, and how the two
  programs find them. One takes a maximum over 128 lanes and the least lane that attains it, then does so again with that
  lane masked; the other sorts the row in decreasing order, stably, and keeps the first two.
-/
module

public import Idealize.ShloMosaic.Lib.Pointwise
public import Idealize.ShloMosaic.Lib.SortPrefix
public import Idealize.ShloMosaic.Lib.SortNet.Extract
public import Idealize.ShloMosaic.PureOps.Ideal

@[expose] public section

noncomputable section

namespace Cert.RoutedFfn

open Idealize.ShloMosaic

/-- `a` is the first index of the greatest entry and `b` the first index of the greatest of the others. -/
structure IsTop2 (L : Fin 8 → EReal) (a b : Fin 8) : Prop where
  max : ∀ j, L j ≤ L a
  first : ∀ j, L j = L a → a ≤ j
  ne : b ≠ a
  max2 : ∀ j, j ≠ a → L j ≤ L b
  first2 : ∀ j, j ≠ a → L j = L b → b ≤ j

/-- A nonempty set of indices has a first index of its greatest entry. -/
theorem exists_first_max (L : Fin 8 → EReal) (s : Finset (Fin 8)) (hs : s.Nonempty) :
    ∃ a ∈ s, (∀ j ∈ s, L j ≤ L a) ∧ ∀ j ∈ s, L j = L a → a ≤ j := by
  obtain ⟨p, hp, hmax⟩ := s.exists_max_image L hs
  have hne : (s.filter fun j => L j = L p).Nonempty := ⟨p, Finset.mem_filter.mpr ⟨hp, rfl⟩⟩
  have hm := Finset.mem_filter.mp (Finset.min'_mem _ hne)
  refine ⟨_, hm.1, fun j hj => (hmax j hj).trans hm.2.ge, fun j hj e => ?_⟩
  exact Finset.min'_le _ _ (Finset.mem_filter.mpr ⟨hj, e.trans hm.2⟩)

/-- Every row has its two largest. -/
theorem exists_top2 (L : Fin 8 → EReal) : ∃ a b, IsTop2 L a b := by
  obtain ⟨a, -, h1, h2⟩ := exists_first_max L Finset.univ ⟨0, Finset.mem_univ _⟩
  have hne : (Finset.univ.erase a).Nonempty := by
    rw [← Finset.card_pos, Finset.card_erase_of_mem (Finset.mem_univ a), Finset.card_univ, Fintype.card_fin]
    decide
  obtain ⟨b, hb, h3, h4⟩ := exists_first_max L (Finset.univ.erase a) hne
  exact ⟨a, b, fun j => h1 j (Finset.mem_univ _), fun j => h2 j (Finset.mem_univ _), Finset.ne_of_mem_erase hb,
    fun j hj => h3 j (Finset.mem_erase.mpr ⟨hj, Finset.mem_univ _⟩),
    fun j hj => h4 j (Finset.mem_erase.mpr ⟨hj, Finset.mem_univ _⟩)⟩

/-! ## By maxima over the lanes -/

/-- A maximum is known from a bound that is attained. -/
theorem fold_max_eq {ι : Type} [Fintype ι] (z M : EReal) (f : ι → EReal) (hz : z ≤ M) (hle : ∀ l, f l ≤ M)
    (l : ι) (hl : f l = M) : Finset.univ.fold max z f = M :=
  le_antisymm (Finset.fold_max_le M |>.mpr ⟨hz, fun l _ => hle l⟩)
    (Finset.le_fold_max M |>.mpr (Or.inr ⟨l, Finset.mem_univ _, hl.ge⟩))

/-- The signed minimum of words, read in integers. -/
theorem toInt_fold_minsi {ι : Type} [DecidableEq ι] (z : BitVec 32) (g : ι → BitVec 32) (s : Finset ι) :
    (s.fold IntOp.minsi z g).toInt = s.fold min z.toInt (fun l => (g l).toInt) := by
  induction s using Finset.induction_on with
  | empty => simp
  | insert a s ha ih => rw [Finset.fold_insert ha, Finset.fold_insert ha, SortNet.toInt_minsi, ih]

/-- A signed minimum of words is known from a bound that is attained. -/
theorem fold_minsi_eq {ι : Type} [Fintype ι] [DecidableEq ι] (z v : BitVec 32) (g : ι → BitVec 32)
    (hz : v.toInt ≤ z.toInt) (hle : ∀ l, v.toInt ≤ (g l).toInt) (l : ι) (hl : g l = v) :
    Finset.univ.fold IntOp.minsi z g = v := by
  apply BitVec.eq_of_toInt_eq
  rw [toInt_fold_minsi]
  exact le_antisymm (Finset.fold_min_le _ |>.mpr (Or.inr ⟨l, Finset.mem_univ _, by rw [hl]⟩))
    (Finset.le_fold_min _ |>.mpr ⟨hz, fun l _ => hle l⟩)

/-- A small number's word is the number. -/
theorem toInt_ofNat (n : Nat) (h : n < 1024) : (BitVec.ofNat 32 n).toInt = n := by
  rw [BitVec.toInt_ofNat']
  simp only [Int.bmod_def]
  omega

theorem ofNat_inj (m n : Nat) (hm : m < 1024) (hn : n < 1024) : BitVec.ofNat 32 m = BitVec.ofNat 32 n ↔ m = n := by
  refine ⟨fun e => ?_, fun e => by rw [e]⟩
  have := congrArg BitVec.toInt e
  rw [toInt_ofNat m hm, toInt_ofNat n hn] at this
  exact_mod_cast this

section Lanes

variable (L : Fin 8 → EReal) (a b : Fin 8) (h : IsTop2 L a b)

/-- A row of eight numbers in 128 lanes, minus infinity beyond them. -/
def lanes (l : Fin 128) : EReal := if h : l.val < 8 then L ⟨l.val, h⟩ else ⊥

/-- The same with one lane masked. -/
def lanesBut (l : Fin 128) : EReal := if l.val = a.val then ⊥ else lanes L l

/-- An index below eight as a lane. -/
def lane (a : Fin 8) : Fin 128 := ⟨a.val, by omega⟩

theorem lanes_lane : lanes L (lane a) = L a := by simp [lanes, lane]

include h

theorem fold_lanes : Finset.univ.fold max ⊥ (lanes L) = L a := by
  refine fold_max_eq _ _ _ bot_le (fun l => ?_) (lane a) (lanes_lane L a)
  unfold lanes
  split
  · exact h.max _
  · exact bot_le

theorem index_lanes : Finset.univ.fold IntOp.minsi 2147483647#32
    (fun l : Fin 128 => if lanes L l = L a then BitVec.ofNat 32 l.val else 128#32) = BitVec.ofNat 32 a.val := by
  refine fold_minsi_eq _ _ _ ?_ (fun l => ?_) (lane a) (by rw [if_pos (lanes_lane L a)]; rfl)
  · rw [toInt_ofNat _ (by omega)]
    have : (2147483647#32).toInt = 2147483647 := by decide
    omega
  · rw [toInt_ofNat _ (by omega)]
    split
    · rename_i e
      rw [toInt_ofNat _ (by omega)]
      unfold lanes at e
      split at e
      · exact_mod_cast (h.first _ e)
      · omega
    · have : (128#32).toInt = 128 := by decide
      omega

theorem fold_lanesBut : Finset.univ.fold max ⊥ (lanesBut L a) = L b := by
  have hb : b.val ≠ a.val := fun e => h.ne (Fin.ext e)
  refine fold_max_eq _ _ _ bot_le (fun l => ?_) (lane b) ?_
  · unfold lanesBut lanes
    split
    · exact bot_le
    · split
      · exact h.max2 _ (fun e => by rename_i h1 _; exact h1 (congrArg Fin.val e))
      · exact bot_le
  · unfold lanesBut
    rw [if_neg (by exact hb), lanes_lane]

theorem index_lanesBut (hbot : L b ≠ ⊥) : Finset.univ.fold IntOp.minsi 2147483647#32
    (fun l : Fin 128 => if lanesBut L a l = L b then BitVec.ofNat 32 l.val else 128#32) = BitVec.ofNat 32 b.val := by
  have hb : b.val ≠ a.val := fun e => h.ne (Fin.ext e)
  refine fold_minsi_eq _ _ _ ?_ (fun l => ?_) (lane b) (by
    rw [if_pos]
    · rfl
    · unfold lanesBut
      rw [if_neg (by exact hb), lanes_lane])
  · rw [toInt_ofNat _ (by omega)]
    have : (2147483647#32).toInt = 2147483647 := by decide
    omega
  · rw [toInt_ofNat _ (by omega)]
    split
    · rename_i e
      rw [toInt_ofNat _ (by omega)]
      unfold lanesBut lanes at e
      split at e
      · exact absurd e.symm hbot
      · split at e
        · rename_i h1 _
          exact_mod_cast (h.first2 _ (fun e => h1 (congrArg Fin.val e)) e)
        · omega
    · have : (128#32).toInt = 128 := by decide
      omega

end Lanes

/-! ## By a stable sort -/

/-- A stable sort asks its order only of a later entry against an earlier one. -/
theorem stableSort_congr_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Sorting in decreasing order, stably, puts the two largest first. -/
theorem sortedFrom_top2 (L : Fin 8 → EReal) (a b : Fin 8) (h : IsTop2 L a b) :
    sortedFrom (fun k k' => Ideal.cmpTotal .gt (L k) (L k') == 1#1) 0 = a
    ∧ sortedFrom (fun k k' => Ideal.cmpTotal .gt (L k) (L k') == 1#1) 1 = b := by
  classical
  set B : Fin 8 → Fin 8 → Bool :=
    fun k k' => decide (L k' < L k) || (decide (L k = L k') && decide (k < k')) with hBdef
  have hB : StrictTotalBefore B :=
    StrictTotalBefore.of_key_then_position (fun x y : EReal => decide (y < x)) L (fun x => by simp)
      (fun x y z hxy hyz => by simp only [decide_eq_true_eq] at *; exact lt_trans hyz hxy)
      (fun x y => by
        rcases lt_trichotomy x y with h | h | h
        · exact Or.inr (Or.inr (by simpa using h))
        · exact Or.inr (Or.inl h)
        · exact Or.inl (by simpa using h))
  have hs : sortPositions 8 (fun k k' => Ideal.cmpTotal .gt (L k) (L k') == 1#1) = sortPositions 8 B := by
    refine stableSort_congr_later _ _ _ ?_
    refine (List.pairwise_lt_finRange 8).imp fun {p q} hpq => ?_
    have : ¬ q < p := not_lt.mpr hpq.le
    simp only [hBdef, this, Ideal.cmpTotal, Ideal.cmp, CmpDirection.ordered, decide_false, Bool.and_false, Bool.or_false]
    by_cases e : L p < L q <;> simp [e]
  have hf : sortedFrom (fun k k' => Ideal.cmpTotal .gt (L k) (L k') == 1#1) = sortedFrom B := by
    funext k
    unfold sortedFrom
    rw [List.get_of_eq hs]
    rfl
  have key := hB.sortedFrom_eq_of_prefix (k := 2) (by omega) ![a, b] (by
      intro i j
      fin_cases i <;> fin_cases j <;> simp [h.ne, h.ne.symm])
    (by
      intro i j hij
      fin_cases i <;> fin_cases j <;> simp at hij ⊢
      simp only [hBdef, Bool.or_eq_false_iff, Bool.and_eq_false_iff, decide_eq_false_iff_not]
      refine ⟨not_lt.mpr (h.max b), ?_⟩
      by_cases e : L b = L a
      · exact Or.inr (not_lt.mpr (h.first b e))
      · exact Or.inl e)
    (by
      intro i p hp
      have ha : p ≠ a := fun e => hp 0 e.symm
      have hb : p ≠ b := fun e => hp 1 e.symm
      fin_cases i
      · simp only [hBdef, Bool.or_eq_false_iff, Bool.and_eq_false_iff, decide_eq_false_iff_not]
        refine ⟨not_lt.mpr (h.max p), ?_⟩
        by_cases e : L p = L a
        · exact Or.inr (not_lt.mpr (h.first p e))
        · exact Or.inl e
      · simp only [hBdef, Bool.or_eq_false_iff, Bool.and_eq_false_iff, decide_eq_false_iff_not]
        refine ⟨not_lt.mpr (h.max2 p ha), ?_⟩
        by_cases e : L p = L b
        · exact Or.inr (not_lt.mpr (h.first2 p ha e))
        · exact Or.inl e)
  rw [hf]
  exact ⟨key 0, key 1⟩

end Cert.RoutedFfn
-- ==== Proof.Gates.lean ====
/-
  The gates of a block of rows. For a row with its two largest logits at experts `a` and `b`, the gates array holds at
  expert `e`'s lane the weight of `a` if `e = a`, of `b` if `e = b`, and zero otherwise (`topGate`).
-/
module

public import proofs.«01_k».proof.Proof.Cases
public import proofs.«01_k».proof.Proof.Top2

@[expose] public section

set_option maxRecDepth 16384

noncomputable section

namespace Cert.RoutedFfn

open Cert.KernelIdeal Cert.KernelIdeal.Gen
open Idealize.ShloMosaic Idealize.ShloMosaic.TcCoe Idealize.SL.Sem

theorem negInf : Ideal.ofBits .f32 4286578688#32 = ⊥ := by
  simp [Ideal.ofBits, Ideal.ieee]

theorem select_eq {α : Type} (m n : Nat) (hm : m < 1024) (hn : n < 1024) (x y : α) :
    Scalar.select (IntOp.cmpi .eq (BitVec.ofNat 32 m) (BitVec.ofNat 32 n)) x y = if m = n then x else y := by
  by_cases e : m = n
  · subst e
    simp [Scalar.select, IntOp.cmpi]
  · have : ¬ BitVec.ofNat 32 m = BitVec.ofNat 32 n := fun h => e ((ofNat_inj m n hm hn).mp h)
    have hb : (BitVec.ofNat 32 m == BitVec.ofNat 32 n) = false := beq_eq_false_iff_ne.mpr this
    simp [Scalar.select, IntOp.cmpi, hb, e]

theorem select_slt {α : Type} (m : Nat) (hm : m < 1024) (x y : α) :
    Scalar.select (IntOp.cmpi .slt (BitVec.ofNat 32 m) 8#32) x y = if m < 8 then x else y := by
  have h8 : (8#32).toInt = 8 := by decide
  by_cases e : m < 8
  · have : (BitVec.ofNat 32 m).slt 8#32 = true := decide_eq_true (by rw [toInt_ofNat m hm, h8]; omega)
    simp [Scalar.select, IntOp.cmpi, this, e]
  · have : (BitVec.ofNat 32 m).slt 8#32 = false := decide_eq_false (by rw [toInt_ofNat m hm, h8]; omega)
    simp [Scalar.select, IntOp.cmpi, this, e]

/-- The gate of expert `e` when the two largest logits are those of `a` and `b`. -/
def topGate (L : Fin 8 → EReal) (a b e : Fin 8) : EReal :=
  (if e = a then Ideal.div 1 (1 + Ideal.exp (L b - L a)) else 0)
    + (if e = b then Ideal.exp (L b - L a) * Ideal.div 1 (1 + Ideal.exp (L b - L a)) else 0)

/-- A row's eight logits, from a block of rows and the padded router. -/
def rowLogits (x : Vec Ideal S512x1024 .f32) (wr : Vec Ideal S1024x128 .f32) (r : Fin 512) (e : Fin 8) : EReal :=
  ∑ k : Fin 1024, x (ix2 r k) * wr (ix2 k (lane e))

section

variable (x : Vec Ideal S512x1024 .f32) (wr : Vec Ideal S1024x128 .f32) (r : Fin 512)

theorem pay5_at (l : Fin 128) : k0_pay5 x wr (ix2 r l) = lanes (rowLogits x wr r) l := by
  unfold k0_pay5
  pointwise
  rw [negInf, select_slt _ (by omega)]
  rfl

variable (a b : Fin 8) (h : IsTop2 (rowLogits x wr r) a b)

include h

theorem pay6_at : k0_pay6 x wr (ix2 r 0) = rowLogits x wr r a := by
  unfold k0_pay6
  pointwise
  simp only [negInf, pay5_at]
  exact fold_lanes _ a b h

theorem pay7_at : k0_pay7 x wr (ix2 r 0) = BitVec.ofNat 32 a.val := by
  unfold k0_pay7
  pointwise
  simp only [pay5_at, pay6_at x wr r a b h]
  exact index_lanes _ a b h

theorem pay8_at (l : Fin 128) : k0_pay8 x wr (ix2 r l) = lanesBut (rowLogits x wr r) a l := by
  unfold k0_pay8
  pointwise
  rw [negInf, pay7_at x wr r a b h, pay5_at, select_eq _ _ (by omega) (by omega)]
  rfl

theorem pay9_at : k0_pay9 x wr (ix2 r 0) = rowLogits x wr r b := by
  unfold k0_pay9
  pointwise
  simp only [negInf, pay8_at x wr r a b h]
  exact fold_lanesBut _ a b h

theorem pay10_at (hbot : rowLogits x wr r b ≠ ⊥) : k0_pay10 x wr (ix2 r 0) = BitVec.ofNat 32 b.val := by
  unfold k0_pay10
  pointwise
  simp only [pay8_at x wr r a b h, pay9_at x wr r a b h]
  exact index_lanesBut _ a b h hbot

/-- The gates array at an expert's lane. -/
theorem gatesOf_at (hbot : rowLogits x wr r b ≠ ⊥) (e : Fin 8) :
    gatesOf x wr (ix2 r (lane e)) = topGate (rowLogits x wr r) a b e := by
  have he : k0_pay11 x wr (ix2 r 0) = Ideal.exp (rowLogits x wr r b - rowLogits x wr r a) := by
    unfold k0_pay11
    pointwise
    rw [pay9_at x wr r a b h, pay6_at x wr r a b h]
  unfold gatesOf k0_pay12
  pointwise
  rw [he, pay7_at x wr r a b h, pay10_at x wr r a b h hbot, select_eq _ _ (by simp [lane]; omega) (by omega),
    select_eq _ _ (by simp [lane]; omega) (by omega)]
  have hv (c : Fin 8) : ((lane e).val = c.val) ↔ e = c := by
    rw [Fin.ext_iff]
    rfl
  simp only [topGate, hv]

end

end Cert.RoutedFfn
-- ==== Proof.Terms.lean ====
/-
  Two terms that several calls share: a hidden unit of a gated feed-forward network, and an entry of a normalized row.
-/
module

public import Idealize.ShloMosaic.Lib.Pointwise

@[expose] public section

set_option maxRecDepth 16384

noncomputable section

namespace Cert.Layers

open Idealize.ShloMosaic

/-- One hidden unit of a gated feed-forward network: `silu(x · wg) · (x · wu)`, of a row and two columns. -/
def hidden (x wg wu : Fin 1024 → EReal) : EReal :=
  (∑ k, x k * wg k) * Ideal.logistic (∑ k, x k * wg k) * ∑ k, x k * wu k

/-- Layer normalization of a row at an entry, with scale `g` and shift `b`. -/
def layerNorm (row : Fin 1024 → EReal) (g b : EReal) (j : Fin 1024) : EReal :=
  (row j - Ideal.div (∑ k, row k) (Ideal.ofBits .f32 1149239296#32))
    * Ideal.rsqrt (Ideal.div
        (∑ l, (row l - Ideal.div (∑ k, row k) (Ideal.ofBits .f32 1149239296#32))
          * (row l - Ideal.div (∑ k, row k) (Ideal.ofBits .f32 1149239296#32)))
        (Ideal.ofBits .f32 1149239296#32) + Ideal.ofBits .f32 925353388#32)
    * g + b

end Cert.Layers
-- ==== Proof.Block.lean ====
/-
  What one grid point computes, at an index: the accumulator's new entry (`step_at`), the first contents of the
  accumulator and of the rows' copy, and the normalized row the last point of a run of points writes (`out_at`).
-/
module

public import proofs.«01_k».proof.Proof.Gates
public import proofs.«01_k».proof.Proof.Terms

@[expose] public section

set_option maxRecDepth 16384

noncomputable section

namespace Cert.RoutedFfn

open Cert.Layers
open Cert.KernelIdeal Cert.KernelIdeal.Gen
open Idealize.ShloMosaic Idealize.ShloMosaic.TcCoe Idealize.SL.Sem

/-- A grid point adds to the accumulator its expert's gated hidden units against its slice of the down projection. -/
theorem step_at (i : grid0.Coords) (e : Fin 8) (hi : (i 1).val = e.val) (x : Vec Ideal S512x1024 .bf16)
    (wg wu : Vec Ideal S1x1024x1408 .bf16) (gates : Vec Ideal S512x128 .f32) (acc : Vec Ideal S512x1024 .f32)
    (wd : Vec Ideal S1x1408x1024 .bf16) (r : Fin 512) (j : Fin 1024) :
    k0_pay1 (k0_pay13 i x wg wu gates acc wd) (ix2 r j)
      = acc (ix2 r j) + ∑ l : Fin 1408, hidden (fun k => x (ix2 r k)) (fun k => wg (ix3 0 k l)) (fun k => wu (ix3 0 k l))
          * gates (ix2 r (lane e)) * wd (ix3 0 l j) := by
  have hg : (∑ l : Fin 128, Scalar.select (IntOp.cmpi .eq (BitVec.ofNat 32 l.val) (BitVec.ofNat 32 (i 1).val))
      (gates (ix2 r l)) 0) = gates (ix2 r (lane e)) := by
    rw [Finset.sum_eq_single (lane e)]
    · rw [hi, select_eq _ _ (by omega) (by omega)]
      exact if_pos rfl
    · intro l _ hl
      rw [hi, select_eq _ _ (by omega) (by omega)]
      exact if_neg fun h => hl (Fin.ext h)
    · intro h
      exact absurd (Finset.mem_univ _) h
  unfold k0_pay1 k0_pay13
  pointwise
  simp only [hg]
  rfl

theorem first_at (j : S512x1024.Idx) : (k0_pay3 : FVec Ideal S512x1024 .f32) j = 0 := by
  unfold k0_pay3
  idx_vars j
  pointwise

theorem rows_at (x : Vec Ideal S512x1024 .f32) (j : S512x1024.Idx) : k0_pay4 x j = x j := by
  unfold k0_pay4
  idx_vars j
  pointwise

theorem out_at (x acc : Vec Ideal S512x1024 .f32) (g b : Vec Ideal S1x1024 .f32) (r : Fin 512) (j : Fin 1024) :
    k0_pay2 x acc g b (ix2 r j)
      = layerNorm (fun k => Ideal.ofBits .f32 1071072509#32 * x (ix2 r k) + acc (ix2 r k)) (g (ix2 0 j)) (b (ix2 0 j))
          j := by
  unfold k0_pay2
  pointwise
  rfl

end Cert.RoutedFfn
-- ==== Proof.Inputs.lean ====
/-
  What the windows hold at a grid point: each block read at an index, as an entry of one of the seven arguments. The
  point `t` is row block `t / 16`, expert `t % 16 / 2` and half `t % 2` of the hidden units.
-/
module

public import proofs.«01_k».proof.Proof.Block

@[expose] public section

set_option maxRecDepth 16384

noncomputable section

namespace Cert.RoutedFfn

open Cert.Layers
open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arguments: the rows, the router, the three expert weights, scale and shift. -/
abbrev argX : Vec Ideal S16384x1024 .f32 := m ((c : Thread nD τ).loc main_arg0)
abbrev argR : Vec Ideal S1024x8 .f32 := m ((c : Thread nD τ).loc main_arg1)
abbrev argWg : Vec Ideal S8x1024x2816 .f32 := m ((c : Thread nD τ).loc main_arg2)
abbrev argWu : Vec Ideal S8x1024x2816 .f32 := m ((c : Thread nD τ).loc main_arg3)
abbrev argWd : Vec Ideal S8x2816x1024 .f32 := m ((c : Thread nD τ).loc main_arg4)
abbrev argG : Vec Ideal S1024 .f32 := m ((c : Thread nD τ).loc main_arg5)
abbrev argB : Vec Ideal S1024 .f32 := m ((c : Thread nD τ).loc main_arg6)

/-! ## The arrays the windows cut -/

theorem router_array (k : Fin 1024) (e : Fin 8) : V m c main_v2 (ix2 k (lane e)) = argR m c (ix2 k e) := by
  have h : (V m c main_v2 : Vec Ideal S1024x128 .f32) = pad S1024x128 ![0, 0] ![0, 120] ![0, 0] (argR m c)
      (sitofp (F := Ideal) .f32 (constantI S_ 32 0#32)) pads_S1024x8_S1024x128_000_01200 h_S_ := by
    unfold V
    simp only [hostOps0, hostOps0_1, hostOps0_2, List.flatten_cons, List.flatten_nil, List.append_nil,
      List.cons_append, List.nil_append]
    after_results_simp
    rfl
  refine (congrFun h (ix2 k (lane e))).trans ?_
  pointwise
  exact dif_pos e.isLt

theorem gate_array : (V m c main_v3 : Vec Ideal S8x1024x2816 .bf16) = argWg m c := by
  unfold V
  simp only [hostOps0, hostOps0_1, hostOps0_2, List.flatten_cons, List.flatten_nil, List.append_nil,
    List.cons_append, List.nil_append]
  after_results_simp
  rfl

theorem up_array : (V m c main_v4 : Vec Ideal S8x1024x2816 .bf16) = argWu m c := by
  unfold V
  simp only [hostOps0, hostOps0_1, hostOps0_2, List.flatten_cons, List.flatten_nil, List.append_nil,
    List.cons_append, List.nil_append]
  after_results_simp
  rfl

theorem down_array : (V m c main_v5 : Vec Ideal S8x2816x1024 .bf16) = argWd m c := by
  unfold V
  simp only [hostOps0, hostOps0_1, hostOps0_2, List.flatten_cons, List.flatten_nil, List.append_nil,
    List.cons_append, List.nil_append]
  after_results_simp
  rfl

theorem scale_array (j : Fin 1024) : V m c main_v0 (ix2 0 j) = argG m c (ix1 j) := by
  have h : (V m c main_v0 : Vec Ideal S1x1024 .f32) = shapeCast S1x1024 (argG m c) shapeCasts_S1024_S1x1024 := by
    unfold V
    simp only [hostOps0, hostOps0_1, hostOps0_2, List.flatten_cons, List.flatten_nil, List.append_nil,
      List.cons_append, List.nil_append]
    after_results_simp
    rfl
  refine (congrFun h (ix2 0 j)).trans ?_
  pointwise

theorem shift_array (j : Fin 1024) : V m c main_v1 (ix2 0 j) = argB m c (ix1 j) := by
  have h : (V m c main_v1 : Vec Ideal S1x1024 .f32) = shapeCast S1x1024 (argB m c) shapeCasts_S1024_S1x1024 := by
    unfold V
    simp only [hostOps0, hostOps0_1, hostOps0_2, List.flatten_cons, List.flatten_nil, List.append_nil,
      List.cons_append, List.nil_append]
    after_results_simp
    rfl
  refine (congrFun h (ix2 0 j)).trans ?_
  pointwise

/-! ## Where a point's blocks lie -/

theorem coords_at : ∀ t : Fin cfg0.N, (grid0.coords t 1).val = t.val % 16 / 2 := by decide +kernel

theorem index_rows : ∀ t : Fin cfg0.N, win0_0.index t 0 = t.val / 16 ∧ win0_0.index t 1 = 0 := by decide +kernel

theorem index_router : ∀ t : Fin cfg0.N, win0_1.index t 0 = 0 ∧ win0_1.index t 1 = 0 := by decide +kernel

theorem index_gate : ∀ t : Fin cfg0.N,
    win0_2.index t 0 = t.val % 16 / 2 ∧ win0_2.index t 1 = 0 ∧ win0_2.index t 2 = t.val % 2 := by decide +kernel

theorem index_up : ∀ t : Fin cfg0.N,
    win0_3.index t 0 = t.val % 16 / 2 ∧ win0_3.index t 1 = 0 ∧ win0_3.index t 2 = t.val % 2 := by decide +kernel

theorem index_down : ∀ t : Fin cfg0.N,
    win0_4.index t 0 = t.val % 16 / 2 ∧ win0_4.index t 1 = t.val % 2 ∧ win0_4.index t 2 = 0 := by decide +kernel

theorem index_scale : ∀ t : Fin cfg0.N, win0_5.index t 0 = 0 ∧ win0_5.index t 1 = 0 := by decide +kernel

theorem index_shift : ∀ t : Fin cfg0.N, win0_6.index t 0 = 0 ∧ win0_6.index t 1 = 0 := by decide +kernel

theorem points : cfg0.N = 512 := N_0

/-! ## The blocks -/

variable (t : Fin cfg0.N)

/-- Row `r` of the point's block of rows, in the whole array. -/
def rowOf (r : Fin 512) : Fin 16384 := ⟨t.val / 16 * 512 + r.val, by have := t.isLt; have := points; omega⟩

/-- The point's expert. -/
def expertOf : Fin 8 := ⟨t.val % 16 / 2, by omega⟩

/-- Hidden unit `l` of the point's half, among all of them. -/
def unitOf (l : Fin 1408) : Fin 2816 := ⟨t.val % 2 * 1408 + l.val, by omega⟩

theorem rows_block (r : Fin 512) (k : Fin 1024) :
    (iblk m c 0 t : Vec Ideal S512x1024 .f32) (ix2 r k) = argX m c (ix2 (rowOf t r) k) := by
  have h := index_rows t
  unfold iblk
  rw [View.read_apply]
  show V m c main_arg0 _ = _
  rw [V_main_arg0]
  refine congrArg (argX m c) (funext fun a => Fin.ext ?_)
  match a with
  | ⟨0, _⟩ => show win0_0.index t 0 * 512 + 1 * r.val = t.val / 16 * 512 + r.val; rw [h.1]; omega
  | ⟨1, _⟩ => show win0_0.index t 1 * 1024 + 1 * k.val = k.val; rw [h.2]; omega

theorem router_block (k : Fin 1024) (e : Fin 8) :
    (iblk m c 1 t : Vec Ideal S1024x128 .f32) (ix2 k (lane e)) = argR m c (ix2 k e) := by
  have h := index_router t
  unfold iblk
  rw [View.read_apply]
  show V m c main_v2 _ = _
  refine (congrArg (V m c main_v2) (funext fun a => Fin.ext ?_)).trans (router_array m c k e)
  match a with
  | ⟨0, _⟩ => show win0_1.index t 0 * 1024 + 1 * k.val = k.val; rw [h.1]; omega
  | ⟨1, _⟩ => show win0_1.index t 1 * 128 + 1 * (lane e).val = (lane e).val; rw [h.2]; omega

theorem gate_block (k : Fin 1024) (l : Fin 1408) :
    (iblk m c 2 t : Vec Ideal S1x1024x1408 .bf16) (ix3 0 k l) = argWg m c (ix3 (expertOf t) k (unitOf t l)) := by
  have h := index_gate t
  unfold iblk
  rw [View.read_apply]
  show V m c main_v3 _ = _
  rw [gate_array]
  refine congrArg (argWg m c) (funext fun a => Fin.ext ?_)
  match a with
  | ⟨0, _⟩ => show win0_2.index t 0 * 1 + 1 * 0 = t.val % 16 / 2; rw [h.1]; omega
  | ⟨1, _⟩ => show win0_2.index t 1 * 1024 + 1 * k.val = k.val; rw [h.2.1]; omega
  | ⟨2, _⟩ => show win0_2.index t 2 * 1408 + 1 * l.val = t.val % 2 * 1408 + l.val; rw [h.2.2]; omega

theorem up_block (k : Fin 1024) (l : Fin 1408) :
    (iblk m c 3 t : Vec Ideal S1x1024x1408 .bf16) (ix3 0 k l) = argWu m c (ix3 (expertOf t) k (unitOf t l)) := by
  have h := index_up t
  unfold iblk
  rw [View.read_apply]
  show V m c main_v4 _ = _
  rw [up_array]
  refine congrArg (argWu m c) (funext fun a => Fin.ext ?_)
  match a with
  | ⟨0, _⟩ => show win0_3.index t 0 * 1 + 1 * 0 = t.val % 16 / 2; rw [h.1]; omega
  | ⟨1, _⟩ => show win0_3.index t 1 * 1024 + 1 * k.val = k.val; rw [h.2.1]; omega
  | ⟨2, _⟩ => show win0_3.index t 2 * 1408 + 1 * l.val = t.val % 2 * 1408 + l.val; rw [h.2.2]; omega

theorem down_block (l : Fin 1408) (j : Fin 1024) :
    (iblk m c 4 t : Vec Ideal S1x1408x1024 .bf16) (ix3 0 l j) = argWd m c (ix3 (expertOf t) (unitOf t l) j) := by
  have h := index_down t
  unfold iblk
  rw [View.read_apply]
  show V m c main_v5 _ = _
  rw [down_array]
  refine congrArg (argWd m c) (funext fun a => Fin.ext ?_)
  match a with
  | ⟨0, _⟩ => show win0_4.index t 0 * 1 + 1 * 0 = t.val % 16 / 2; rw [h.1]; omega
  | ⟨1, _⟩ => show win0_4.index t 1 * 1408 + 1 * l.val = t.val % 2 * 1408 + l.val; rw [h.2.1]; omega
  | ⟨2, _⟩ => show win0_4.index t 2 * 1024 + 1 * j.val = j.val; rw [h.2.2]; omega

theorem scale_block (j : Fin 1024) :
    (iblk m c 5 t : Vec Ideal S1x1024 .f32) (ix2 0 j) = argG m c (ix1 j) := by
  have h := index_scale t
  unfold iblk
  rw [View.read_apply]
  show V m c main_v0 _ = _
  refine (congrArg (V m c main_v0) (funext fun a => Fin.ext ?_)).trans (scale_array m c j)
  match a with
  | ⟨0, _⟩ => show win0_5.index t 0 * 1 + 1 * 0 = 0; rw [h.1]
  | ⟨1, _⟩ => show win0_5.index t 1 * 1024 + 1 * j.val = j.val; rw [h.2]; omega

theorem shift_block (j : Fin 1024) :
    (iblk m c 6 t : Vec Ideal S1x1024 .f32) (ix2 0 j) = argB m c (ix1 j) := by
  have h := index_shift t
  unfold iblk
  rw [View.read_apply]
  show V m c main_v1 _ = _
  refine (congrArg (V m c main_v1) (funext fun a => Fin.ext ?_)).trans (shift_array m c j)
  match a with
  | ⟨0, _⟩ => show win0_6.index t 0 * 1 + 1 * 0 = 0; rw [h.1]
  | ⟨1, _⟩ => show win0_6.index t 1 * 1024 + 1 * j.val = j.val; rw [h.2]; omega

end Cert.RoutedFfn
-- ==== Proof.Layer.lean ====
/-
  The layer at an index, of the seven arguments: a row's router logits, its gates, an expert's hidden units, and the
  gated contribution of one hidden unit of one expert to an entry of the output row.
-/
module

public import proofs.«01_k».proof.Proof.Block

@[expose] public section

noncomputable section

namespace Cert.RoutedFfn

open Cert.Layers
open Cert.KernelIdeal
open Idealize.ShloMosaic

/-- The first index of a row's greatest logit. -/
def best (L : Fin 8 → EReal) : Fin 8 := Classical.choose (exists_top2 L)

/-- The first index of its greatest logit but that. -/
def second (L : Fin 8 → EReal) : Fin 8 := Classical.choose (Classical.choose_spec (exists_top2 L))

theorem top2 (L : Fin 8 → EReal) : IsTop2 L (best L) (second L) :=
  Classical.choose_spec (Classical.choose_spec (exists_top2 L))

/-- Expert `e`'s gate in a row of logits. -/
def gateOf (L : Fin 8 → EReal) (e : Fin 8) : EReal := topGate L (best L) (second L) e

variable (x : Vec Ideal S16384x1024 .f32) (wr : Vec Ideal S1024x8 .f32) (wg wu : Vec Ideal S8x1024x2816 .f32)
  (wd : Vec Ideal S8x2816x1024 .f32)

/-- Row `i`'s logits. -/
def logits (i : Fin 16384) (e : Fin 8) : EReal := ∑ k : Fin 1024, x (ix2 i k) * wr (ix2 k e)

/-- Row `i`'s hidden unit `u` of expert `e`. -/
def unit (i : Fin 16384) (e : Fin 8) (u : Fin 2816) : EReal :=
  hidden (fun k => x (ix2 i k)) (fun k => wg (ix3 e k u)) (fun k => wu (ix3 e k u))

/-- What hidden unit `u` of expert `e` adds to entry `j` of row `i`, the gate on the hidden unit. -/
def term (i : Fin 16384) (e : Fin 8) (u : Fin 2816) (j : Fin 1024) : EReal :=
  unit x wg wu i e u * gateOf (logits x wr i) e * wd (ix3 e u j)

/-- The same of a run of 1408 hidden units: the `s`-th of the sixteen. -/
def part (i : Fin 16384) (s : Nat) (j : Fin 1024) : EReal :=
  ∑ l : Fin 1408, term x wr wg wu wd i ⟨s % 16 / 2, by omega⟩ ⟨s % 2 * 1408 + l.val, by omega⟩ j

end Cert.RoutedFfn
-- ==== Proof.Acc.lean ====
/-
  The running sum. After a point the scratch arrays hold the row tile's gates, its rows, and the sum of the parts of
  the points of the tile up to this one (`Inv`); the tile's last point writes the normalized row of the whole sum.
-/
module

public import proofs.«01_k».proof.Proof.Inputs
public import proofs.«01_k».proof.Proof.Layer

@[expose] public section

set_option maxRecDepth 16384

noncomputable section

namespace Cert.RoutedFfn

open Cert.Layers
open Cert.KernelIdeal Cert.KernelIdeal.Gen
open Idealize.ShloMosaic Idealize.ShloMosaic.TcCoe Idealize.SL.Sem

variable (m : (ℓ : Loc nD τ sig) → Buf (Elt Ideal) ℓ) (c : Dev nD)

/-- The part of the whole sum that a point adds, of the launch's arguments. -/
abbrev partOf (i : Fin 16384) (s : Nat) (j : Fin 1024) : EReal :=
  part (argX m c) (argR m c) (argWg m c) (argWu m c) (argWd m c) i s j

/-- What the three scratch arrays hold after point `t`. -/
structure Inv (t : Fin cfg0.N) : Prop where
  gates : ∀ (r : Fin 512) (e : Fin 8), (outsAt0 m c t.val t.isLt).2.2.1 (ix2 r (lane e))
    = gateOf (logits (argX m c) (argR m c) (rowOf t r)) e
  rows : ∀ (r : Fin 512) (k : Fin 1024), (outsAt0 m c t.val t.isLt).2.2.2 (ix2 r k) = argX m c (ix2 (rowOf t r) k)
  acc : ∀ (r : Fin 512) (j : Fin 1024), (outsAt0 m c t.val t.isLt).2.1 (ix2 r j)
    = ∑ s ∈ Finset.range (t.val % 16 + 1), partOf m c (rowOf t r) s j

/-- The logits are not minus infinity: what the gates need. -/
def Logits : Prop := ∀ (i : Fin 16384) (e : Fin 8), logits (argX m c) (argR m c) i e ≠ ⊥

/-- The gates of the point's block of rows. -/
theorem gates_at (hL : Logits m c) (t : Fin cfg0.N) (r : Fin 512) (e : Fin 8) :
    gatesOf (iblk m c 0 t : Vec Ideal S512x1024 .f32) (iblk m c 1 t : Vec Ideal S1024x128 .f32) (ix2 r (lane e))
      = gateOf (logits (argX m c) (argR m c) (rowOf t r)) e := by
  have hl : rowLogits (iblk m c 0 t : Vec Ideal S512x1024 .f32) (iblk m c 1 t : Vec Ideal S1024x128 .f32) r
      = logits (argX m c) (argR m c) (rowOf t r) := by
    funext e
    unfold rowLogits logits
    exact Finset.sum_congr rfl fun k _ => by rw [rows_block, router_block]
  have htop : IsTop2 (rowLogits (iblk m c 0 t : Vec Ideal S512x1024 .f32) (iblk m c 1 t : Vec Ideal S1024x128 .f32) r)
      (best (logits (argX m c) (argR m c) (rowOf t r))) (second (logits (argX m c) (argR m c) (rowOf t r))) := by
    rw [hl]
    exact top2 _
  rw [gatesOf_at _ _ r _ _ htop (by rw [hl]; exact hL _ _), hl]
  rfl

/-- A point's step, when the rows and gates are the tile's. -/
theorem step_part (t : Fin cfg0.N) (x : Vec Ideal S512x1024 .bf16) (gates : Vec Ideal S512x128 .f32)
    (acc : Vec Ideal S512x1024 .f32) (r : Fin 512) (j : Fin 1024)
    (hx : ∀ k, x (ix2 r k) = argX m c (ix2 (rowOf t r) k))
    (hg : ∀ e, gates (ix2 r (lane e)) = gateOf (logits (argX m c) (argR m c) (rowOf t r)) e) :
    k0_pay1 (k0_pay13 (grid0.coords t) x (iblk m c 2 t) (iblk m c 3 t) gates acc (iblk m c 4 t)) (ix2 r j)
      = acc (ix2 r j) + partOf m c (rowOf t r) (t.val % 16) j := by
  rw [step_at (grid0.coords t) (expertOf t) (coords_at t)]
  congr 1
  refine Finset.sum_congr rfl fun l _ => ?_
  simp only [hx, hg, gate_block, up_block, down_block]
  have he : (⟨t.val % 16 % 16 / 2, by omega⟩ : Fin 8) = expertOf t := Fin.ext (by show t.val % 16 % 16 / 2 = t.val % 16 / 2; omega)
  have hu : (⟨t.val % 16 % 2 * 1408 + l.val, by omega⟩ : Fin 2816) = unitOf t l :=
    Fin.ext (by show t.val % 16 % 2 * 1408 + l.val = t.val % 2 * 1408 + l.val; omega)
  rw [he, hu]
  rfl

theorem inv_first (hL : Logits m c) (t : Fin cfg0.N) (h0 : t.val % 16 = 0) : Inv m c t where
  gates r e := by rw [gates_A m c t h0, gates_at m c hL]
  rows r k := by rw [rows_A m c t h0, rows_at, rows_block]
  acc r j := by
    rw [acc_A m c t h0, step_part m c t _ _ _ r j (fun k => by rw [rows_at, rows_block]) (fun e => gates_at m c hL t r e),
      first_at, h0]
    simp

/-- Every point but a tile's first takes up the gates and rows as left, and adds its part to the sum. -/
theorem carry (t : Fin cfg0.N) (h0 : ¬ t.val % 16 = 0) :
    (outsAt0 m c t.val t.isLt).2.2.1 = (outsAt0 m c (t.val - 1) (by omega)).2.2.1
    ∧ (outsAt0 m c t.val t.isLt).2.2.2 = (outsAt0 m c (t.val - 1) (by omega)).2.2.2
    ∧ (outsAt0 m c t.val t.isLt).2.1
      = k0_pay1 (k0_pay13 (grid0.coords t) (outsAt0 m c (t.val - 1) (by omega)).2.2.2 (iblk m c 2 t) (iblk m c 3 t)
          (outsAt0 m c (t.val - 1) (by omega)).2.2.1 (outsAt0 m c (t.val - 1) (by omega)).2.1 (iblk m c 4 t)) := by
  by_cases h1 : t.val % 16 = 15
  · exact ⟨gates_C m c t h1, rows_C m c t h1, acc_C m c t h1⟩
  · exact ⟨gates_B m c t h0 h1, rows_B m c t h0 h1, acc_B m c t h0 h1⟩

theorem inv_next (t : Fin cfg0.N) (h0 : ¬ t.val % 16 = 0) (ih : Inv m c ⟨t.val - 1, by omega⟩) : Inv m c t := by
  have hrow (r : Fin 512) : rowOf ⟨t.val - 1, by omega⟩ r = rowOf t r :=
    Fin.ext (by show (t.val - 1) / 16 * 512 + r.val = t.val / 16 * 512 + r.val; omega)
  obtain ⟨hg, hr, ha⟩ := carry m c t h0
  refine ⟨fun r e => ?_, fun r k => ?_, fun r j => ?_⟩
  · rw [hg, ← hrow]; exact ih.gates r e
  · rw [hr, ← hrow]; exact ih.rows r k
  · rw [ha, step_part m c t _ _ _ r j (fun k => by rw [← hrow]; exact ih.rows r k)
      (fun e => by rw [← hrow]; exact ih.gates r e), Finset.sum_range_succ]
    congr 1
    have hs : (t.val - 1) % 16 + 1 = t.val % 16 := by omega
    rw [← hrow, ← hs]
    exact ih.acc r j

theorem inv (hL : Logits m c) : ∀ (n : Nat) (h : n < cfg0.N), Inv m c ⟨n, h⟩
  | 0, h => inv_first m c hL ⟨0, h⟩ rfl
  | n + 1, h => by
    by_cases h0 : (n + 1) % 16 = 0
    · exact inv_first m c hL ⟨n + 1, h⟩ h0
    · exact inv_next m c ⟨n + 1, h⟩ h0 (inv hL n (by omega))

/-- What a tile's last point writes. -/
theorem out_last (hL : Logits m c) (t : Fin cfg0.N) (h1 : t.val % 16 = 15) (r : Fin 512) (j : Fin 1024) :
    (outsAt0 m c t.val t.isLt).1 (ix2 r j)
      = layerNorm (fun k => Ideal.ofBits .f32 1071072509#32 * argX m c (ix2 (rowOf t r) k)
          + ∑ s ∈ Finset.range 16, partOf m c (rowOf t r) s k) (argG m c (ix1 j)) (argB m c (ix1 j)) j := by
  rw [out_C m c t h1, ← acc_C m c t h1, out_at, scale_block, shift_block]
  congr 1
  funext k
  rw [rows_block, (inv m c hL t.val t.isLt).acc r k]
  show _ + ∑ s ∈ Finset.range (t.val % 16 + 1), _ = _
  rw [h1]

end Cert.RoutedFfn
-- ==== Proof.RefGates.lean ====
/-
  The reference's gates at an index. It sorts a row's logits and keeps the first two with their positions, takes the
  softmax of the two, and gives each expert the sum over the two of its weight where the position is the expert's.
-/
module

public import proofs.«01_k».proof.Proof.Gen.ReferenceIdeal.Run
public import proofs.«01_k».proof.Proof.Layer

@[expose] public section

set_option maxRecDepth 16384

noncomputable section

namespace Cert.RoutedFfn

open Cert.ReferenceIdeal Cert.ReferenceIdeal.Value
open Idealize.ShloMosaic Idealize.ShloMosaic.TcCoe Idealize.SL.Sem

/-- Moving along a row of logits. -/
theorem along_row (i : Fin 16384) (q k : Fin 8) (h : 1 < S16384x8.rank) :
    (ix2 i q : S16384x8.Idx).along ⟨1, h⟩ k = ix2 i k := by
  funext a
  match a with
  | ⟨0, _⟩ => rfl
  | ⟨1, _⟩ => rfl

/-- Where a sorted row's entry comes from. -/
theorem along_sorted (x : Vec Ideal S16384x8 .f32) (i : Fin 16384) (q : Fin 8) (h : 1 < S16384x8.rank)
    (j : S16384x8.Idx) (hj : j = ix2 i q) :
    j.along ⟨1, h⟩ (sortedFrom (fun k k' => Ideal.cmpTotal .gt (x (j.along ⟨1, h⟩ k)) (x (j.along ⟨1, h⟩ k')) == 1#1)
        (j ⟨1, h⟩))
      = ix2 i (sortedFrom (fun k k' => Ideal.cmpTotal .gt (x (ix2 i k)) (x (ix2 i k')) == 1#1) q) := by
  subst hj
  refine (along_row i q _ h).trans (congrArg (ix2 i) ?_)
  show sortedFrom (fun k k' : Fin 8 => _) q = _
  congr 1
  funext k k'
  rw [along_row, along_row]

/-- The first two of a row sorted in decreasing order: values and positions. -/
theorem topK_at (x : Vec Ideal S16384x8 .f32) (hs : S16384x8.Slices (fun _ => 0) S16384x2) (i : Fin 16384) (s : Fin 2) :
    (Host.topK S16384x2 1 (FloatOps.cmpfTotal (F := Ideal) (φ := .f32) .gt) x hs).1 (ix2 i s)
        = x (ix2 i (sortedFrom (fun k k' => Ideal.cmpTotal .gt (x (ix2 i k)) (x (ix2 i k')) == 1#1) (s.castLE (by omega))))
    ∧ (Host.topK S16384x2 1 (FloatOps.cmpfTotal (F := Ideal) (φ := .f32) .gt) x hs).2 (ix2 i s)
        = BitVec.ofNat 32
          (sortedFrom (fun k k' => Ideal.cmpTotal .gt (x (ix2 i k)) (x (ix2 i k')) == 1#1) (s.castLE (by omega))).val := by
  have hq : (fun a : Fin S16384x8.rank => (⟨0 + (ix2 i s (a.cast hs.1.symm)).val,
      Nat.lt_of_lt_of_le (Nat.add_lt_add_left (ix2 i s _).isLt _) (hs.2 a)⟩ : Fin (S16384x8.size a)))
      = ix2 i (s.castLE (by omega)) := by
    funext a
    match a with
    | ⟨0, _⟩ => exact Fin.ext (Nat.zero_add _)
    | ⟨1, _⟩ => exact Fin.ext (Nat.zero_add _)
  have h1 : 1 < S16384x8.rank := by decide
  unfold Host.topK Host.sort2
  simp only [extractStridedSlice, dif_pos h1]
  exact ⟨congrArg x (along_sorted x i _ h1 _ hq),
    congrArg (fun j : S16384x8.Idx => BitVec.ofNat 32 (j ⟨1, h1⟩).val) (along_sorted x i _ h1 _ hq)⟩

variable (V0 : Valuation τ sig (Elt Ideal))

/-- The reference's arguments. -/
abbrev refX : Vec Ideal S16384x1024 .f32 := V0 (Proc.devRef .tc main_arg0)
abbrev refR : Vec Ideal S1024x8 .f32 := V0 (Proc.devRef .tc main_arg1)

theorem logits_at (i : Fin 16384) (e : Fin 8) : res_main_v0 V0 (ix2 i e) = logits (refX V0) (refR V0) i e := by
  unfold res_main_v0
  pointwise
  rfl

/-- The expert of the `s`-th greatest logit. -/
def kept (L : Fin 8 → EReal) (s : Fin 2) : Fin 8 := if s.val = 0 then best L else second L

theorem sorted_kept (L : Fin 8 → EReal) (s : Fin 2) (h : 2 ≤ 8) :
    sortedFrom (fun k k' => Ideal.cmpTotal .gt (L k) (L k') == 1#1) (s.castLE h) = kept L s := by
  have hs := sortedFrom_top2 L _ _ (top2 L)
  match s with
  | ⟨0, _⟩ => exact hs.1
  | ⟨1, _⟩ => exact hs.2

/-- The kept values and positions are the two largest logits and their experts. -/
theorem kept_at (i : Fin 16384) (s : Fin 2) :
    res_main_values V0 (ix2 i s) = logits (refX V0) (refR V0) i (kept (logits (refX V0) (refR V0) i) s)
    ∧ (Host.topK S16384x2 1 (FloatOps.cmpfTotal .gt) (res_main_v0 V0) Gen.sliceFits_S16384x8_S16384x2).2 (ix2 i s)
        = BitVec.ofNat 32 (kept (logits (refX V0) (refR V0) i) s).val := by
  have h := topK_at (res_main_v0 V0) Gen.sliceFits_S16384x8_S16384x2 i s
  simp only [logits_at, sorted_kept] at h
  exact h

/-- A flag as a number. -/
theorem flag_at (p e : Fin 8) : FloatOps.uitofp (F := Ideal) .f32
    (IntOp.cmpi .eq (BitVec.ofNat 32 p.val) (BitVec.ofNat 32 e.val)) = if e = p then 1 else 0 := by
  by_cases h : e = p
  · subst h
    simp [IntOp.cmpi, FloatOps.uitofp]
  · have hn : ¬ BitVec.ofNat 32 p.val = BitVec.ofNat 32 e.val := fun he =>
      h (Fin.ext ((ofNat_inj _ _ (by omega) (by omega)).mp he).symm)
    have hb : (BitVec.ofNat 32 p.val == BitVec.ofNat 32 e.val) = false := beq_eq_false_iff_ne.mpr hn
    simp [IntOp.cmpi, FloatOps.uitofp, hb, h]

/-- The maximum over a row of two. -/
theorem fold_pair (f : S16384x2.Idx → EReal) (i : Fin 16384) :
    Finset.fold max ⊥ f {q | Gen.reducesTo_S16384x2_S16384_d1.drop q = ix1 i} = max (f (ix2 i 0)) (f (ix2 i 1)) := by
  have hrow : ∀ s : Fin 2, Gen.reducesTo_S16384x2_S16384_d1.drop (ix2 i s) = ix1 i := fun s => by
    funext a
    match a with
    | ⟨0, _⟩ => rfl
  refine le_antisymm ((Finset.fold_max_le _).mpr ⟨bot_le, fun q hq => ?_⟩) (max_le ?_ ?_)
  · idx_vars q
    have h0 : q0 = i := congrFun (Finset.mem_filter.mp hq).2 0
    rw [h0]
    rcases (show q1 = 0 ∨ q1 = 1 by omega) with h | h
    · rw [h]
      exact le_max_left _ _
    · rw [h]
      exact le_max_right _ _
  · exact (Finset.le_fold_max _).mpr (Or.inr ⟨_, Finset.mem_filter.mpr ⟨Finset.mem_univ _, hrow 0⟩, le_rfl⟩)
  · exact (Finset.le_fold_max _).mpr (Or.inr ⟨_, Finset.mem_filter.mpr ⟨Finset.mem_univ _, hrow 1⟩, le_rfl⟩)

/-- The exponentials of the two kept logits, the greatest taken off. -/
theorem exps_at (i : Fin 16384) (s : Fin 2) : res_main_v7 V0 (ix2 i s)
    = Ideal.exp (logits (refX V0) (refR V0) i (kept (logits (refX V0) (refR V0) i) s)
        - logits (refX V0) (refR V0) i (best (logits (refX V0) (refR V0) i))) := by
  unfold res_main_v7
  pointwise
  rw [(kept_at V0 i s).1, negInf, max_eq_right bot_le]
  have hM := fold_pair (res_main_values V0) i
  rw [(kept_at V0 i 0).1, (kept_at V0 i 1).1] at hM
  exact congrArg (fun M => Ideal.exp (_ - M)) (hM.trans (max_eq_left ((top2 _).max _)))

/-! ## The two weights -/

section Weights

variable (L : Fin 8 → EReal) (hL : ∀ e, ∃ v : ℝ, L e = v)
include hL

/-- The exponential of the difference of the two greatest logits is a positive number. -/
theorem exp_second : ∃ v : ℝ, 0 < v ∧ Ideal.exp (L (second L) - L (best L)) = v := by
  obtain ⟨p, hp⟩ := hL (second L)
  obtain ⟨q, hq⟩ := hL (best L)
  refine ⟨Real.exp (p - q), Real.exp_pos _, ?_⟩
  rw [hp, hq, ← EReal.coe_sub, Ideal.exp_coe]

theorem exp_best : Ideal.exp (L (best L) - L (best L)) = 1 := by
  obtain ⟨q, hq⟩ := hL (best L)
  rw [hq, ← EReal.coe_sub, Ideal.exp_coe]
  simp

/-- A gate is a number, not negative. -/
theorem gate_real (e : Fin 8) : ∃ v : ℝ, 0 ≤ v ∧ gateOf L e = v := by
  obtain ⟨v, hv, h⟩ := exp_second L hL
  have h1 : (1 : ℝ) + v ≠ 0 := by positivity
  have hd : Ideal.div 1 (1 + (v : EReal)) = ((1 / (1 + v) : ℝ) : EReal) := by
    rw [show (1 : EReal) + v = ((1 + v : ℝ) : EReal) by push_cast; rfl, Ideal.div_coe h1]
    simp
  refine ⟨(if e = best L then 1 / (1 + v) else 0) + (if e = second L then v * (1 / (1 + v)) else 0), by positivity, ?_⟩
  unfold gateOf topGate
  rw [h, hd, EReal.coe_add]
  congr 1 <;> split_ifs <;> push_cast <;> rfl

/-- The softmax of two, spread over the experts. -/
theorem spread (e : Fin 8) :
    ∑ s : Fin 2, (if e = kept L s then 1 else 0)
        * Ideal.div (Ideal.exp (L (kept L s) - L (best L))) (∑ s : Fin 2, Ideal.exp (L (kept L s) - L (best L)))
      = gateOf L e := by
  have k0 : kept L 0 = best L := rfl
  have k1 : kept L 1 = second L := rfl
  obtain ⟨v, hv, h⟩ := exp_second L hL
  have h1 : (1 : ℝ) + v ≠ 0 := by positivity
  simp only [Fin.sum_univ_two, k0, k1, exp_best L hL, gateOf, topGate, h]
  rw [show (1 : EReal) + v = ((1 + v : ℝ) : EReal) by push_cast; rfl, Ideal.div_coe h1, Ideal.div_coe h1]
  simp only [ite_mul, one_mul, zero_mul]

end Weights

/-- The reference's gates. -/
theorem gates_ref (hL : ∀ i e, ∃ v : ℝ, logits (refX V0) (refR V0) i e = v) (i : Fin 16384) (e : Fin 8) :
    res_main_v16 V0 (ix2 i e) = gateOf (logits (refX V0) (refR V0) i) e := by
  rw [← spread _ (hL i) e]
  unfold res_main_v16
  pointwise
  simp only [(kept_at V0 i _).2, exps_at, flag_at]

end Cert.RoutedFfn
-- ==== Proof.Ref.lean ====
/-
  The reference at an index: the normalized row of the scaled input row plus the gated experts.
-/
module

public import proofs.«01_k».proof.Proof.RefGates

@[expose] public section

set_option maxRecDepth 16384

noncomputable section

namespace Cert.RoutedFfn

open Cert.Layers
open Cert.ReferenceIdeal Cert.ReferenceIdeal.Value
open Idealize.ShloMosaic Idealize.ShloMosaic.TcCoe Idealize.SL.Sem

variable (V0 : Valuation τ sig (Elt Ideal))

/-- The reference's other arguments. -/
abbrev refWg : Vec Ideal S8x1024x2816 .f32 := V0 (Proc.devRef .tc main_arg2)
abbrev refWu : Vec Ideal S8x1024x2816 .f32 := V0 (Proc.devRef .tc main_arg3)
abbrev refWd : Vec Ideal S8x2816x1024 .f32 := V0 (Proc.devRef .tc main_arg4)
abbrev refG : Vec Ideal S1024 .f32 := V0 (Proc.devRef .tc main_arg5)
abbrev refB : Vec Ideal S1024 .f32 := V0 (Proc.devRef .tc main_arg6)

/-- Each row's sum of squares of what is left after the mean is taken off, as a column. -/
abbrev squares : FVec Ideal S16384x1 .f32 :=
  broadcastInDim S16384x1 ![0] Gen.bcast_S16384_S16384x1_0
    (Host.reduceAdd (mulf (res_main_v146 V0) (res_main_v146 V0)) (constant S_ .f32 0x00000000#32)
      Gen.reducesTo_S16384x1024_S16384_d1 Gen.h_S_)

/-- One over the square root of each row's variance, as a column. -/
abbrev scales : FVec Ideal S16384x1 .f32 :=
  Host.rsqrt (addf (Host.divf (squares V0) (broadcastInDim S16384x1 ![] Gen.bcast_S_S16384x1 (constant S_ .f32 0x44800000#32)))
    (broadcastInDim S16384x1 ![] Gen.bcast_S_S16384x1 (constant S_ .f32 0x3727C5AC#32)))

/-- A vector laid along every row. -/
abbrev along (v : FVec Ideal S1024 .f32) : FVec Ideal S16384x1024 .f32 :=
  broadcastInDim S16384x1024 ![0, 1] Gen.bcast_S1x1024_S16384x1024_0_1
    (broadcastInDim S1x1024 ![1] Gen.bcast_S1024_S1x1024_1 v)

/-- The reference's result, as its program composes it. -/
abbrev result : FVec Ideal S16384x1024 .f32 :=
  addf (mulf (mulf (res_main_v146 V0)
    (broadcastInDim S16384x1024 ![0, 1] Gen.bcast_S16384x1_S16384x1024_0_1 (scales V0))) (along (refG V0))) (along (refB V0))

/-- A row before its normalization: the scaled input plus each expert's output times its gate. -/
theorem row_at (hL : ∀ i e, ∃ v : ℝ, logits (refX V0) (refR V0) i e = v) (i : Fin 16384) (j : Fin 1024) :
    res_main_v140 V0 (ix2 i j) = Ideal.ofBits .f32 1071072509#32 * refX V0 (ix2 i j)
      + ∑ e : Fin 8, gateOf (logits (refX V0) (refR V0) i) e
          * ∑ u : Fin 2816, unit (refX V0) (refWg V0) (refWu V0) i e u * refWd V0 (ix3 e u j) := by
  unfold res_main_v140 res_main_v92 res_main_v25 res_main_v40 res_main_v55 res_main_v70 res_main_v85 res_main_v100
    res_main_v115 res_main_v130
  pointwise
  simp only [gates_ref V0 hL, Fin.sum_univ_eight]
  rfl

theorem result_at (i : Fin 16384) (j : Fin 1024) :
    result V0 (ix2 i j)
      = layerNorm (fun k => res_main_v140 V0 (ix2 i k)) (refG V0 (ix1 j)) (refB V0 (ix1 j)) j := by
  unfold result scales squares along res_main_v146
  pointwise
  rfl

end Cert.RoutedFfn
-- ==== Proof.Sums.lean ====
/-
  The sixteen parts of a row's sum are the eight experts' outputs, each times its gate: a gate is a nonnegative number,
  so it moves in and out of a sum of any extended reals.
-/
module

public import proofs.«01_k».proof.Proof.RefGates

@[expose] public section

set_option maxRecDepth 16384

noncomputable section

namespace Cert.RoutedFfn

open Cert.Layers
open Cert.KernelIdeal
open Idealize.ShloMosaic

/-- A nonnegative number times a sum. -/
theorem real_mul_sum {ι : Type} (s : Finset ι) (f : ι → EReal) (v : ℝ) (hv : 0 ≤ v) :
    (v : EReal) * ∑ i ∈ s, f i = ∑ i ∈ s, (v : EReal) * f i := by
  classical
  induction s using Finset.induction_on with
  | empty => simp
  | insert a s ha ih =>
    rw [Finset.sum_insert ha, Finset.sum_insert ha,
      EReal.left_distrib_of_nonneg_of_ne_top (by exact_mod_cast hv) (EReal.coe_ne_top v), ih]

/-- A sum over the hidden units, by halves. -/
theorem sum_halves (f : Fin 2816 → EReal) :
    ∑ u, f u = ∑ l : Fin 1408, f ⟨l.val, by omega⟩ + ∑ l : Fin 1408, f ⟨1408 + l.val, by omega⟩ :=
  Fin.sum_univ_add (a := 1408) (b := 1408) f

variable (x : Vec Ideal S16384x1024 .f32) (wr : Vec Ideal S1024x8 .f32) (wg wu : Vec Ideal S8x1024x2816 .f32)
  (wd : Vec Ideal S8x2816x1024 .f32)

/-- An expert's two parts are its output times its gate. -/
theorem parts_pair (hL : ∀ i e, ∃ v : ℝ, logits x wr i e = v) (i : Fin 16384) (e : Fin 8) (j : Fin 1024) :
    part x wr wg wu wd i (2 * e.val) j + part x wr wg wu wd i (2 * e.val + 1) j
      = gateOf (logits x wr i) e * ∑ u : Fin 2816, unit x wg wu i e u * wd (ix3 e u j) := by
  obtain ⟨v, hv, hg⟩ := gate_real _ (hL i) e
  have ht (u : Fin 2816) : (v : EReal) * (unit x wg wu i e u * wd (ix3 e u j)) = term x wr wg wu wd i e u j := by
    unfold term
    rw [hg, ← mul_assoc, mul_comm (v : EReal)]
  rw [hg, real_mul_sum _ _ v hv, Finset.sum_congr rfl fun u _ => ht u, sum_halves]
  unfold part
  congr 1
  · refine Finset.sum_congr rfl fun l _ => ?_
    congr 1
    · exact Fin.ext (by show 2 * e.val % 16 / 2 = e.val; omega)
    · exact Fin.ext (by show 2 * e.val % 2 * 1408 + l.val = l.val; omega)
  · refine Finset.sum_congr rfl fun l _ => ?_
    congr 1
    · exact Fin.ext (by show (2 * e.val + 1) % 16 / 2 = e.val; omega)
    · exact Fin.ext (by show (2 * e.val + 1) % 2 * 1408 + l.val = 1408 + l.val; omega)

/-- The sixteen parts. -/
theorem parts (hL : ∀ i e, ∃ v : ℝ, logits x wr i e = v) (i : Fin 16384) (j : Fin 1024) :
    ∑ s ∈ Finset.range 16, part x wr wg wu wd i s j
      = ∑ e : Fin 8, gateOf (logits x wr i) e * ∑ u : Fin 2816, unit x wg wu i e u * wd (ix3 e u j) := by
  rw [Finset.sum_congr rfl fun e _ => (parts_pair x wr wg wu wd hL i e j).symm]
  simp only [Finset.sum_range_succ, Finset.range_zero, Finset.sum_empty, Fin.sum_univ_eight, zero_add, ← add_assoc]
  rfl

end Cert.RoutedFfn
-- ==== Proof.Finite.lean ====
/-
  The precondition: where the predicate holds, the rows and the router's weights are numbers, and so are the logits.
-/
module

public import proofs.«01_k».proof.Pre_finite
public import proofs.«01_k».proof.Proof.Layer
public import Idealize.ShloMosaic.Lib.Affine

@[expose] public section

set_option maxRecDepth 16384

noncomputable section

namespace Cert.RoutedFfn

open Cert.Pre_finite
open Idealize.ShloMosaic

/-- The predicate's shapes. -/
theorem preFacts : Cert.Pre_finite.Facts := ⟨by decide, by decide, by decide, by decide, by decide⟩

theorem fold_and {ι : Type} [DecidableEq ι] (s : Finset ι) (f : ι → BitVec 1)
    (h : s.fold IntOp.andi 1#1 f = 1#1) : ∀ i ∈ s, f i = 1#1 := by
  induction s using Finset.induction_on with
  | empty => exact fun i hi => absurd hi (Finset.notMem_empty i)
  | insert a s ha ih =>
    rw [Finset.fold_insert ha] at h
    have h2 : f a = 1#1 ∧ s.fold IntOp.andi 1#1 f = 1#1 := by
      revert h
      generalize f a = p
      generalize s.fold IntOp.andi 1#1 f = q
      revert p q
      decide
    intro i hi
    rcases Finset.mem_insert.mp hi with rfl | hi
    · exact h2.1
    · exact ih h2.2 i hi

theorem fold_and_univ {ι : Type} [Fintype ι] (f : ι → BitVec 1)
    (h : Finset.univ.fold IntOp.andi 1#1 f = 1#1) (i : ι) : f i = 1#1 := by
  classical
  exact fold_and Finset.univ f h i (Finset.mem_univ i)

theorem posInf : Ideal.ofBits .f32 2139095040#32 = ⊤ := by
  simp [Ideal.ofBits, Ideal.ieee]

/-- A number of absolute value below infinity is real. -/
theorem real_of_lt (v : Ideal .f32) (h : BitVec.ofBool (decide (FloatOps.absf v < Ideal.ofBits .f32 2139095040#32)) = 1#1) :
    ∃ r : ℝ, (v : EReal) = r := by
  rw [posInf] at h
  by_cases hlt : (FloatOps.absf v : EReal) < ⊤
  · have h1 : max (v : EReal) (-v) < ⊤ := hlt
    have ht : (v : EReal) ≠ ⊤ := fun e => by rw [e] at h1; simp at h1
    have hb : (v : EReal) ≠ ⊥ := fun e => by rw [e] at h1; simp at h1
    exact ⟨EReal.toReal v, (EReal.coe_toReal ht hb).symm⟩
  · rw [decide_eq_false hlt] at h
    exact absurd h (by decide)

theorem fn_real [Facts] (x : FVec Ideal S16384x1024 .f32) (wr : FVec Ideal S1024x8 .f32)
    (wg wu : FVec Ideal S8x1024x2816 .f32) (wd : FVec Ideal S8x2816x1024 .f32) (g b : FVec Ideal S1024 .f32)
    (h : fn x wr wg wu wd g b = fun _ => 1#1) :
    (∀ i k, ∃ v : ℝ, (x (ix2 i k) : EReal) = v) ∧ ∀ k e, ∃ v : ℝ, (wr (ix2 k e) : EReal) = v := by
  have h0 := congrFun h (fun a => a.elim0)
  unfold fn at h0
  revert h0
  pointwise
  intro h0
  have h2 := IntOp.andi_eq_one.mp h0
  have hx := fold_and_univ _ h2.1
  have hw := fold_and_univ _ h2.2
  exact ⟨fun i k => real_of_lt (x (ix2 i k)) (hx (i, k)), fun k e => real_of_lt (wr (ix2 k e)) (hw (k, e))⟩

/-- A sum of products of real numbers is one. -/
theorem real_dot {ι : Type} (s : Finset ι) (f g : ι → EReal) (hf : ∀ i, ∃ v : ℝ, f i = v) (hg : ∀ i, ∃ v : ℝ, g i = v) :
    ∃ v : ℝ, ∑ i ∈ s, f i * g i = v := by
  classical
  induction s using Finset.induction_on with
  | empty => exact ⟨0, by simp⟩
  | insert a s ha ih =>
    obtain ⟨v, hv⟩ := ih
    obtain ⟨p, hp⟩ := hf a
    obtain ⟨q, hq⟩ := hg a
    exact ⟨p * q + v, by rw [Finset.sum_insert ha, hv, hp, hq, EReal.coe_add, EReal.coe_mul]⟩

/-- Under the predicate every logit is a real number. -/
theorem logits_real [Facts] (x : FVec Ideal S16384x1024 .f32) (wr : FVec Ideal S1024x8 .f32)
    (wg wu : FVec Ideal S8x1024x2816 .f32) (wd : FVec Ideal S8x2816x1024 .f32) (g b : FVec Ideal S1024 .f32)
    (h : fn x wr wg wu wd g b = fun _ => 1#1) (i : Fin 16384) (e : Fin 8) : ∃ v : ℝ, logits x wr i e = v :=
  real_dot _ _ _ (fun k => (fn_real x wr wg wu wd g b h).1 i k) (fun k => (fn_real x wr wg wu wd g b h).2 k e)

end Cert.RoutedFfn
-- ==== Proof.Equation.lean ====
/-
  The equation: the array the kernel leaves and the reference's result agree at every index, under the precondition.
-/
module

public import proofs.«01_k».proof.Proof.Acc
public import proofs.«01_k».proof.Proof.Ref
public import proofs.«01_k».proof.Proof.Sums
public import proofs.«01_k».proof.Proof.Finite

@[expose] public section

set_option maxRecDepth 16384

noncomputable section

namespace Cert.RoutedFfn

open Cert.Layers
open Cert.KernelIdeal Cert.KernelIdeal.Gen
open Idealize.ShloMosaic Idealize.ShloMosaic.TcCoe Idealize.SL.Sem

variable (m : (ℓ : Loc nD τ sig) → Buf (Elt Ideal) ℓ) (c : Dev nD)

/-- The array the kernel leaves, at an index. -/
theorem kernel_at (hL : Logits m c) (i : Fin 16384) (j : Fin 1024) :
    Value.G7 m c (ix2 i j)
      = layerNorm (fun k => Ideal.ofBits .f32 1071072509#32 * argX m c (ix2 i k)
          + ∑ s ∈ Finset.range 16, partOf m c i s k) (argG m c (ix1 j)) (argB m c (ix1 j)) j := by
  have hp : Value.pt7Of (ix2 i j) = 16 * (i.val / 512) + 15 := by
    show 16 * (1 * (i.val / 512 - 0) + 1 * (j.val / 1024 - 0)) + 15 = _
    omega
  have hN := points
  have hlt : Value.pt7Of (ix2 i j) < cfg0.N := by rw [hp]; omega
  have hl : Value.loc7Of (ix2 i j) = ix2 ⟨i.val % 512, by omega⟩ j := by
    funext a
    match a with
    | ⟨0, _⟩ => rfl
    | ⟨1, _⟩ => exact Fin.ext (Nat.mod_eq_of_lt j.isLt)
  have hr : rowOf ⟨Value.pt7Of (ix2 i j), hlt⟩ ⟨i.val % 512, by omega⟩ = i :=
    Fin.ext (by show Value.pt7Of (ix2 i j) / 16 * 512 + i.val % 512 = i.val; rw [hp]; omega)
  unfold Value.G7
  rw [dif_pos hlt, ← Value.outsAt0_sweep m c _ hlt, hl]
  have h := out_last m c hL ⟨Value.pt7Of (ix2 i j), hlt⟩ (by show Value.pt7Of (ix2 i j) % 16 = 15; rw [hp]; omega)
    ⟨i.val % 512, by omega⟩ j
  rw [hr] at h
  exact h

variable (V0 : Valuation Cert.ReferenceIdeal.τ Cert.ReferenceIdeal.sig (Elt Ideal))

/-- The two results agree. -/
theorem equation (hL : ∀ i e, ∃ v : ℝ, logits (argX m c) (argR m c) i e = v)
    (h0 : refX V0 = argX m c) (h1 : refR V0 = argR m c) (h2 : refWg V0 = argWg m c) (h3 : refWu V0 = argWu m c)
    (h4 : refWd V0 = argWd m c) (h5 : refG V0 = argG m c) (h6 : refB V0 = argB m c) :
    result V0 = (Value.G7 m c : FVec Ideal S16384x1024 .f32) := by
  have hbot : Logits m c := fun i e => by
    obtain ⟨v, hv⟩ := hL i e
    rw [hv]
    exact EReal.coe_ne_bot v
  funext q
  idx_vars q
  refine (result_at V0 q0 q1).trans (Eq.trans ?_ (kernel_at m c hbot q0 q1).symm)
  rw [h5, h6]
  congr 1
  funext k
  rw [row_at V0 (by rw [h0, h1]; exact hL), h0, h1, h2, h3, h4, parts _ _ _ _ _ hL]

end Cert.RoutedFfn
-- ==== Proof.Dense.lean ====
/-
  The dense feed-forward network with the residual and its layer norm. The kernel adds the two halves of the hidden
  units at two points of its grid, and writes the normalized row at the second; the reference adds them all at once.
-/
module

public import proofs.«01_k».proof.Defs
public import proofs.«01_k».proof.Proof.Gen.DenseIdeal.Value
public import proofs.«01_k».proof.Proof.Gen.DenseReferenceIdeal.Run
public import proofs.«01_k».proof.Proof.Terms
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.DenseFfn

section Kernel

open Cert.DenseIdeal Cert.DenseIdeal.Gen Cert.Layers
open Idealize.ShloMosaic Idealize.ShloMosaic.TcCoe Idealize.SL.Sem

/-- What one hidden unit adds to an entry of the row. -/
def unit (x : Vec Ideal S16384x1024 .f32) (wg wu : Vec Ideal S1024x2816 .f32) (wd : Vec Ideal S2816x1024 .f32)
    (i : Fin 16384) (j : Fin 1024) (l : Fin 2816) : EReal :=
  hidden (fun k => x (ix2 i k)) (fun k => wg (ix2 k l)) (fun k => wu (ix2 k l)) * wd (ix2 l j)

/-- The normalized row at an index. -/
def normed (x : Vec Ideal S16384x1024 .f32) (wg wu : Vec Ideal S1024x2816 .f32) (wd : Vec Ideal S2816x1024 .f32)
    (g b : Vec Ideal S1024 .f32) (i : Fin 16384) (j : Fin 1024) : EReal :=
  layerNorm (fun k => Ideal.ofBits .f32 1071072509#32 * x (ix2 i k) + ∑ l : Fin 2816, unit x wg wu wd i k l)
    (g (ix1 j)) (b (ix1 j)) j

/-- A sum over the hidden units is the sum over the first half plus the sum over the second. -/
theorem split_units (f : Fin 2816 → EReal) :
    ∑ l, f l = (∑ l : Fin 1408, f ⟨l.val, by omega⟩) + ∑ l : Fin 1408, f ⟨1408 + l.val, by omega⟩ :=
  Fin.sum_univ_add (a := 1408) (b := 1408) f

variable (m : (ℓ : Loc nD τ sig) → Buf (Elt Ideal) ℓ) (c : Dev nD)

/-- Which block of each array a grid point sees. -/
theorem index_at : ∀ t : Fin cfg0.N, win0_0.index t = ![t.val / 2, 0]
    ∧ win0_2.index t = ![0, 0, t.val % 2] ∧ win0_3.index t = ![0, 0, t.val % 2] ∧ win0_4.index t = ![0, t.val % 2, 0]
    ∧ win0_5.index t = ![0, 0] ∧ win0_6.index t = ![0, 0] ∧ win0_7.index t = ![t.val / 2, 0] := by decide +kernel

/-- The array is written back at the second point of each pair. -/
theorem flush_odd : ∀ t : Fin cfg0.N, (win0 7).flush t = true → t.val % 2 = 1 := by decide +kernel

/-- The rows cast down, after the first point of a pair. -/
theorem rows_first (t : Fin cfg0.N) (h0 : t.val % 2 = 0) :
    (outsAt0 m c t.val t.isLt).2.2 = k0_pay2 (iblk m c 0 t) := by
  rw [outsAt0_A m c t h0 (by omega)]
  frame_out

/-- The sum over the first half of the hidden units, after the first point of a pair. -/
theorem sum_first (t : Fin cfg0.N) (h0 : t.val % 2 = 0) :
    (outsAt0 m c t.val t.isLt).2.1
      = k0_pay3 (k0_pay2 (iblk m c 0 t)) (iblk m c 2 t) (iblk m c 3 t) (k0_pay1 (F := Ideal)) (iblk m c 4 t) := by
  rw [outsAt0_A m c t h0 (by omega)]
  frame_out

/-- The array that the kernel leaves. -/
theorem kernel_array : (dats m 0 c).arrAt 7 cfg0.N
    = (fun q => normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (q 0) (q 1) : Vec Ideal S16384x1024 .f32) := by
  refine (dats m 0 c).arrAt_eq_of_covers 7 _ (by decide +kernel) fun t hf y => ?_
  have h1 := flush_odd t hf
  blk_simp
  rw [after0_7, outsAt0_B m c t (by omega) h1]
  frame_out
  rw [(Memref.isWhole_whole cc0_scratch2).read_unread, (Memref.isWhole_whole cc0_scratch0).read_unread,
    rows_first m c ⟨t.val - 1, by omega⟩ (by dsimp only; omega), sum_first m c ⟨t.val - 1, by omega⟩ (by dsimp only; omega)]
  idx_vars y
  unfold normed layerNorm
  simp only [split_units]
  unfold k0_pay4 k0_pay3 k0_pay2 k0_pay1 unit Layers.hidden
  pointwise
  blk_point [iblk, V, index_at t, index_at ⟨t.val - 1, by omega⟩]

end Kernel

section Reference

open Cert.DenseReferenceIdeal Cert.Layers
open Idealize.ShloMosaic Idealize.ShloMosaic.TcCoe Idealize.SL.Sem

variable (m : (ℓ : Loc nD τ sig) → Buf (Elt Ideal) ℓ)

/-- The reference's run, with its result read at every index. -/
theorem reference_run (ρ : Dev nD → PrngReg) :
    θ_run defs (onTc (τ := τ) (main (F := Ideal))) ⟨m, fun _ => 0, ρ⟩ fun r => ∀ c : Dev nD,
      r.2.mem ((c.tc : Thread nD τ).loc main_v29)
          = (fun q => normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (q 0) (q 1) : Vec Ideal S16384x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun q => ?_), (h c).2⟩) (Value.run (F := Ideal) m ρ)
  idx_vars q
  unfold Value.res_main_v29 normed layerNorm unit Layers.hidden
  clear h
  pointwise
  rfl

end Reference

section Claims

open Idealize.ShloMosaic Idealize.SL.Sem

/-- The reference runs, leaves its arguments as they were, and every semaphore at zero: it declares none. -/
theorem reference_frame : quiescent_DenseReferenceIdeal := fun m ρ _ =>
  (θ_run Cert.DenseReferenceIdeal.defs _ _).mono
    (fun r h => ⟨fun c => (h c).2, sem_eq_zero_of_no_sems (by decide) r.2⟩)
    (Cert.DenseReferenceIdeal.Value.run (F := Ideal) m ρ)

/-- The kernel and the reference, on the same arguments, leave the same result. -/
theorem algebraic : algebraic_DenseIdeal_DenseReferenceIdeal := by
  intro m ρ m' ρ' _ agree
  refine ⟨_, Cert.DenseIdeal.Value.run_blocks (F := Ideal) m ρ, ?_⟩
  refine (θ_run Cert.DenseReferenceIdeal.defs _ _).mono (fun _ h c => ?_) (reference_run m' ρ')
  obtain ⟨a0, a1, a2, a3, a4, a5⟩ := agree c
  obtain ⟨e0, kept⟩ := h c
  rw [a0, a1, a2, a3, a4, a5] at e0
  exact ⟨e0.trans (kernel_array m c).symm, kept⟩

end Claims

end Cert.DenseFfn
-- ==== Proof.Even.lean ====
/-
  The even mixer's input projection: at an index, the kernel's three arrays and the reference's are sums of products of
  a row of the layer's input with a column of the weights, and the gated channels' product of one such sum with the
  logistic of another.
-/
module

public import proofs.«01_k».proof.Defs
public import proofs.«01_k».proof.Proof.Gen.EvenIdeal.Value
public import proofs.«01_k».proof.Proof.Gen.EvenReferenceIdeal.Run
public import proofs.«01_k».proof.Proof.Terms
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.EvenIn

section Kernel

open Cert.EvenIdeal Cert.EvenIdeal.Gen Cert.Layers
open Idealize.ShloMosaic Idealize.ShloMosaic.TcCoe Idealize.SL.Sem

/-- A row of the input against a column of the weights. -/
def column (x : Vec Ideal S16384x1024 .f32) (w : Vec Ideal S1024x4624 .f32) (i : Fin 16384) (k : Fin 4624) : EReal :=
  ∑ l : Fin 1024, x (ix2 i l) * w (ix2 l k)

/-- The gated channels at an index. -/
def gated (x : Vec Ideal S16384x1024 .f32) (w : Vec Ideal S1024x4624 .f32) (i : Fin 16384) (j : Fin 1024) : EReal :=
  column x w i ⟨2576 + j.val, by omega⟩ * Ideal.logistic (column x w i ⟨3600 + j.val, by omega⟩)

/-- The time steps at an index, with zeros in the lanes past the heads. -/
def steps (x : Vec Ideal S16384x1024 .f32) (w : Vec Ideal S1024x4624 .f32) (i : Fin 16384) (j : Fin 128) : EReal :=
  if h : j.val < 16 then column x w i ⟨2560 + j.val, by omega⟩ else 0

variable (m : (ℓ : Loc nD τ sig) → Buf (Elt Ideal) ℓ) (c : Dev nD)

/-- Which block of each array a grid point sees. -/
theorem index_at : ∀ t : Fin cfg0.N, win0_0.index t = ![t.val, 0] ∧ win0_1.index t = ![0, 0] ∧ win0_2.index t = ![t.val, 0]
    ∧ win0_3.index t = ![t.val, 0] ∧ win0_4.index t = ![t.val, 0] := by decide +kernel

/-- The arguments: the layer's input and the weights. -/
abbrev argX : Vec Ideal S16384x1024 .f32 := m ((c : Thread nD τ).loc main_arg0)
abbrev argW : Vec Ideal S1024x4624 .f32 := m ((c : Thread nD τ).loc main_arg1)

theorem zero_real : (FloatOps.sitofp .f32 (0#32 : BitVec 32) : Ideal .f32) = (0 : EReal) := by
  show (((0#32 : BitVec 32).toInt : ℝ) : EReal) = 0
  norm_num

/-- The operand the launch reads: the weights' columns rearranged, the heads' columns last, with zeros past them. -/
theorem weights_array (l : Fin 1024) (k : Fin 4736) : V m c main_v5 (ix2 l k)
    = if h : k.val < 2560 then argW m c (ix2 l ⟨k.val, by omega⟩)
      else if h : k.val - 2560 < 2048 then argW m c (ix2 l ⟨2576 + (k.val - 2560), by omega⟩)
      else if h : k.val - 2560 - 2048 < 16 then argW m c (ix2 l ⟨2560 + (k.val - 2560 - 2048), by omega⟩)
      else (0 : EReal) := by
  have h : (V m c main_v5 : Vec Ideal S1024x4736 .bf16) = truncf .bf16 (concatenate S1024x4736 1
      [⟨S1024x2560, extractStridedSlice S1024x2560 ![0, 0] (argW m c)
          slices_S1024x4624_S1024x2560_0_0⟩,
        ⟨S1024x2048, extractStridedSlice S1024x2048 ![0, 2576] (argW m c)
          slices_S1024x4624_S1024x2048_0_2576⟩,
        ⟨S1024x128, pad S1024x128 ![0, 0] ![0, 112] ![0, 0]
          (extractStridedSlice S1024x16 ![0, 2560] (argW m c)
            slices_S1024x4624_S1024x16_0_2560)
          (sitofp (F := Ideal) .f32 (constantI S_ 32 0#32)) pads_S1024x16_S1024x128_000_01120 h_S_⟩]
      concatenates_S1024x2560_S1024x2048_S1024x128_S1024x4736_d1) bitsLt_bf16_f32 := by
    unfold V
    simp only [hostOps0, hostOps0_1, hostOps0_2, List.flatten_cons, List.flatten_nil, List.append_nil,
      List.cons_append, List.nil_append]
    after_results_simp
    rfl
  refine (congrFun h (ix2 l k)).trans ?_
  pointwise
  simp only [zero_real]

/-- The block of weights a grid point reads is the whole operand. -/
theorem weights_block (t : Fin cfg0.N) (l : Fin 1024) (k : Fin 4736) :
    V m c main_v5 ((win0_1.blk t).view.emb (ix2 l k)) = V m c main_v5 (ix2 l k) := by
  have h : win0_1.index t 0 = 0 ∧ win0_1.index t 1 = 0 := by
    rw [(index_at t).2.1]
    exact ⟨rfl, rfl⟩
  refine congrArg (V m c main_v5) (funext fun a => Fin.ext ?_)
  match a with
  | ⟨0, _⟩ => show win0_1.index t 0 * 1024 + 1 * l.val = l.val; rw [h.1]; omega
  | ⟨1, _⟩ => show win0_1.index t 1 * 4736 + 1 * k.val = k.val; rw [h.2]; omega

/-- Which column of the weights a column of the operand is. -/
theorem weights_at (t : Fin cfg0.N) (l : Fin 1024) (k : Fin 4736) (k' : Fin 4624)
    (h : k.val < 2560 ∧ k'.val = k.val ∨ 2560 ≤ k.val ∧ k.val < 4608 ∧ k'.val = k.val + 16
      ∨ 4608 ≤ k.val ∧ k.val < 4624 ∧ k'.val + 2048 = k.val) :
    V m c main_v5 ((win0_1.blk t).view.emb (ix2 l k)) = argW m c (ix2 l k') := by
  rw [weights_block, weights_array]
  split_ifs
  all_goals first | (exfalso; omega) | exact congrArg (fun j => argW m c (ix2 l j)) (Fin.ext (by dsimp only; omega))

theorem weights_zero (t : Fin cfg0.N) (l : Fin 1024) (k : Fin 4736) (h : 4624 ≤ k.val) :
    V m c main_v5 ((win0_1.blk t).view.emb (ix2 l k)) = (0 : EReal) := by
  rw [weights_block, weights_array, dif_neg (by omega), dif_neg (by omega), dif_neg (by omega)]

/-- The gate's branch and the convolution's channels, as the kernel leaves them. -/
theorem kernel_zx : (dats m 0 c).arrAt 2 cfg0.N
    = (fun q => column (m ((c : Thread nD τ).loc main_arg0)) (m ((c : Thread nD τ).loc main_arg1)) (q 0)
        ⟨(q 1).val, Nat.lt_trans (q 1).isLt (by decide)⟩ : Vec Ideal S16384x2560 .f32) := by
  refine (dats m 0 c).arrAt_eq_of_covers 2 _ (by decide +kernel) fun t hf y => ?_
  blk_simp
  rw [after0_2]
  frame_out
  idx_vars y
  unfold k0_pay2 k0_pay1 column
  pointwise
  blk_point [iblk, V, index_at t]
  exact weights_at m c t _ _ _ (by dsimp only; omega)

/-- The gated channels, as the kernel leaves them. -/
theorem kernel_gated : (dats m 0 c).arrAt 3 cfg0.N
    = (fun q => gated (m ((c : Thread nD τ).loc main_arg0)) (m ((c : Thread nD τ).loc main_arg1)) (q 0) (q 1)
      : Vec Ideal S16384x1024 .f32) := by
  refine (dats m 0 c).arrAt_eq_of_covers 3 _ (by decide +kernel) fun t hf y => ?_
  blk_simp
  rw [after0_3]
  frame_out
  idx_vars y
  unfold k0_pay3 k0_pay1 gated column
  pointwise
  blk_point [iblk, V, index_at t]
  · exact weights_at m c t _ _ _ (by dsimp only; omega)
  · exact weights_at m c t _ _ _ (by dsimp only; omega)

/-- The time steps, as the kernel leaves them. -/
theorem kernel_steps : (dats m 0 c).arrAt 4 cfg0.N
    = (fun q => steps (m ((c : Thread nD τ).loc main_arg0)) (m ((c : Thread nD τ).loc main_arg1)) (q 0) (q 1)
      : Vec Ideal S16384x128 .f32) := by
  refine (dats m 0 c).arrAt_eq_of_covers 4 _ (by decide +kernel) fun t hf y => ?_
  blk_simp
  rw [after0_4]
  frame_out
  idx_vars y
  have hy : (((View.whole main_v6_2).slice (win0_4.rect t)).emb (ix2 y0 y1) 1).val = y1.val := by
    have h : win0_4.index t 1 = 0 := by
      rw [(index_at t).2.2.2.2]
      rfl
    show win0_4.index t 1 * 128 + 1 * y1.val = y1.val
    rw [h]
    omega
  unfold k0_pay4 k0_pay1 steps column
  pointwise
  blk_point [iblk, V, index_at t]
  · exact (weights_at m c t _ _ _ (by dsimp only; omega)).symm
  · refine (Finset.sum_eq_zero fun x _ => ?_).symm
    rw [weights_zero m c t x _ (by dsimp only; omega)]
    exact mul_zero _

end Kernel

section Reference

open Cert.EvenReferenceIdeal Cert.Layers
open Idealize.ShloMosaic Idealize.ShloMosaic.TcCoe Idealize.SL.Sem

variable (m : (ℓ : Loc nD τ sig) → Buf (Elt Ideal) ℓ)

/-- The reference's run, with its results read at every index. -/
theorem reference_run (ρ : Dev nD → PrngReg) :
    θ_run defs (onTc (τ := τ) (main (F := Ideal))) ⟨m, fun _ => 0, ρ⟩ fun r => ∀ c : Dev nD,
      r.2.mem ((c.tc : Thread nD τ).loc main_v13)
          = (fun q => column (m ((c.tc : Thread nD τ).loc main_arg0)) (m ((c.tc : Thread nD τ).loc main_arg1)) (q 0)
              ⟨(q 1).val, Nat.lt_trans (q 1).isLt (by decide)⟩ : Vec Ideal S16384x2560 .f32)
      ∧ r.2.mem ((c.tc : Thread nD τ).loc main_v12)
          = (fun q => gated (m ((c.tc : Thread nD τ).loc main_arg0)) (m ((c.tc : Thread nD τ).loc main_arg1)) (q 0) (q 1)
            : Vec Ideal S16384x1024 .f32)
      ∧ r.2.mem ((c.tc : Thread nD τ).loc main_v14)
          = (fun q => steps (m ((c.tc : Thread nD τ).loc main_arg0)) (m ((c.tc : Thread nD τ).loc main_arg1)) (q 0) (q 1)
            : Vec Ideal S16384x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun q => ?_),
    (h c).2.1.trans (funext fun q => ?_), (h c).2.2.1.trans (funext fun q => ?_), (h c).2.2.2⟩)
    (Value.run (F := Ideal) m ρ)
  · idx_vars q
    unfold column
    pointwise
    by_cases h : q1.val < 1024
    · exact dif_pos h
    · have hk : 1024 + (q1.val - 1024) = q1.val := by omega
      rw [dif_neg h]
      simp only [hk]
  · idx_vars q
    unfold gated column
    pointwise
    rfl
  · idx_vars q
    unfold steps column
    pointwise
    rw [zero_real]

end Reference

section Claims

open Idealize.ShloMosaic Idealize.SL.Sem

/-- The reference runs, leaves its arguments as they were, and every semaphore at zero: it declares none. -/
theorem reference_frame : quiescent_EvenReferenceIdeal := fun m ρ _ =>
  (θ_run Cert.EvenReferenceIdeal.defs _ _).mono
    (fun r h => ⟨fun c => (h c).2.2.2, sem_eq_zero_of_no_sems (by decide) r.2⟩)
    (Cert.EvenReferenceIdeal.Value.run (F := Ideal) m ρ)

/-- The kernel and the reference, on the same arguments, leave the same results. -/
theorem algebraic : algebraic_EvenIdeal_EvenReferenceIdeal := by
  intro m ρ m' ρ' _ agree
  refine ⟨_, _, _, Cert.EvenIdeal.Value.run_blocks (F := Ideal) m ρ, ?_⟩
  refine (θ_run Cert.EvenReferenceIdeal.defs _ _).mono (fun _ h c => ?_) (reference_run m' ρ')
  obtain ⟨a0, a1⟩ := agree c
  obtain ⟨e0, e1, e2, kept⟩ := h c
  rw [a0, a1] at e0 e1 e2
  exact ⟨e0.trans (kernel_zx m c).symm, e1.trans (kernel_gated m c).symm, e2.trans (kernel_steps m c).symm, kept⟩

end Claims

end Cert.EvenIn
-- ==== Proof.QkvTerms.lean ====
/-
  The terms of the attention's input projection, for any number of rows.
-/
module

public import proofs.«01_k».proof.Proof.Terms
public import Idealize.ShloMosaic.Lib.ValueIdx

@[expose] public section

set_option maxRecDepth 16384

noncomputable section

namespace Cert.AttentionIn

open Idealize.ShloMosaic Idealize.ShloMosaic.TcCoe

/-- A row of the input against a column of the weights. -/
def column {n : ℕ} (x : Vec Ideal ⟨2, ![n, 1024]⟩ .f32) (w : Vec Ideal ⟨2, ![1024, 3072]⟩ .f32) (i : Fin n) (k : Fin 3072) : EReal :=
  ∑ l : Fin 1024, x (ix2 i l) * w (ix2 l k)

/-- The scaled queries at an index. -/
def query {n : ℕ} (x : Vec Ideal ⟨2, ![n, 1024]⟩ .f32) (w : Vec Ideal ⟨2, ![1024, 3072]⟩ .f32) (i : Fin n) (j : Fin 1024) : EReal :=
  column x w i ⟨j.val, by omega⟩ * Ideal.ofBits .f32 1040187392#32

/-- The keys at an index. -/
def key {n : ℕ} (x : Vec Ideal ⟨2, ![n, 1024]⟩ .f32) (w : Vec Ideal ⟨2, ![1024, 3072]⟩ .f32) (i : Fin n) (j : Fin 1024) : EReal :=
  column x w i ⟨1024 + j.val, by omega⟩

/-- The values at an index. -/
def value {n : ℕ} (x : Vec Ideal ⟨2, ![n, 1024]⟩ .f32) (w : Vec Ideal ⟨2, ![1024, 3072]⟩ .f32) (i : Fin n) (j : Fin 1024) : EReal :=
  column x w i ⟨2048 + j.val, by omega⟩

end Cert.AttentionIn
-- ==== Proof.Qkv.lean ====
/-
  The attention's input projection: at an index, the kernel's six arrays and the reference's are sums of products of a
  row of the layer's input with a column of the weights: scaled (the queries), as they are (keys and values, twice), and
  the mean of the keys over 256 consecutive rows.
-/
module

public import proofs.«01_k».proof.Defs
public import proofs.«01_k».proof.Proof.Gen.QkvIdeal.Value
public import proofs.«01_k».proof.Proof.Gen.QkvReferenceIdeal.Run
public import proofs.«01_k».proof.Proof.QkvTerms
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.AttentionIn

section Kernel

open Cert.QkvIdeal Cert.QkvIdeal.Gen Cert.Layers
open Idealize.ShloMosaic Idealize.ShloMosaic.TcCoe Idealize.SL.Sem

/-- The mean key of a block of 256 rows at an index. -/
def keyMean (x : Vec Ideal S16384x1024 .f32) (w : Vec Ideal S1024x3072 .f32) (b : Fin 32) (h : Fin 2) (j : Fin 1024) :
    EReal :=
  Ideal.div (∑ r : Fin 256, key x w ⟨(b.val * 2 + h.val) * 256 + r.val, by omega⟩ j) (Ideal.ofBits .f32 1132462080#32)

variable (m : (ℓ : Loc nD τ sig) → Buf (Elt Ideal) ℓ) (c : Dev nD)

/-- Which block of each array a grid point sees. -/
theorem index_at : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0, 0] := by decide +kernel

/-- The queries, as the kernel leaves them. -/
theorem kernel_query : (dats m 0 c).arrAt 2 cfg0.N
    = (fun q => query (m ((c : Thread nD τ).loc main_arg0)) (m ((c : Thread nD τ).loc main_arg1)) (q 0) (q 1)
      : Vec Ideal S16384x1024 .f32) := by
  refine (dats m 0 c).arrAt_eq_of_covers 2 _ (by decide +kernel) fun t hf y => ?_
  blk_simp
  rw [after0_2]
  frame_out
  idx_vars y
  unfold k0_pay4 k0_pay3 query column
  pointwise
  blk_point [iblk, V, index_at t]

/-- The keys, as the kernel leaves them. -/
theorem kernel_key : (dats m 0 c).arrAt 3 cfg0.N
    = (fun q => key (m ((c : Thread nD τ).loc main_arg0)) (m ((c : Thread nD τ).loc main_arg1)) (q 0) (q 1)
      : Vec Ideal S16384x1024 .f32) := by
  refine (dats m 0 c).arrAt_eq_of_covers 3 _ (by decide +kernel) fun t hf y => ?_
  blk_simp
  rw [after0_3]
  frame_out
  idx_vars y
  unfold k0_pay5 k0_pay3 key column
  pointwise
  blk_point [iblk, V, index_at t]

/-- The values, as the kernel leaves them. -/
theorem kernel_value : (dats m 0 c).arrAt 4 cfg0.N
    = (fun q => value (m ((c : Thread nD τ).loc main_arg0)) (m ((c : Thread nD τ).loc main_arg1)) (q 0) (q 1)
      : Vec Ideal S16384x1024 .f32) := by
  refine (dats m 0 c).arrAt_eq_of_covers 4 _ (by decide +kernel) fun t hf y => ?_
  blk_simp
  rw [after0_4]
  frame_out
  idx_vars y
  unfold k0_pay6 k0_pay3 value column
  pointwise
  blk_point [iblk, V, index_at t]

/-- The keys cast down, as the kernel leaves them. -/
theorem kernel_key16 : (dats m 0 c).arrAt 5 cfg0.N
    = (fun q => key (m ((c : Thread nD τ).loc main_arg0)) (m ((c : Thread nD τ).loc main_arg1)) (q 0) (q 1)
      : Vec Ideal S16384x1024 .bf16) := by
  refine (dats m 0 c).arrAt_eq_of_covers 5 _ (by decide +kernel) fun t hf y => ?_
  blk_simp
  rw [after0_5]
  frame_out
  idx_vars y
  unfold k0_pay7 k0_pay5 k0_pay3 key column
  pointwise
  blk_point [iblk, V, index_at t]

/-- The values cast down, as the kernel leaves them. -/
theorem kernel_value16 : (dats m 0 c).arrAt 6 cfg0.N
    = (fun q => value (m ((c : Thread nD τ).loc main_arg0)) (m ((c : Thread nD τ).loc main_arg1)) (q 0) (q 1)
      : Vec Ideal S16384x1024 .bf16) := by
  refine (dats m 0 c).arrAt_eq_of_covers 6 _ (by decide +kernel) fun t hf y => ?_
  blk_simp
  rw [after0_6]
  frame_out
  idx_vars y
  unfold k0_pay8 k0_pay6 k0_pay3 value column
  pointwise
  blk_point [iblk, V, index_at t]

/-- The mean keys of a point's two blocks of rows, at an index. -/
theorem mean_at (x : Vec Ideal S512x1024 .f32) (w : Vec Ideal S1024x1024 .bf16) (b : Fin 1) (h : Fin 2) (j : Fin 1024) :
    Value.E7 x w (ix3 b h j)
      = Ideal.div (∑ r : Fin 256, ∑ l : Fin 1024, x (ix2 ⟨h.val * 256 + r.val, by omega⟩ l) * w (ix2 l j))
          (Ideal.ofBits .f32 1132462080#32) := by
  have hj : Value.ix7_0 (ix3 b h j) = ix1 j := funext fun a => by match a with | ⟨0, _⟩ => rfl
  show Ideal.div (Value.Fam7_0 x w h (Value.ix7_0 (ix3 b h j))) (Ideal.ofBits .f32 1132462080#32) = _
  rw [hj]
  congr 1
  match h with
  | 0 =>
    show (multiReduction .add [0] S1024 (extractStridedSlice S256x1024 ![0, 0] (k0_pay5 x w)
      slices_S512x1024_o0_0_S256x1024) 0x00000000#32 reduces_S256x1024_S1024 (.inl rfl) rfl : Vec Ideal S1024 .f32) (ix1 j) = _
    unfold k0_pay5 k0_pay3
    pointwise
  | 1 =>
    show (multiReduction .add [0] S1024 (extractStridedSlice S256x1024 ![256, 0] (k0_pay5 x w)
      slices_S512x1024_o256_0_S256x1024) 0x00000000#32 reduces_S256x1024_S1024 (.inl rfl) rfl : Vec Ideal S1024 .f32) (ix1 j) = _
    unfold k0_pay5 k0_pay3
    pointwise

/-- The mean keys, as the kernel leaves them. -/
theorem kernel_keyMean : (dats m 0 c).arrAt 7 cfg0.N
    = (fun q => keyMean (m ((c : Thread nD τ).loc main_arg0)) (m ((c : Thread nD τ).loc main_arg1)) (q 0) (q 1) (q 2)
      : Vec Ideal S32x2x1024 .f32) := by
  refine (dats m 0 c).arrAt_eq_of_covers 7 _ (by decide +kernel) fun t hf y => ?_
  blk_simp
  rw [after0_7]
  frame_out
  rw [Value.canon7_eq]
  idx_vars y
  rw [mean_at]
  unfold keyMean key column
  blk_point [iblk, V, index_at t]

end Kernel

section Reference

open Cert.QkvReferenceIdeal Cert.Layers
open Idealize.ShloMosaic Idealize.ShloMosaic.TcCoe Idealize.SL.Sem

variable (m : (ℓ : Loc nD τ sig) → Buf (Elt Ideal) ℓ)

/-- The reference's run, with its results read at every index. -/
theorem reference_run (ρ : Dev nD → PrngReg) :
    θ_run defs (onTc (τ := τ) (main (F := Ideal))) ⟨m, fun _ => 0, ρ⟩ fun r => ∀ c : Dev nD,
      r.2.mem ((c.tc : Thread nD τ).loc main_v9)
          = (fun q => query (m ((c.tc : Thread nD τ).loc main_arg0)) (m ((c.tc : Thread nD τ).loc main_arg1)) (q 0) (q 1)
            : Vec Ideal S16384x1024 .f32)
      ∧ r.2.mem ((c.tc : Thread nD τ).loc main_v2)
          = (fun q => key (m ((c.tc : Thread nD τ).loc main_arg0)) (m ((c.tc : Thread nD τ).loc main_arg1)) (q 0) (q 1)
            : Vec Ideal S16384x1024 .f32)
      ∧ r.2.mem ((c.tc : Thread nD τ).loc main_v3)
          = (fun q => value (m ((c.tc : Thread nD τ).loc main_arg0)) (m ((c.tc : Thread nD τ).loc main_arg1)) (q 0) (q 1)
            : Vec Ideal S16384x1024 .f32)
      ∧ r.2.mem ((c.tc : Thread nD τ).loc main_v10)
          = (fun q => key (m ((c.tc : Thread nD τ).loc main_arg0)) (m ((c.tc : Thread nD τ).loc main_arg1)) (q 0) (q 1)
            : Vec Ideal S16384x1024 .bf16)
      ∧ r.2.mem ((c.tc : Thread nD τ).loc main_v11)
          = (fun q => value (m ((c.tc : Thread nD τ).loc main_arg0)) (m ((c.tc : Thread nD τ).loc main_arg1)) (q 0) (q 1)
            : Vec Ideal S16384x1024 .bf16)
      ∧ r.2.mem ((c.tc : Thread nD τ).loc main_v12)
          = (fun q => keyMean (m ((c.tc : Thread nD τ).loc main_arg0)) (m ((c.tc : Thread nD τ).loc main_arg1)) (q 0) (q 1) (q 2)
            : Vec Ideal S32x2x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h1, h2, h3, h4, h5, h6, h7⟩ := h c
  refine ⟨h1.trans (funext fun q => ?_), h2.trans (funext fun q => ?_), h3.trans (funext fun q => ?_),
    h4.trans (funext fun q => ?_), h5.trans (funext fun q => ?_), h6.trans (funext fun q => ?_), h7⟩
  · idx_vars q
    unfold query column
    pointwise
  · idx_vars q
    unfold key column
    pointwise
  · idx_vars q
    unfold value column
    pointwise
  · idx_vars q
    unfold key column
    pointwise
  · idx_vars q
    unfold value column
    pointwise
  · idx_vars q
    unfold keyMean key column
    pointwise

end Reference

section Claims

open Idealize.ShloMosaic Idealize.SL.Sem

/-- The reference runs, leaves its arguments as they were, and every semaphore at zero: it declares none. -/
theorem reference_frame : quiescent_QkvReferenceIdeal := fun m ρ _ =>
  (θ_run Cert.QkvReferenceIdeal.defs _ _).mono
    (fun r h => ⟨fun c => (h c).2.2.2.2.2.2, sem_eq_zero_of_no_sems (by decide) r.2⟩)
    (Cert.QkvReferenceIdeal.Value.run (F := Ideal) m ρ)

/-- The kernel and the reference, on the same arguments, leave the same results. -/
theorem algebraic : algebraic_QkvIdeal_QkvReferenceIdeal := by
  intro m ρ m' ρ' _ agree
  refine ⟨_, _, _, _, _, _, Cert.QkvIdeal.Value.run_blocks (F := Ideal) m ρ, ?_⟩
  refine (θ_run Cert.QkvReferenceIdeal.defs _ _).mono (fun _ h c => ?_) (reference_run m' ρ')
  obtain ⟨a0, a1⟩ := agree c
  obtain ⟨e0, e1, e2, e3, e4, e5, kept⟩ := h c
  rw [a0, a1] at e0 e1 e2 e3 e4 e5
  exact ⟨e0.trans (kernel_query m c).symm, e1.trans (kernel_key m c).symm, e2.trans (kernel_value m c).symm, e3.trans (kernel_key16 m c).symm, e4.trans (kernel_value16 m c).symm, e5.trans (kernel_keyMean m c).symm, kept⟩

end Claims

end Cert.AttentionIn
-- ==== Proof.Out.lean ====
/-
  The even mixer's output projection with the residual and its layer norm: the kernel's array and the reference's are
  both, at an index, the normalized row of `α * x + [y, u] · w`.
-/
module

public import proofs.«01_k».proof.Defs
public import proofs.«01_k».proof.Proof.Gen.OutIdeal.Value
public import proofs.«01_k».proof.Proof.Gen.OutReferenceIdeal.Run
public import proofs.«01_k».proof.Proof.Terms
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.MixerOut

/-- A sum over 2048 entries is the sum over the first 1024 plus the sum over the others. -/
theorem split_sum (f : Fin 2048 → EReal) :
    ∑ l, f l = (∑ l : Fin 1024, f ⟨l.val, by omega⟩) + ∑ l : Fin 1024, f ⟨1024 + l.val, by omega⟩ :=
  Fin.sum_univ_add (a := 1024) (b := 1024) f

section Kernel

open Cert.OutIdeal Cert.OutIdeal.Gen Cert.Layers
open Idealize.ShloMosaic Idealize.ShloMosaic.TcCoe Idealize.SL.Sem

/-- The normalized row at an index. -/
def normed (x y u : Vec Ideal S16384x1024 .f32) (w : Vec Ideal S2048x1024 .f32) (g b : Vec Ideal S1024 .f32)
    (i : Fin 16384) (j : Fin 1024) : EReal :=
  layerNorm (fun k => Ideal.ofBits .f32 1071072509#32 * x (ix2 i k)
      + ∑ l : Fin 1024, y (ix2 i l) * w (ix2 ⟨l.val, by omega⟩ k)
      + ∑ l : Fin 1024, u (ix2 i l) * w (ix2 ⟨1024 + l.val, by omega⟩ k))
    (g (ix1 j)) (b (ix1 j)) j

variable (m : (ℓ : Loc nD τ sig) → Buf (Elt Ideal) ℓ) (c : Dev nD)

/-- Which block of each array a grid point sees. -/
theorem index_at : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] := by decide +kernel

/-- The array that the kernel leaves. -/
theorem kernel_array : (dats m 0 c).arrAt 7 cfg0.N
    = (fun q => normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (q 0) (q 1) : Vec Ideal S16384x1024 .f32) := by
  refine (dats m 0 c).arrAt_eq_of_covers 7 _ (by decide +kernel) fun t hf y => ?_
  blk_simp
  rw [after0_7]
  frame_out
  idx_vars y
  unfold k0_pay1 k0_pay2 k0_pay3 normed layerNorm
  pointwise
  blk_point [iblk, V, index_at t]

end Kernel

section Reference

open Cert.OutReferenceIdeal Cert.Layers
open Idealize.ShloMosaic Idealize.ShloMosaic.TcCoe Idealize.SL.Sem

variable (m : (ℓ : Loc nD τ sig) → Buf (Elt Ideal) ℓ)

/-- The reference's run, with its result read at every index. -/
theorem reference_run (ρ : Dev nD → PrngReg) :
    θ_run defs (onTc (τ := τ) (main (F := Ideal))) ⟨m, fun _ => 0, ρ⟩ fun r => ∀ c : Dev nD,
      r.2.mem ((c.tc : Thread nD τ).loc main_v26)
          = (fun q => normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (q 0) (q 1) : Vec Ideal S16384x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun q => ?_), (h c).2⟩) (Value.run (F := Ideal) m ρ)
  idx_vars q
  unfold Value.res_main_v26 normed
  simp only [split_sum]
  unfold layerNorm
  pointwise
  simp only [add_assoc]

end Reference

section Claims

open Idealize.ShloMosaic Idealize.SL.Sem

/-- The reference runs, leaves its arguments as they were, and every semaphore at zero: it declares none. -/
theorem reference_frame : quiescent_OutReferenceIdeal := fun m ρ _ =>
  (θ_run Cert.OutReferenceIdeal.defs _ _).mono
    (fun r h => ⟨fun c => (h c).2, sem_eq_zero_of_no_sems (by decide) r.2⟩)
    (Cert.OutReferenceIdeal.Value.run (F := Ideal) m ρ)

/-- The kernel and the reference, on the same arguments, leave the same result. -/
theorem algebraic : algebraic_OutIdeal_OutReferenceIdeal := by
  intro m ρ m' ρ' _ agree
  refine ⟨_, Cert.OutIdeal.Value.run_blocks (F := Ideal) m ρ, ?_⟩
  refine (θ_run Cert.OutReferenceIdeal.defs _ _).mono (fun _ h c => ?_) (reference_run m' ρ')
  obtain ⟨a0, a1, a2, a3, a4, a5⟩ := agree c
  obtain ⟨e0, kept⟩ := h c
  rw [a0, a1, a2, a3, a4, a5] at e0
  exact ⟨e0.trans (kernel_array m c).symm, kept⟩

end Claims

end Cert.MixerOut
-- ==== Proof.Wo.lean ====
/-
  The attention's output projection with the residual and its layer norm: the kernel's array and the reference's are both,
  at an index, the normalized row of `α * x + h · w`.
-/
module

public import proofs.«01_k».proof.Defs
public import proofs.«01_k».proof.Proof.Gen.WoIdeal.Value
public import proofs.«01_k».proof.Proof.Gen.WoReferenceIdeal.Run
public import proofs.«01_k».proof.Proof.Terms
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.AttentionOut

section Kernel

open Cert.WoIdeal Cert.WoIdeal.Gen Cert.Layers
open Idealize.ShloMosaic Idealize.ShloMosaic.TcCoe Idealize.SL.Sem

/-- The normalized row at an index. -/
def normed (x h : Vec Ideal S16384x1024 .f32) (w : Vec Ideal S1024x1024 .f32) (g b : Vec Ideal S1024 .f32)
    (i : Fin 16384) (j : Fin 1024) : EReal :=
  layerNorm (fun k => Ideal.ofBits .f32 1071072509#32 * x (ix2 i k) + ∑ l : Fin 1024, h (ix2 i l) * w (ix2 l k))
    (g (ix1 j)) (b (ix1 j)) j

variable (m : (ℓ : Loc nD τ sig) → Buf (Elt Ideal) ℓ) (c : Dev nD)

/-- Which block of each array a grid point sees. -/
theorem index_at : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![t.val, 0] := by decide +kernel

/-- The array that the kernel leaves. -/
theorem kernel_array : (dats m 0 c).arrAt 5 cfg0.N
    = (fun q => normed (m ((c : Thread nD τ).loc main_arg0)) (m ((c : Thread nD τ).loc main_arg1)) (m ((c : Thread nD τ).loc main_arg2)) (m ((c : Thread nD τ).loc main_arg3)) (m ((c : Thread nD τ).loc main_arg4)) (q 0) (q 1) : Vec Ideal S16384x1024 .f32) := by
  refine (dats m 0 c).arrAt_eq_of_covers 5 _ (by decide +kernel) fun t hf y => ?_
  blk_simp
  rw [after0_5]
  frame_out
  idx_vars y
  unfold k0_pay1 normed layerNorm
  pointwise
  blk_point [iblk, V, index_at t]

end Kernel

section Reference

open Cert.WoReferenceIdeal Cert.Layers
open Idealize.ShloMosaic Idealize.ShloMosaic.TcCoe Idealize.SL.Sem

variable (m : (ℓ : Loc nD τ sig) → Buf (Elt Ideal) ℓ)

/-- The reference's run, with its result read at every index. -/
theorem reference_run (ρ : Dev nD → PrngReg) :
    θ_run defs (onTc (τ := τ) (main (F := Ideal))) ⟨m, fun _ => 0, ρ⟩ fun r => ∀ c : Dev nD,
      r.2.mem ((c.tc : Thread nD τ).loc main_v25)
          = (fun q => normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (q 0) (q 1) : Vec Ideal S16384x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun q => ?_), (h c).2⟩) (Value.run (F := Ideal) m ρ)
  idx_vars q
  unfold normed layerNorm
  pointwise

end Reference

section Claims

open Idealize.ShloMosaic Idealize.SL.Sem

/-- The reference runs, leaves its arguments as they were, and every semaphore at zero: it declares none. -/
theorem reference_frame : quiescent_WoReferenceIdeal := fun m ρ _ =>
  (θ_run Cert.WoReferenceIdeal.defs _ _).mono
    (fun r h => ⟨fun c => (h c).2, sem_eq_zero_of_no_sems (by decide) r.2⟩)
    (Cert.WoReferenceIdeal.Value.run (F := Ideal) m ρ)

/-- The kernel and the reference, on the same arguments, leave the same result. -/
theorem algebraic : algebraic_WoIdeal_WoReferenceIdeal := by
  intro m ρ m' ρ' _ agree
  refine ⟨_, Cert.WoIdeal.Value.run_blocks (F := Ideal) m ρ, ?_⟩
  refine (θ_run Cert.WoReferenceIdeal.defs _ _).mono (fun _ h c => ?_) (reference_run m' ρ')
  obtain ⟨a0, a1, a2, a3, a4⟩ := agree c
  obtain ⟨e0, kept⟩ := h c
  rw [a0, a1, a2, a3, a4] at e0
  exact ⟨e0.trans (kernel_array m c).symm, kept⟩

end Claims

end Cert.AttentionOut
-- ==== Proof.Ple.lean ====
/-
  The per-layer embedding: the kernel's array and the reference's are both, at an index,
  `x + sigmoid(x · wg) * (p · wp)`.
-/
module

public import proofs.«01_k».proof.Defs
public import proofs.«01_k».proof.Proof.Gen.PleIdeal.Value
public import proofs.«01_k».proof.Proof.Gen.PleReferenceIdeal.Run
public import proofs.«01_k».proof.Proof.Terms
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.Embedding

section Kernel

open Cert.PleIdeal Cert.PleIdeal.Gen Cert.Layers
open Idealize.ShloMosaic Idealize.ShloMosaic.TcCoe Idealize.SL.Sem

/-- The embedding at an index. -/
def embed (x : Vec Ideal S16384x1024 .f32) (p : Vec Ideal S16384x256 .f32) (wp : Vec Ideal S256x1024 .f32)
    (wg : Vec Ideal S1024x1024 .f32) (i : Fin 16384) (j : Fin 1024) : EReal :=
  x (ix2 i j) + Ideal.logistic (∑ k : Fin 1024, x (ix2 i k) * wg (ix2 k j)) * ∑ k : Fin 256, p (ix2 i k) * wp (ix2 k j)

variable (m : (ℓ : Loc nD τ sig) → Buf (Elt Ideal) ℓ) (c : Dev nD)

/-- Which block of each array a grid point sees. -/
theorem index_at : ∀ t : Fin cfg0.N, win0_0.index t = ![t.val, 0] ∧ win0_1.index t = ![t.val, 0]
    ∧ win0_2.index t = ![0, 0] ∧ win0_3.index t = ![0, 0] ∧ win0_4.index t = ![t.val, 0] := by decide +kernel

/-- The array that the kernel leaves. -/
theorem kernel_array : (dats m 0 c).arrAt 4 cfg0.N
    = (fun q => embed (m ((c : Thread nD τ).loc main_arg0)) (m ((c : Thread nD τ).loc main_arg1)) (m ((c : Thread nD τ).loc main_arg2)) (m ((c : Thread nD τ).loc main_arg3)) (q 0) (q 1) : Vec Ideal S16384x1024 .f32) := by
  refine (dats m 0 c).arrAt_eq_of_covers 4 _ (by decide +kernel) fun t hf y => ?_
  blk_simp
  rw [after0_4]
  frame_out
  idx_vars y
  unfold k0_pay1 embed
  pointwise
  blk_point [iblk, V, index_at t]

end Kernel

section Reference

open Cert.PleReferenceIdeal Cert.Layers
open Idealize.ShloMosaic Idealize.ShloMosaic.TcCoe Idealize.SL.Sem

variable (m : (ℓ : Loc nD τ sig) → Buf (Elt Ideal) ℓ)

/-- The reference's run, with its result read at every index. -/
theorem reference_run (ρ : Dev nD → PrngReg) :
    θ_run defs (onTc (τ := τ) (main (F := Ideal))) ⟨m, fun _ => 0, ρ⟩ fun r => ∀ c : Dev nD,
      r.2.mem ((c.tc : Thread nD τ).loc main_v9)
          = (fun q => embed (m ((c.tc : Thread nD τ).loc main_arg0)) (m ((c.tc : Thread nD τ).loc main_arg1)) (m ((c.tc : Thread nD τ).loc main_arg2)) (m ((c.tc : Thread nD τ).loc main_arg3)) (q 0) (q 1) : Vec Ideal S16384x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun q => ?_), (h c).2⟩) (Value.run (F := Ideal) m ρ)
  idx_vars q
  unfold embed
  pointwise
  rfl

end Reference

section Claims

open Idealize.ShloMosaic Idealize.SL.Sem

/-- The reference runs, leaves its arguments as they were, and every semaphore at zero: it declares none. -/
theorem reference_frame : quiescent_PleReferenceIdeal := fun m ρ _ =>
  (θ_run Cert.PleReferenceIdeal.defs _ _).mono
    (fun r h => ⟨fun c => (h c).2, sem_eq_zero_of_no_sems (by decide) r.2⟩)
    (Cert.PleReferenceIdeal.Value.run (F := Ideal) m ρ)

/-- The kernel and the reference, on the same arguments, leave the same result. -/
theorem algebraic : algebraic_PleIdeal_PleReferenceIdeal := by
  intro m ρ m' ρ' _ agree
  refine ⟨_, Cert.PleIdeal.Value.run_blocks (F := Ideal) m ρ, ?_⟩
  refine (θ_run Cert.PleReferenceIdeal.defs _ _).mono (fun _ h c => ?_) (reference_run m' ρ')
  obtain ⟨a0, a1, a2, a3⟩ := agree c
  obtain ⟨e0, kept⟩ := h c
  rw [a0, a1, a2, a3] at e0
  exact ⟨e0.trans (kernel_array m c).symm, kept⟩

end Claims

end Cert.Embedding
-- ==== Proof.ConvTerms.lean ====
/-
  The terms of the convolution branch: the rows with their past, the causal depthwise convolution of 31 taps, and the
  normalized and activated row. Both the kernel and the reference are read as these, for the prompt and for the sample.
  With them, how a load reads and what a store of whole rows leaves.
-/
module

public import proofs.«01_k».proof.Proof.Terms
public import Idealize.ShloMosaic.Lib.ValueIdx
public import Idealize.ShloMosaic.Lib.WritesUnit
public import Idealize.ShloMosaic.Lib.Pipeline.ValueKit

@[expose] public section

set_option maxRecDepth 16384

noncomputable section

namespace Cert.ConvBranch

open Cert.Layers
open Idealize.ShloMosaic Idealize.ShloMosaic.TcCoe

/-- The rows preceded by the 30 rows that came before them. -/
def padded {n L : ℕ} (u : Vec Ideal ⟨3, ![n, L, 1024]⟩ .f32) (buf : Vec Ideal ⟨3, ![n, 30, 1024]⟩ .f32) (a : Fin n) (i : Fin (L + 30)) (j : Fin 1024) : EReal :=
  if h : i.val < 30 then buf (ix3 a ⟨i.val, h⟩ j) else u (ix3 a ⟨i.val - 30, by omega⟩ j)

/-- The depthwise convolution at row `i`: the bias and 31 taps, the last of them on row `i` itself. -/
def conv {n L : ℕ} (u : Vec Ideal ⟨3, ![n, L, 1024]⟩ .f32) (buf : Vec Ideal ⟨3, ![n, 30, 1024]⟩ .f32)
    (w : Vec Ideal ⟨2, ![31, 1024]⟩ .f32) (b : Vec Ideal ⟨1, ![1024]⟩ .f32) (a : Fin n) (i : Fin L) (j : Fin 1024) : EReal :=
  b (ix1 j) + ∑ k : Fin 31, padded u buf a ⟨k.val + i.val, by omega⟩ j * w (ix2 k j)

/-- An entry of a row, normalized and passed through `silu`. -/
def activated (row : Fin 1024 → EReal) (g b : EReal) (j : Fin 1024) : EReal :=
  layerNorm row g b j * Ideal.logistic (layerNorm row g b j)

/-- A sum over the 31 taps, written out from the left. -/
theorem sum_taps (f : Fin 31 → EReal) : ∑ k, f k = f 0 + f 1 + f 2 + f 3 + f 4 + f 5 + f 6 + f 7 + f 8 + f 9 + f 10 + f 11 + f 12 + f 13 + f 14 + f 15
    + f 16 + f 17 + f 18 + f 19 + f 20 + f 21 + f 22 + f 23 + f 24 + f 25 + f 26 + f 27 + f 28 + f 29 + f 30 := by
  simp only [Fin.sum_univ_castSucc, Fin.sum_univ_zero, zero_add]
  rfl

/-- The convolution of gathered rows, of which the first two are padding. -/
def convAt {n R : ℕ} (ext : Vec Ideal ⟨2, ![R, 1024]⟩ .f32) (w : Vec Ideal ⟨2, ![31, 1024]⟩ .f32)
    (b : Vec Ideal ⟨2, ![1, 1024]⟩ .f32) (i : Fin n) (j : Fin 1024) (hR : n + 32 ≤ R := by omega) : EReal :=
  b (ix2 0 j) + ∑ k : Fin 31, ext (ix2 ⟨i.val + 2 + k.val, by omega⟩ j) * w (ix2 k j)

/-- A load through a rectangle whose offsets have a closed form reads at that form. -/
theorem tile_read {sig : RefSig} {κ : Kind} {sp : Space} {S : Shape} {e : EltTy} {Val : EltTy → Type} (v : View sig κ sp S e)
    (X : v.ty.Contents Val) {off size : Fin S.rank → ℕ} [h : ClosedOff off] (inb : ∀ a, off a + size a ≤ S.size a) :
    v.readAt Val (Rect.unit off size inb).toLoadRect X = View.ld (v.read Val X) (Rect.unit h.form size (h.eq ▸ inb)) := by
  obtain ⟨form, rfl⟩ := h
  rfl

/-- A stored piece whose offsets have a closed form, at the head of a list of pieces. -/
theorem allAt_closed {S : Shape} {e : EltTy} {Val : EltTy → Type} {y : S.Idx} {v : Val e} (off size : Fin S.rank → ℕ) [h : ClosedOff off]
    (inb : ∀ a, off a + size a ≤ S.size a) (w : (Rect.unit off size inb).shape.Idx → Val e) (L : List (View.Piece Val S e))
    (h1 : View.TileAt y h.form size w v) (h2 : View.AllAt L y v) :
    View.AllAt ((⟨Rect.unit off size inb, w⟩ : View.Piece Val S e) :: L) y v := by
  obtain ⟨form, rfl⟩ := h
  exact View.allAt_cons_unit _ _ _ _ _ h1 h2

/-- Rows that the last store fills read its value. -/
theorem canon_hit {R C : ℕ} (o W : ℕ) (inb : ∀ a, (![o, 0] : Fin 2 → ℕ) a + (![W, C] : Fin 2 → ℕ) a ≤ (⟨2, ![R, C]⟩ : Shape).size a)
    (w : (Rect.unit (s := ⟨2, ![R, C]⟩) ![o, 0] ![W, C] inb).shape.Idx → Elt Ideal .f32) (L : List (View.Piece (Elt Ideal) ⟨2, ![R, C]⟩ .f32))
    (r : Fin R) (j : Fin C) (x : Fin W) (h : r.val = o + x.val) :
    View.canon ((⟨Rect.unit ![o, 0] ![W, C] inb, w⟩ : View.Piece (Elt Ideal) ⟨2, ![R, C]⟩ .f32) :: L) (ix2 r j) = w (ix2 x j) := by
  have e : (ix2 r j : (⟨2, ![R, C]⟩ : Shape).Idx) = (Rect.unit (s := ⟨2, ![R, C]⟩) ![o, 0] ![W, C] inb).emb (ix2 x j) := by
    funext a
    refine Fin.ext ?_
    rw [Rect.emb_apply]
    fin_cases a <;> simp <;> omega
  rw [e, View.canon_cons_emb]

/-- A gathered row that the last store fills. -/
theorem rows_hit {sig : RefSig} {R C : ℕ} (v : View sig .tc .vmem ⟨2, ![R, C]⟩ .f32) (f : v.ty.Contents (Elt Ideal)) (o W : ℕ)
    (inb : ∀ a, (![o, 0] : Fin 2 → ℕ) a + (![W, C] : Fin 2 → ℕ) a ≤ (⟨2, ![R, C]⟩ : Shape).size a) (w : Vec Ideal ⟨2, ![W, C]⟩ .f32)
    (L : List (View.Piece (Elt Ideal) ⟨2, ![R, C]⟩ .f32)) (r : Fin R) (j : Fin C) (x : Fin W) (h : r.val = o + x.val) :
    v.read (Elt Ideal) (v.writes (Elt Ideal) f (⟨Rect.unit ![o, 0] ![W, C] inb, w⟩ :: L)) (ix2 r j) = w (ix2 x j) :=
  View.read_writes_cons_rows_of_mem v f inb w L (ix2 r j) (ix2 x j) rfl h rfl

/-- A gathered row that the last store leaves. -/
theorem rows_miss {sig : RefSig} {R C : ℕ} (v : View sig .tc .vmem ⟨2, ![R, C]⟩ .f32) (f : v.ty.Contents (Elt Ideal)) (o W : ℕ)
    (inb : ∀ a, (![o, 0] : Fin 2 → ℕ) a + (![W, C] : Fin 2 → ℕ) a ≤ (⟨2, ![R, C]⟩ : Shape).size a) (w : Vec Ideal ⟨2, ![W, C]⟩ .f32)
    (L : List (View.Piece (Elt Ideal) ⟨2, ![R, C]⟩ .f32)) (r : Fin R) (j : Fin C) (h : r.val < o ∨ o + W ≤ r.val) :
    v.read (Elt Ideal) (v.writes (Elt Ideal) f (⟨Rect.unit ![o, 0] ![W, C] inb, w⟩ :: L)) (ix2 r j)
      = v.read (Elt Ideal) (v.writes (Elt Ideal) f L) (ix2 r j) :=
  View.read_writes_cons_rows_of_not_mem v f inb w L (ix2 r j) rfl rfl h

end Cert.ConvBranch
-- ==== Proof.ConvTaps.lean ====
/-
  The loop of the convolution branch. Eight trips each store four tiles of 32 rows and 128 columns; every tile holds the
  bias and the 31 taps of its rows, so the block they fill is the convolution of the rows the kernel has gathered.
-/
module

public import proofs.«01_k».proof.Proof.Gen.ConfIdeal.Value
public import proofs.«01_k».proof.Proof.ConvTerms
public import Idealize.ShloMosaic.Lib.Pipeline.ValueKit

@[expose] public section

set_option maxRecDepth 16384

noncomputable section

namespace Cert.ConvBranch

open Cert.ConfIdeal Cert.ConfIdeal.Gen Cert.Layers
open Idealize.ShloMosaic Idealize.ShloMosaic.TcCoe Idealize.SL.Sem

set_option maxHeartbeats 2000000 in
/-- One trip of the loop stores, wherever it stores, the convolution. -/
theorem trip_at (𝒱 : Variants) (c : Dev nD) (bd : Option 𝒱.V) (i : grid0.Coords) (arg2 : Memref sig .tc .vmem S1x128x1024 .f32) (harg2 : arg2.IsWhole) (arg3 : Memref sig .tc .vmem S1x30x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128x1024 .f32) (harg8 : arg8.IsWhole) (arg9 : Memref sig .tc .vmem S1x30x1024 .f32) (harg9 : arg9.IsWhole) (arg10 : Memref sig .tc .vmem S160x1024 .f32) (harg10 : arg10.IsWhole) (arg11 : Memref sig .tc .vmem S128x1024 .f32) (harg11 : arg11.IsWhole) (X_arg4 : BufTy.Contents (Elt Ideal) arg4.view.ty) (X_arg5 : BufTy.Contents (Elt Ideal) arg5.view.ty) (X_arg10 : BufTy.Contents (Elt Ideal) arg10.view.ty) (k : Fin k0_t1_loop.trips) (p : Fin 128) (j : Fin 1024) :
    View.AllAt (tripL_k0_t1 (F := Ideal) 𝒱 c bd i arg2 harg2 arg3 harg3 arg4 harg4 arg5 harg5 arg6 harg6 arg7 harg7 arg8 harg8 arg9 harg9 arg10 harg10 arg11 harg11 X_arg4 X_arg5 X_arg10 k) (ix2 p j)
      (convAt (arg10.view.read (Elt Ideal) X_arg10) (arg4.view.read (Elt Ideal) X_arg4) (arg5.view.read (Elt Ideal) X_arg5) p j) := by
  unfold tripL_k0_t1 trip_k0_t1
  dsimp only
  refine allAt_closed _ _ _ _ _ ?_ (allAt_closed _ _ _ _ _ ?_ (allAt_closed _ _ _ _ _ ?_ (allAt_closed _ _ _ _ _ ?_ (View.allAt_nil _ _))))
  all_goals
    tile_intro x h
    idx_vars x
    simp only [ClosedOff.form, Matrix.cons_val] at h0 h1
    simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, tile_read]
    open_payloads
    unfold convAt
    rw [sum_taps]
    pointwise
    simp only [← add_assoc, ClosedOff.form, Matrix.cons_val]
    blk_point

/-- So do the trips before any trip. -/
theorem trips_at (𝒱 : Variants) (c : Dev nD) (bd : Option 𝒱.V) (i : grid0.Coords) (arg2 : Memref sig .tc .vmem S1x128x1024 .f32) (harg2 : arg2.IsWhole) (arg3 : Memref sig .tc .vmem S1x30x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128x1024 .f32) (harg8 : arg8.IsWhole) (arg9 : Memref sig .tc .vmem S1x30x1024 .f32) (harg9 : arg9.IsWhole) (arg10 : Memref sig .tc .vmem S160x1024 .f32) (harg10 : arg10.IsWhole) (arg11 : Memref sig .tc .vmem S128x1024 .f32) (harg11 : arg11.IsWhole) (X_arg4 : BufTy.Contents (Elt Ideal) arg4.view.ty) (X_arg5 : BufTy.Contents (Elt Ideal) arg5.view.ty) (X_arg10 : BufTy.Contents (Elt Ideal) arg10.view.ty) (p : Fin 128) (j : Fin 1024) : ∀ n : ℕ, n ≤ k0_t1_loop.trips →
    View.AllAt (pb_k0_t1 (F := Ideal) 𝒱 c bd i arg2 harg2 arg3 harg3 arg4 harg4 arg5 harg5 arg6 harg6 arg7 harg7 arg8 harg8 arg9 harg9 arg10 harg10 arg11 harg11 X_arg4 X_arg5 X_arg10 n) (ix2 p j)
      (convAt (arg10.view.read (Elt Ideal) X_arg10) (arg4.view.read (Elt Ideal) X_arg4) (arg5.view.read (Elt Ideal) X_arg5) p j)
  | 0, _ => View.allAt_nil _ _
  | n + 1, h => by
    rw [pb_k0_t1_succ 𝒱 c bd i arg2 harg2 arg3 harg3 arg4 harg4 arg5 harg5 arg6 harg6 arg7 harg7 arg8 harg8 arg9 harg9 arg10 harg10 arg11 harg11 X_arg4 X_arg5 X_arg10 ⟨n, h⟩]
    intro q hq
    rcases List.mem_append.mp hq with hq | hq
    · exact trip_at 𝒱 c bd i arg2 harg2 arg3 harg3 arg4 harg4 arg5 harg5 arg6 harg6 arg7 harg7 arg8 harg8 arg9 harg9 arg10 harg10 arg11 harg11 X_arg4 X_arg5 X_arg10 ⟨n, h⟩ p j q hq
    · exact trips_at 𝒱 c bd i arg2 harg2 arg3 harg3 arg4 harg4 arg5 harg5 arg6 harg6 arg7 harg7 arg8 harg8 arg9 harg9 arg10 harg10 arg11 harg11 X_arg4 X_arg5 X_arg10 p j n (Nat.le_of_succ_le h) q hq

/-- The whole block, read after the loop, is the convolution of the rows it was given. -/
theorem conv_block (𝒱 : Variants) (c : Dev nD) (bd : Option 𝒱.V) (i : grid0.Coords) (arg2 : Memref sig .tc .vmem S1x128x1024 .f32) (harg2 : arg2.IsWhole) (arg3 : Memref sig .tc .vmem S1x30x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128x1024 .f32) (harg8 : arg8.IsWhole) (arg9 : Memref sig .tc .vmem S1x30x1024 .f32) (harg9 : arg9.IsWhole) (arg10 : Memref sig .tc .vmem S160x1024 .f32) (harg10 : arg10.IsWhole) (arg11 : Memref sig .tc .vmem S128x1024 .f32) (harg11 : arg11.IsWhole) (X_arg4 : BufTy.Contents (Elt Ideal) arg4.view.ty) (X_arg5 : BufTy.Contents (Elt Ideal) arg5.view.ty) (X_arg10 : BufTy.Contents (Elt Ideal) arg10.view.ty) (v : View sig .tc .vmem S128x1024 .f32) :
    v.readCov (pb_k0_t1 (F := Ideal) 𝒱 c bd i arg2 harg2 arg3 harg3 arg4 harg4 arg5 harg5 arg6 harg6 arg7 harg7 arg8 harg8 arg9 harg9 arg10 harg10 arg11 harg11 X_arg4 X_arg5 X_arg10 (Scf.trips k0_t1_loop.lb k0_t1_loop.ub k0_t1_loop.st)) (Rect.unit ![0, 0] ![128, 1024] inb_S128x1024_S128x1024_0_0).toLoadRect
      = (fun q => convAt (n := 128) (arg10.view.read (Elt Ideal) X_arg10) (arg4.view.read (Elt Ideal) X_arg4) (arg5.view.read (Elt Ideal) X_arg5) (q 0) (q 1) : Vec Ideal S128x1024 .f32) := by
  rw [View.readCov_eq_canon']
  funext q
  idx_vars q
  refine View.canon_eq_of_allAt _ _ _ (View.cover_of_tiledL (pb_k0_t1 (F := Ideal) 𝒱 c bd i arg2 harg2 arg3 harg3 arg4 harg4 arg5 harg5 arg6 harg6 arg7 harg7 arg8 harg8 arg9 harg9 arg10 harg10 arg11 harg11 X_arg4 X_arg5 X_arg10 (Scf.trips k0_t1_loop.lb k0_t1_loop.ub k0_t1_loop.st)) S32x128.size (by sl_kernel_rfl) _) ?_
  have h : (Rect.unit ![0, 0] ![128, 1024] inb_S128x1024_S128x1024_0_0).toLoadRect.idx (ix2 q0 q1) = (ix2 q0 q1 : S128x1024.Idx) := by
    funext a
    refine Fin.ext ?_
    fin_cases a <;> simp
  rw [h]
  exact trips_at 𝒱 c bd i arg2 harg2 arg3 harg3 arg4 harg4 arg5 harg5 arg6 harg6 arg7 harg7 arg8 harg8 arg9 harg9 arg10 harg10 arg11 harg11 X_arg4 X_arg5 X_arg10 q0 q1 _ le_rfl

end Cert.ConvBranch
-- ==== Proof.ConvRows.lean ====
/-
  What the convolution branch's kernel leaves. It gathers at each point the 30 rows before its block, carried from the
  point before or read from the past rows at a sequence's first point, and the block; it writes the normalized and
  activated convolution, and at a sequence's last point the rows to keep for later.
-/
module

public import proofs.«01_k».proof.Proof.ConvTaps
public import Idealize.ShloMosaic.Lib.WritesUnit

@[expose] public section

set_option maxRecDepth 16384

noncomputable section

namespace Cert.ConvBranch

open Cert.ConfIdeal Cert.ConfIdeal.Gen Cert.Layers
open Idealize.ShloMosaic Idealize.ShloMosaic.TcCoe Idealize.SL.Sem

variable (m : (ℓ : Loc nD τ sig) → Buf (Elt Ideal) ℓ) (c : Dev nD)

/-- Which block of each array a grid point sees. -/
theorem index_at : ∀ t : Fin cfg0.N, win0_0.index t = ![t.val / 64, t.val % 64, 0] ∧ win0_1.index t = ![t.val / 64, 0, 0]
    ∧ win0_2.index t = ![0, 0] ∧ win0_3.index t = ![0, 0] ∧ win0_4.index t = ![0, 0] ∧ win0_5.index t = ![0, 0]
    ∧ win0_6.index t = ![t.val / 64, t.val % 64, 0] ∧ win0_7.index t = ![t.val / 64, 0, 0] := by decide +kernel

/-- The rows kept for later are written back at the last point of each sequence. -/
theorem flush_last : ∀ t : Fin cfg0.N, (win0 7).flush t = true → t.val % 64 = 63 := by decide +kernel

/-- The first 32 gathered rows, after a point that is not the last of its sequence, are the last 32 rows of its block. -/
theorem rows_carried (t : Fin cfg0.N) (h1 : ¬ t.val % 64 = 63) (r : Fin 160) (h : r.val < 32) (j : Fin 1024) :
    (outsAt0 m c t.val t.isLt).2.2 (ix2 r j)
      = (m ((c : Thread nD τ).loc main_arg0) : Vec Ideal S2x8192x1024 .f32)
          (ix3 ⟨t.val / 64, by have := t.isLt; change _ < 128 at this; omega⟩ ⟨128 * (t.val % 64) + 96 + r.val, by omega⟩ j) := by
  by_cases h0 : t.val % 64 = 0
  on_goal 1 => rw [outsAt0_A m c t h0 h1]
  on_goal 2 => rw [outsAt0_B m c t h0 h1]
  all_goals
    frame_out
    rw [canon_hit 0 32 _ _ _ r j ⟨r.val, h⟩ (by simp)]
    unfold k0_pay3
    rw [View.readCov_eq_canon']
    pointwise
    rw [canon_hit 32 128 _ _ _ ⟨128 + r.val, by omega⟩ j ⟨96 + r.val, by omega⟩ (by simp; omega)]
    unfold k0_pay34
    pointwise
    blk_point [iblk, V, index_at t]

/-- The sequence of a grid point. -/
def seq (t : Fin cfg0.N) : Fin 2 := ⟨t.val / 64, by have := t.isLt; change _ < 128 at this; omega⟩

/-- The gathered rows at a point, past the two rows of padding: the sequence's rows from 30 before the block. -/
def Gathered (ext : Vec Ideal S160x1024 .f32) (t : Fin cfg0.N) : Prop :=
  ∀ (r : Fin 160) (_ : 2 ≤ r.val) (j : Fin 1024),
    ext (ix2 r j) = padded (m ((c : Thread nD τ).loc main_arg0)) (m ((c : Thread nD τ).loc main_arg1)) (seq t) ⟨128 * (t.val % 64) + (r.val - 2), by omega⟩ j

/-- At the first point of a sequence, the gathered rows are the past rows and the block. -/
theorem gathered_first (t : Fin cfg0.N) (h0 : t.val % 64 = 0) (f) :
    Gathered m c (scM0_0.view.read (Elt Ideal) (scM0_0.view.writes (Elt Ideal) f
      [⟨Rect.unit ![32, 0] ![128, 1024] inb_S160x1024_S128x1024_32_0, k0_pay34 (iblk m c 0 t)⟩,
        ⟨Rect.unit ![2, 0] ![30, 1024] inb_S160x1024_S30x1024_2_0, k0_pay33 (iblk m c 1 t)⟩,
        ⟨Rect.unit ![0, 0] ![32, 1024] inb_S160x1024_S32x1024_0_0, k0_pay32 (F := Ideal)⟩])) t := by
  intro r hr j
  have hz := t.isLt
  change _ < 128 at hz
  unfold padded seq
  by_cases h : r.val < 32
  · rw [rows_miss _ _ 32 128 _ _ _ r j (Or.inl h), rows_hit _ _ 2 30 _ _ _ r j ⟨r.val - 2, by omega⟩ (by dsimp only; omega),
      dif_pos (show 128 * (t.val % 64) + (r.val - 2) < 30 by omega)]
    unfold k0_pay33
    pointwise
    blk_point [iblk, V, index_at t]
  · rw [rows_hit _ _ 32 128 _ _ _ r j ⟨r.val - 32, by omega⟩ (by dsimp only; omega),
      dif_neg (show ¬128 * (t.val % 64) + (r.val - 2) < 30 by omega)]
    unfold k0_pay34
    pointwise
    blk_point [iblk, V, index_at t]

/-- At a later point, they are the last rows of the block before and the block. -/
theorem gathered_later (t : Fin cfg0.N) (h0 : ¬t.val % 64 = 0) (f : scM0_0.view.ty.Contents (Elt Ideal))
    (hf : scM0_0.view.read (Elt Ideal) f = (outsAt0 m c (t.val - 1) (by omega)).2.2) :
    Gathered m c (scM0_0.view.read (Elt Ideal) (scM0_0.view.writes (Elt Ideal) f
      [⟨Rect.unit ![32, 0] ![128, 1024] inb_S160x1024_S128x1024_32_0, k0_pay34 (iblk m c 0 t)⟩])) t := by
  intro r hr j
  have hz := t.isLt
  change _ < 128 at hz
  unfold padded seq
  by_cases h : r.val < 32
  · rw [rows_miss _ _ 32 128 _ _ _ r j (Or.inl h), View.writes_nil, hf,
      rows_carried m c ⟨t.val - 1, by omega⟩ (by dsimp only; omega) r h,
      dif_neg (show ¬128 * (t.val % 64) + (r.val - 2) < 30 by omega)]
    blk_point
  · rw [rows_hit _ _ 32 128 _ _ _ r j ⟨r.val - 32, by omega⟩ (by dsimp only; omega),
      dif_neg (show ¬128 * (t.val % 64) + (r.val - 2) < 30 by omega)]
    unfold k0_pay34
    pointwise
    blk_point [iblk, V, index_at t]

/-- The convolution of the gathered rows is the convolution of the sequence. -/
theorem conv_of_gathered (t : Fin cfg0.N) (ext : Vec Ideal S160x1024 .f32) (h : Gathered m c ext t) (p : Fin 128) (j : Fin 1024) :
    convAt ext (iblk m c 2 t) (iblk m c 3 t) p j
      = conv (m ((c : Thread nD τ).loc main_arg0)) (m ((c : Thread nD τ).loc main_arg1)) (m ((c : Thread nD τ).loc main_arg2)) (m ((c : Thread nD τ).loc main_arg3)) (seq t) ⟨128 * (t.val % 64) + p.val, by omega⟩ j := by
  unfold convAt conv
  congr 1
  · blk_point [iblk, V, index_at t]
  · refine Finset.sum_congr rfl fun k _ => ?_
    rw [h _ (by dsimp only; omega)]
    congr 1
    · congr 1
      exact Fin.ext (by dsimp only; omega)
    · blk_point [iblk, V, index_at t]

/-- What a point writes, of the rows it has gathered. -/
theorem block_of_gathered (t : Fin cfg0.N) (ext : Vec Ideal S160x1024 .f32) (h : Gathered m c ext t) (p : Fin 128) (j : Fin 1024) :
    k0_pay1 (k0_pay36 (fun q => convAt (n := 128) ext (iblk m c 2 t) (iblk m c 3 t) (q 0) (q 1) : Vec Ideal S128x1024 .f32) (iblk m c 4 t)) (k0_pay37 (iblk m c 5 t)) (ix3 0 p j)
      = activated (fun k => conv (m ((c : Thread nD τ).loc main_arg0)) (m ((c : Thread nD τ).loc main_arg1)) (m ((c : Thread nD τ).loc main_arg2)) (m ((c : Thread nD τ).loc main_arg3)) (seq t) ⟨128 * (t.val % 64) + p.val, by omega⟩ k)
          ((m ((c : Thread nD τ).loc main_arg4)) (ix1 j)) ((m ((c : Thread nD τ).loc main_arg5)) (ix1 j)) j := by
  unfold activated layerNorm k0_pay1 k0_pay36 k0_pay37
  pointwise
  simp only [conv_of_gathered m c t ext h]
  blk_point [iblk, V, index_at t]

/-- Where a block of activated rows lies. -/
theorem emb_rows (t : Fin cfg0.N) (p : Fin 128) (j : Fin 1024) :
    (win0_6.blk t).view.emb (ix3 0 p j) = (ix3 (seq t) ⟨128 * (t.val % 64) + p.val, by omega⟩ j : S2x8192x1024.Idx) := by
  unfold seq
  blk_ext [index_at t]

/-- The activated rows, of the kernel's arguments. -/
def kernelRow : Vec Ideal S2x8192x1024 .f32 :=
  fun q => activated (fun k => conv (m ((c : Thread nD τ).loc main_arg0)) (m ((c : Thread nD τ).loc main_arg1)) (m ((c : Thread nD τ).loc main_arg2)) (m ((c : Thread nD τ).loc main_arg3)) (q 0) (q 1) k)
        ((m ((c : Thread nD τ).loc main_arg4)) (ix1 (q 2))) ((m ((c : Thread nD τ).loc main_arg5)) (ix1 (q 2))) (q 2)

/-- The array of activated rows that the kernel leaves. -/
theorem kernel_rows : (dats m 0 c).arrAt 6 cfg0.N = kernelRow m c := by
  refine (dats m 0 c).arrAt_eq_of_covers 6 _ (by decide +kernel) fun t hf y => ?_
  blk_simp
  rw [after0_6]
  by_cases h0 : t.val % 64 = 0
  · rw [outsAt0_A m c t h0 (by omega)]
    frame_out
    rw [conv_block, (hs0_2 t).read_unread, (hs0_3 t).read_unread]
    idx_vars y
    obtain rfl : y0 = 0 := Subsingleton.elim _ _
    refine (block_of_gathered m c t _ (gathered_first m c t h0 _) y1 y2).trans ?_
    exact (congrArg (kernelRow m c) (emb_rows t y1 y2)).symm
  · by_cases h1 : t.val % 64 = 63
    · rw [outsAt0_C m c t h0 h1]
      frame_out
      rw [conv_block, (hs0_2 t).read_unread, (hs0_3 t).read_unread]
      idx_vars y
      obtain rfl : y0 = 0 := Subsingleton.elim _ _
      refine (block_of_gathered m c t _ (gathered_later m c t h0 _ ((Memref.isWhole_whole cc0_scratch0).read_unread _)) y1 y2).trans ?_
      exact (congrArg (kernelRow m c) (emb_rows t y1 y2)).symm
    · rw [outsAt0_B m c t h0 h1]
      frame_out
      rw [conv_block, (hs0_2 t).read_unread, (hs0_3 t).read_unread]
      idx_vars y
      obtain rfl : y0 = 0 := Subsingleton.elim _ _
      refine (block_of_gathered m c t _ (gathered_later m c t h0 _ ((Memref.isWhole_whole cc0_scratch0).read_unread _)) y1 y2).trans ?_
      exact (congrArg (kernelRow m c) (emb_rows t y1 y2)).symm

/-- The rows kept for later: the last 30 of the sequence with its past. -/
theorem kernel_kept : (dats m 0 c).arrAt 7 cfg0.N
    = (fun q => padded (m ((c : Thread nD τ).loc main_arg0)) (m ((c : Thread nD τ).loc main_arg1)) (q 0) ⟨8192 + (q 1).val, by have := (q 1).isLt; change _ < 30 at this; omega⟩ (q 2) : Vec Ideal S2x30x1024 .f32) := by
  refine (dats m 0 c).arrAt_eq_of_covers 7 _ (by decide +kernel) fun t hf y => ?_
  have h1 := flush_last t hf
  blk_simp
  rw [after0_7, outsAt0_C m c t (by omega) h1]
  frame_out
  idx_vars y
  unfold k0_pay2 padded
  rw [View.readCov_eq_canon']
  pointwise
  rw [canon_hit 32 128 _ _ _ ⟨130 + y1.val, by omega⟩ y2 ⟨98 + y1.val, by omega⟩ (by simp; omega), dif_neg (by omega)]
  unfold k0_pay34
  pointwise
  blk_point [iblk, V, index_at t]

end Cert.ConvBranch
-- ==== Proof.Conf.lean ====
/-
  The convolution branch: a causal depthwise convolution of 31 taps over each sequence, its rows then normalized, scaled,
  shifted and passed through `silu`; and the last 30 rows, kept for the rows to come. The reference is read here at every
  index and compared with what the kernel leaves.
-/
module

public import proofs.«01_k».proof.Defs
public import proofs.«01_k».proof.Proof.Gen.ConfReferenceIdeal.Run
public import proofs.«01_k».proof.Proof.ConvRows
public import Idealize.ShloMosaic.Lib.Claim
public import Idealize.ShloMosaic.Lib.Quiescent

@[expose] public section

set_option maxRecDepth 16384

noncomputable section

namespace Cert.ConvBranch

section Reference

open Cert.ConfReferenceIdeal Cert.Layers
open Idealize.ShloMosaic Idealize.ShloMosaic.TcCoe Idealize.SL.Sem
open Idealize.ShloMosaic.StableHlo

/-- The reference's rows with their past. -/
theorem ref_padded (V0 : Valuation τ sig (Elt Ideal)) (a : Fin 2) (r : Fin 8222) (j : Fin 1024) :
    Value.res_main_v0 V0 (ix3 a r j) = padded (V0 (Proc.devRef .tc main_arg0)) (V0 (Proc.devRef .tc main_arg1)) a r j := by
  unfold Value.res_main_v0 padded
  pointwise

/-- The reference's convolution. -/
theorem ref_conv (V0 : Valuation τ sig (Elt Ideal)) (a : Fin 2) (i : Fin 8192) (j : Fin 1024) :
    Value.res_main_v221 V0 (ix3 a i j) = conv (V0 (Proc.devRef .tc main_arg0)) (V0 (Proc.devRef .tc main_arg1)) (V0 (Proc.devRef .tc main_arg2)) (V0 (Proc.devRef .tc main_arg3)) a i j := by
  unfold Value.res_main_v221 Value.res_main_v155 Value.res_main_v78 conv
  rw [sum_taps]
  pointwise
  simp only [ref_padded]
  rw [add_comm]

/-- The reference's run, with its results read at every index. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v245)
          = (fun q => activated (fun k => conv (m ((c.tc : Thread nD τ).loc main_arg0)) (m ((c.tc : Thread nD τ).loc main_arg1)) (m ((c.tc : Thread nD τ).loc main_arg2)) (m ((c.tc : Thread nD τ).loc main_arg3)) (q 0) (q 1) k) (m ((c.tc : Thread nD τ).loc main_arg4) (ix1 (q 2))) (m ((c.tc : Thread nD τ).loc main_arg5) (ix1 (q 2))) (q 2) : Vec Ideal S2x8192x1024 .f32)
      ∧ r.2.mem ((c.tc : Thread nD τ).loc main_v222)
          = (fun q => padded (m ((c.tc : Thread nD τ).loc main_arg0)) (m ((c.tc : Thread nD τ).loc main_arg1)) (q 0) ⟨8192 + (q 1).val, by have := (q 1).isLt; change _ < 30 at this; omega⟩ (q 2) : Vec Ideal S2x30x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun q => ?_), (h c).2.1.trans (funext fun q => ?_), (h c).2.2⟩) (Value.run (F := Ideal) m ρ)
  · idx_vars q
    unfold Value.res_main_v244 Value.res_main_v228 activated layerNorm
    clear h
    pointwise
    simp only [ref_conv]
    rfl
  · idx_vars q
    clear h
    pointwise
    simp only [ref_padded]

end Reference

section Claims

open Idealize.ShloMosaic Idealize.SL.Sem

/-- The reference runs, leaves its arguments as they were, and every semaphore at zero: it declares none. -/
theorem reference_frame : quiescent_ConfReferenceIdeal := fun m ρ _ =>
  (θ_run Cert.ConfReferenceIdeal.defs _ _).mono
    (fun r h => ⟨fun c => (h c).2.2, sem_eq_zero_of_no_sems (by decide) r.2⟩)
    (Cert.ConfReferenceIdeal.Value.run (F := Ideal) m ρ)

/-- The kernel and the reference, on the same arguments, leave the same results. -/
theorem algebraic : algebraic_ConfIdeal_ConfReferenceIdeal := by
  intro m ρ m' ρ' _ agree
  refine ⟨_, _, Cert.ConfIdeal.Value.run_blocks (F := Ideal) m ρ, ?_⟩
  refine (θ_run Cert.ConfReferenceIdeal.defs _ _).mono (fun _ h c => ?_) (reference_run m' ρ')
  obtain ⟨a0, a1, a2, a3, a4, a5⟩ := agree c
  obtain ⟨e0, e1, kept⟩ := h c
  rw [a0, a1, a2, a3, a4, a5] at e0
  rw [a0, a1] at e1
  exact ⟨e0.trans (kernel_rows m c).symm, e1.trans (kernel_kept m c).symm, kept⟩

end Claims

end Cert.ConvBranch
-- ==== Proof.SampleQkv.lean ====
/-
  The attention's input projection of the sample's rows: at an index, the kernel's scaled queries, keys and values and the
  reference's are the same sums of products. The kernel's other arrays are not used by the layer and are left open.
-/
module

public import proofs.«01_k».proof.Defs
public import proofs.«01_k».proof.Proof.Gen.SampleQkvIdeal.Value
public import proofs.«01_k».proof.Proof.Gen.SampleQkvReferenceIdeal.Run
public import proofs.«01_k».proof.Proof.QkvTerms
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.SampleAttentionIn

open Cert.AttentionIn

section Kernel

open Cert.SampleQkvIdeal Cert.SampleQkvIdeal.Gen
open Idealize.ShloMosaic Idealize.ShloMosaic.TcCoe Idealize.SL.Sem

variable (m : (ℓ : Loc nD τ sig) → Buf (Elt Ideal) ℓ) (c : Dev nD)

/-- Which block of each array a grid point sees. -/
theorem index_at : ∀ t : Fin cfg0.N, win0_0.index t = ![t.val, 0] ∧ win0_1.index t = ![0, 0] ∧ win0_2.index t = ![t.val, 0]
    ∧ win0_3.index t = ![t.val, 0] ∧ win0_4.index t = ![t.val, 0] := by decide +kernel

/-- The queries, as the kernel leaves them. -/
theorem kernel_query : (dats m 0 c).arrAt 2 cfg0.N
    = (fun q => query (m ((c : Thread nD τ).loc main_arg0)) (m ((c : Thread nD τ).loc main_arg1)) (q 0) (q 1)
      : Vec Ideal S1024x1024 .f32) := by
  refine (dats m 0 c).arrAt_eq_of_covers 2 _ (by decide +kernel) fun t hf y => ?_
  blk_simp
  rw [after0_2]
  frame_out
  idx_vars y
  unfold k0_pay4 k0_pay3 query column
  pointwise
  blk_point [iblk, V, index_at t]

/-- The keys, as the kernel leaves them. -/
theorem kernel_key : (dats m 0 c).arrAt 3 cfg0.N
    = (fun q => key (m ((c : Thread nD τ).loc main_arg0)) (m ((c : Thread nD τ).loc main_arg1)) (q 0) (q 1)
      : Vec Ideal S1024x1024 .f32) := by
  refine (dats m 0 c).arrAt_eq_of_covers 3 _ (by decide +kernel) fun t hf y => ?_
  blk_simp
  rw [after0_3]
  frame_out
  idx_vars y
  unfold k0_pay5 k0_pay3 key column
  pointwise
  blk_point [iblk, V, index_at t]

/-- The values, as the kernel leaves them. -/
theorem kernel_value : (dats m 0 c).arrAt 4 cfg0.N
    = (fun q => value (m ((c : Thread nD τ).loc main_arg0)) (m ((c : Thread nD τ).loc main_arg1)) (q 0) (q 1)
      : Vec Ideal S1024x1024 .f32) := by
  refine (dats m 0 c).arrAt_eq_of_covers 4 _ (by decide +kernel) fun t hf y => ?_
  blk_simp
  rw [after0_4]
  frame_out
  idx_vars y
  unfold k0_pay6 k0_pay3 value column
  pointwise
  blk_point [iblk, V, index_at t]

end Kernel

section Claims

open Idealize.ShloMosaic Idealize.ShloMosaic.TcCoe Idealize.SL.Sem

/-- The reference runs, leaves its arguments as they were, and every semaphore at zero: it declares none. -/
theorem reference_frame : quiescent_SampleQkvReferenceIdeal := fun m ρ _ =>
  (θ_run Cert.SampleQkvReferenceIdeal.defs _ _).mono
    (fun r h => ⟨fun c => (h c).2.2.2, sem_eq_zero_of_no_sems (by decide) r.2⟩)
    (Cert.SampleQkvReferenceIdeal.Value.run (F := Ideal) m ρ)

/-- The kernel and the reference, on the same arguments, leave the same results. -/
theorem algebraic : algebraic_SampleQkvIdeal_SampleQkvReferenceIdeal := by
  intro m ρ m' ρ' _ agree
  refine ⟨_, _, _, (θ_run Cert.SampleQkvIdeal.defs _ _).mono
    (fun _ h c => ⟨(h c).1, (h c).2.1, (h c).2.2.1, (h c).2.2.2.2.2.2⟩)
    (Cert.SampleQkvIdeal.Value.run_blocks (F := Ideal) m ρ), ?_⟩
  refine (θ_run Cert.SampleQkvReferenceIdeal.defs _ _).mono (fun _ h c => ?_)
    (Cert.SampleQkvReferenceIdeal.Value.run (F := Ideal) m' ρ')
  obtain ⟨a0, a1⟩ := agree c
  obtain ⟨e0, e1, e2, kept⟩ := h c
  rw [a0, a1] at e0 e1 e2
  refine ⟨e0.trans (.trans (funext fun q => ?_) (kernel_query m c).symm),
    e1.trans (.trans (funext fun q => ?_) (kernel_key m c).symm),
    e2.trans (.trans (funext fun q => ?_) (kernel_value m c).symm), kept⟩ <;> clear e0 e1 e2 h kept agree <;> idx_vars q
  · unfold query column
    pointwise
  · unfold key column
    pointwise
  · unfold value column
    pointwise

end Claims

end Cert.SampleAttentionIn
-- ==== Proof.SampleTaps.lean ====
/-
  The loop of the convolution branch on the sample: eight trips each store one tile of 8 rows and 128 columns, and the block
  they fill is the convolution of the rows the kernel has gathered.
-/
module

public import proofs.«01_k».proof.Proof.Gen.SampleConfIdeal.Value
public import proofs.«01_k».proof.Proof.ConvTerms

@[expose] public section

set_option maxRecDepth 16384

noncomputable section

namespace Cert.SampleConv

open Cert.SampleConfIdeal Cert.SampleConfIdeal.Gen Cert.Layers Cert.ConvBranch
open Idealize.ShloMosaic Idealize.ShloMosaic.TcCoe Idealize.SL.Sem

variable (𝒱 : Variants) (c : Dev nD) (bd : Option 𝒱.V) (i : grid0.Coords) (arg2 : Memref sig .tc .vmem S1x8x1024 .f32)
    (harg2 : arg2.IsWhole) (arg3 : Memref sig .tc .vmem S1x30x1024 .f32) (harg3 : arg3.IsWhole)
    (arg4 : Memref sig .tc .vmem S31x1024 .f32) (harg4 : arg4.IsWhole) (arg5 : Memref sig .tc .vmem S1x1024 .f32)
    (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x8x1024 .f32)
    (harg8 : arg8.IsWhole) (arg9 : Memref sig .tc .vmem S1x30x1024 .f32) (harg9 : arg9.IsWhole)
    (arg10 : Memref sig .tc .vmem S40x1024 .f32) (harg10 : arg10.IsWhole) (arg11 : Memref sig .tc .vmem S8x1024 .f32)
    (harg11 : arg11.IsWhole) (X_arg4 : BufTy.Contents (Elt Ideal) arg4.view.ty)
    (X_arg5 : BufTy.Contents (Elt Ideal) arg5.view.ty) (X_arg10 : BufTy.Contents (Elt Ideal) arg10.view.ty)

set_option maxHeartbeats 2000000 in
/-- One trip of the loop stores, wherever it stores, the convolution. -/
theorem trip_at (k : Fin k0_t1_loop.trips) (p : Fin 8) (j : Fin 1024) :
    View.AllAt (tripL_k0_t1 (F := Ideal) 𝒱 c bd i arg2 harg2 arg3 harg3 arg4 harg4 arg5 harg5 arg6 harg6 arg7 harg7 arg8 harg8 arg9 harg9 arg10 harg10 arg11 harg11 X_arg4 X_arg5 X_arg10 k) (ix2 p j)
      (convAt (arg10.view.read (Elt Ideal) X_arg10) (arg4.view.read (Elt Ideal) X_arg4) (arg5.view.read (Elt Ideal) X_arg5) p j) := by
  unfold tripL_k0_t1 trip_k0_t1
  dsimp only
  refine allAt_closed _ _ _ _ _ ?_ (View.allAt_nil _ _)
  tile_intro x h
  idx_vars x
  simp only [ClosedOff.form, Matrix.cons_val] at h0 h1
  simp only [trip_k0_t1.sl.r, trip_k0_t1.sl.r_1, trip_k0_t1.sl.r_2, trip_k0_t1.sl.r_3, trip_k0_t1.sl.r_4, trip_k0_t1.sl.r_5, trip_k0_t1.sl.r_6, tile_read]
  open_payloads
  unfold convAt
  rw [sum_taps]
  pointwise
  simp only [← add_assoc, ClosedOff.form, Matrix.cons_val]
  blk_point

/-- So do the trips before any trip. -/
theorem trips_at (p : Fin 8) (j : Fin 1024) : ∀ n : ℕ, n ≤ k0_t1_loop.trips →
    View.AllAt (pb_k0_t1 (F := Ideal) 𝒱 c bd i arg2 harg2 arg3 harg3 arg4 harg4 arg5 harg5 arg6 harg6 arg7 harg7 arg8 harg8 arg9 harg9 arg10 harg10 arg11 harg11 X_arg4 X_arg5 X_arg10 n) (ix2 p j)
      (convAt (arg10.view.read (Elt Ideal) X_arg10) (arg4.view.read (Elt Ideal) X_arg4) (arg5.view.read (Elt Ideal) X_arg5) p j)
  | 0, _ => View.allAt_nil _ _
  | n + 1, h => by
    rw [pb_k0_t1_succ 𝒱 c bd i arg2 harg2 arg3 harg3 arg4 harg4 arg5 harg5 arg6 harg6 arg7 harg7 arg8 harg8 arg9 harg9 arg10 harg10 arg11 harg11 X_arg4 X_arg5 X_arg10 ⟨n, h⟩]
    intro q hq
    rcases List.mem_append.mp hq with hq | hq
    · exact trip_at 𝒱 c bd i arg2 harg2 arg3 harg3 arg4 harg4 arg5 harg5 arg6 harg6 arg7 harg7 arg8 harg8 arg9 harg9 arg10 harg10 arg11 harg11 X_arg4 X_arg5 X_arg10 ⟨n, h⟩ p j q hq
    · exact trips_at p j n (Nat.le_of_succ_le h) q hq

/-- The whole block, read after the loop, is the convolution of the rows it was given. -/
theorem conv_block (v : View sig .tc .vmem S8x1024 .f32) :
    v.readCov (pb_k0_t1 (F := Ideal) 𝒱 c bd i arg2 harg2 arg3 harg3 arg4 harg4 arg5 harg5 arg6 harg6 arg7 harg7 arg8 harg8 arg9 harg9 arg10 harg10 arg11 harg11 X_arg4 X_arg5 X_arg10 (Scf.trips k0_t1_loop.lb k0_t1_loop.ub k0_t1_loop.st)) (Rect.unit ![0, 0] ![8, 1024] inb_S8x1024_S8x1024_0_0).toLoadRect
      = (fun q => convAt (n := 8) (arg10.view.read (Elt Ideal) X_arg10) (arg4.view.read (Elt Ideal) X_arg4) (arg5.view.read (Elt Ideal) X_arg5) (q 0) (q 1) : Vec Ideal S8x1024 .f32) := by
  rw [View.readCov_eq_canon']
  funext q
  idx_vars q
  refine View.canon_eq_of_allAt _ _ _ (View.cover_of_tiledL (pb_k0_t1 (F := Ideal) 𝒱 c bd i arg2 harg2 arg3 harg3 arg4 harg4 arg5 harg5 arg6 harg6 arg7 harg7 arg8 harg8 arg9 harg9 arg10 harg10 arg11 harg11 X_arg4 X_arg5 X_arg10 (Scf.trips k0_t1_loop.lb k0_t1_loop.ub k0_t1_loop.st)) S8x128.size (by sl_kernel_rfl) _) ?_
  have h : (Rect.unit ![0, 0] ![8, 1024] inb_S8x1024_S8x1024_0_0).toLoadRect.idx (ix2 q0 q1) = (ix2 q0 q1 : S8x1024.Idx) := by
    funext a
    refine Fin.ext ?_
    fin_cases a <;> simp
  rw [h]
  exact trips_at 𝒱 c bd i arg2 harg2 arg3 harg3 arg4 harg4 arg5 harg5 arg6 harg6 arg7 harg7 arg8 harg8 arg9 harg9 arg10 harg10 arg11 harg11 X_arg4 X_arg5 X_arg10 q0 q1 _ le_rfl

end Cert.SampleConv
-- ==== Proof.SampleConf.lean ====
/-
  The convolution branch on the sample's rows: 128 sequences of 8 rows, each one block, with the 30 rows before it. The
  kernel's arrays and the reference's are the same at every index.
-/
module

public import proofs.«01_k».proof.Defs
public import proofs.«01_k».proof.Proof.Gen.SampleConfReferenceIdeal.Run
public import proofs.«01_k».proof.Proof.SampleTaps
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.SampleConv

section Kernel

open Cert.SampleConfIdeal Cert.SampleConfIdeal.Gen Cert.Layers Cert.ConvBranch
open Idealize.ShloMosaic Idealize.ShloMosaic.TcCoe Idealize.SL.Sem

variable (m : (ℓ : Loc nD τ sig) → Buf (Elt Ideal) ℓ) (c : Dev nD)

/-- Which block of each array a grid point sees. -/
theorem index_at : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![t.val, 0, 0] ∧ win0_7.index t = ![t.val, 0, 0] := by decide +kernel

/-- The sequence of a grid point. -/
def seq (t : Fin cfg0.N) : Fin 128 := ⟨t.val, t.isLt⟩

/-- The gathered rows at a point, past the two rows of padding: the sequence with its past. -/
def Gathered (ext : Vec Ideal S40x1024 .f32) (t : Fin cfg0.N) : Prop :=
  ∀ (r : Fin 40) (_ : 2 ≤ r.val) (j : Fin 1024), ext (ix2 r j) = padded (m ((c : Thread nD τ).loc main_arg0)) (m ((c : Thread nD τ).loc main_arg1)) (seq t) ⟨r.val - 2, by omega⟩ j

/-- The gathered rows are the past rows and the sequence's. -/
theorem gathered_at (t : Fin cfg0.N) (f) :
    Gathered m c (scM0_0.view.read (Elt Ideal) (scM0_0.view.writes (Elt Ideal) f
      [⟨Rect.unit ![32, 0] ![8, 1024] inb_S40x1024_S8x1024_32_0, k0_pay10 (iblk m c 0 t)⟩,
        ⟨Rect.unit ![2, 0] ![30, 1024] inb_S40x1024_S30x1024_2_0, k0_pay9 (iblk m c 1 t)⟩,
        ⟨Rect.unit ![0, 0] ![32, 1024] inb_S40x1024_S32x1024_0_0, k0_pay8 (F := Ideal)⟩])) t := by
  intro r hr j
  have hz := t.isLt
  change _ < 128 at hz
  unfold padded seq
  by_cases h : r.val < 32
  · rw [rows_miss _ _ 32 8 _ _ _ r j (Or.inl h), rows_hit _ _ 2 30 _ _ _ r j ⟨r.val - 2, by omega⟩ (by dsimp only; omega),
      dif_pos (show r.val - 2 < 30 by omega)]
    unfold k0_pay9
    pointwise
    blk_point [iblk, V, index_at t]
  · rw [rows_hit _ _ 32 8 _ _ _ r j ⟨r.val - 32, by omega⟩ (by dsimp only; omega),
      dif_neg (show ¬r.val - 2 < 30 by omega)]
    unfold k0_pay10
    pointwise
    blk_point [iblk, V, index_at t]

/-- The convolution of the gathered rows is the convolution of the sequence. -/
theorem conv_of_gathered (t : Fin cfg0.N) (ext : Vec Ideal S40x1024 .f32) (h : Gathered m c ext t) (p : Fin 8) (j : Fin 1024) :
    convAt ext (iblk m c 2 t) (iblk m c 3 t) p j = conv (m ((c : Thread nD τ).loc main_arg0)) (m ((c : Thread nD τ).loc main_arg1)) (m ((c : Thread nD τ).loc main_arg2)) (m ((c : Thread nD τ).loc main_arg3)) (seq t) p j := by
  unfold convAt conv
  congr 1
  · blk_point [iblk, V, index_at t]
  · refine Finset.sum_congr rfl fun k _ => ?_
    rw [h _ (by dsimp only; omega)]
    congr 1
    · congr 1
      exact Fin.ext (by dsimp only; omega)
    · blk_point [iblk, V, index_at t]

/-- What a point writes, of the rows it has gathered. -/
theorem block_of_gathered (t : Fin cfg0.N) (ext : Vec Ideal S40x1024 .f32) (h : Gathered m c ext t) (p : Fin 8) (j : Fin 1024) :
    k0_pay1 (k0_pay12 (fun q => convAt (n := 8) ext (iblk m c 2 t) (iblk m c 3 t) (q 0) (q 1) : Vec Ideal S8x1024 .f32) (iblk m c 4 t)) (k0_pay13 (iblk m c 5 t)) (ix3 0 p j)
      = activated (fun k => conv (m ((c : Thread nD τ).loc main_arg0)) (m ((c : Thread nD τ).loc main_arg1)) (m ((c : Thread nD τ).loc main_arg2)) (m ((c : Thread nD τ).loc main_arg3)) (seq t) p k) ((m ((c : Thread nD τ).loc main_arg4)) (ix1 j)) ((m ((c : Thread nD τ).loc main_arg5)) (ix1 j)) j := by
  unfold activated layerNorm k0_pay1 k0_pay12 k0_pay13
  pointwise
  simp only [conv_of_gathered m c t ext h]
  blk_point [iblk, V, index_at t]

/-- Where a block of activated rows lies. -/
theorem emb_rows (t : Fin cfg0.N) (p : Fin 8) (j : Fin 1024) :
    (win0_6.blk t).view.emb (ix3 0 p j) = (ix3 (seq t) p j : S128x8x1024.Idx) := by
  unfold seq
  blk_ext [index_at t]

/-- The activated rows, of the kernel's arguments. -/
def kernelRow : Vec Ideal S128x8x1024 .f32 :=
  fun q => activated (fun k => conv (m ((c : Thread nD τ).loc main_arg0)) (m ((c : Thread nD τ).loc main_arg1)) (m ((c : Thread nD τ).loc main_arg2)) (m ((c : Thread nD τ).loc main_arg3)) (q 0) (q 1) k) ((m ((c : Thread nD τ).loc main_arg4)) (ix1 (q 2))) ((m ((c : Thread nD τ).loc main_arg5)) (ix1 (q 2))) (q 2)

/-- The array of activated rows that the kernel leaves. -/
theorem kernel_rows : (dats m 0 c).arrAt 6 cfg0.N = kernelRow m c := by
  refine (dats m 0 c).arrAt_eq_of_covers 6 _ (by decide +kernel) fun t hf y => ?_
  blk_simp
  rw [after0_6, outsAt0]
  frame_out
  rw [conv_block, (hs0_2 t).read_unread, (hs0_3 t).read_unread]
  idx_vars y
  obtain rfl : y0 = 0 := Subsingleton.elim _ _
  refine (block_of_gathered m c t _ (gathered_at m c t _) y1 y2).trans ?_
  exact (congrArg (kernelRow m c) (emb_rows t y1 y2)).symm

/-- Where a sequence's kept rows lie. -/
theorem emb_kept (t : Fin cfg0.N) (p : Fin 30) (j : Fin 1024) :
    (win0_7.blk t).view.emb (ix3 0 p j) = (ix3 (seq t) p j : S128x30x1024.Idx) := by
  unfold seq
  blk_ext [index_at t]

/-- The rows kept for later, of the kernel's arguments: the last 30 of the sequence with its past. -/
def kernelKept : Vec Ideal S128x30x1024 .f32 :=
  fun q => padded (m ((c : Thread nD τ).loc main_arg0)) (m ((c : Thread nD τ).loc main_arg1)) (q 0) ⟨8 + (q 1).val, by have := (q 1).isLt; change _ < 30 at this; omega⟩ (q 2)

/-- The rows that the kernel keeps for later. -/
theorem kernel_kept : (dats m 0 c).arrAt 7 cfg0.N = kernelKept m c := by
  refine (dats m 0 c).arrAt_eq_of_covers 7 _ (by decide +kernel) fun t hf y => ?_
  blk_simp
  rw [after0_7, outsAt0]
  frame_out
  idx_vars y
  obtain rfl : y0 = 0 := Subsingleton.elim _ _
  unfold k0_pay2
  rw [View.readCov_eq_canon', ← View.read_writes_junk_eq_canon scM0_0.view]
  pointwise
  refine (gathered_at m c t _ ⟨10 + y1.val, by omega⟩ (by dsimp only; omega) y2).trans ?_
  refine .trans ?_ (congrArg (kernelKept m c) (emb_kept t y1 y2)).symm
  exact congrArg (fun i => padded (m ((c : Thread nD τ).loc main_arg0)) (m ((c : Thread nD τ).loc main_arg1)) (seq t) i y2)
    (Fin.ext (by show 10 + y1.val - 2 = 8 + y1.val; omega))

end Kernel

section Reference

open Cert.SampleConfReferenceIdeal Cert.Layers Cert.ConvBranch
open Idealize.ShloMosaic Idealize.ShloMosaic.TcCoe Idealize.SL.Sem
open Idealize.ShloMosaic.StableHlo

/-- The reference's rows with their past. -/
theorem ref_padded (V0 : Valuation τ sig (Elt Ideal)) (a : Fin 128) (r : Fin 38) (j : Fin 1024) :
    Value.res_main_v0 V0 (ix3 a r j) = padded (V0 (Proc.devRef .tc main_arg0)) (V0 (Proc.devRef .tc main_arg1)) a r j := by
  unfold Value.res_main_v0 padded
  pointwise

/-- The reference's convolution. -/
theorem ref_conv (V0 : Valuation τ sig (Elt Ideal)) (a : Fin 128) (i : Fin 8) (j : Fin 1024) :
    Value.res_main_v221 V0 (ix3 a i j) = conv (V0 (Proc.devRef .tc main_arg0)) (V0 (Proc.devRef .tc main_arg1)) (V0 (Proc.devRef .tc main_arg2)) (V0 (Proc.devRef .tc main_arg3)) a i j := by
  unfold Value.res_main_v221 Value.res_main_v155 Value.res_main_v78 conv
  rw [sum_taps]
  pointwise
  simp only [ref_padded]
  rw [add_comm]

/-- The reference's run, with its results read at every index. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v245)
          = (fun q => activated (fun k => conv (m ((c.tc : Thread nD τ).loc main_arg0)) (m ((c.tc : Thread nD τ).loc main_arg1)) (m ((c.tc : Thread nD τ).loc main_arg2)) (m ((c.tc : Thread nD τ).loc main_arg3)) (q 0) (q 1) k) (m ((c.tc : Thread nD τ).loc main_arg4) (ix1 (q 2))) (m ((c.tc : Thread nD τ).loc main_arg5) (ix1 (q 2))) (q 2) : Vec Ideal S128x8x1024 .f32)
      ∧ r.2.mem ((c.tc : Thread nD τ).loc main_v222)
          = (fun q => padded (m ((c.tc : Thread nD τ).loc main_arg0)) (m ((c.tc : Thread nD τ).loc main_arg1)) (q 0) ⟨8 + (q 1).val, by have := (q 1).isLt; change _ < 30 at this; omega⟩ (q 2) : Vec Ideal S128x30x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun q => ?_), (h c).2.1.trans (funext fun q => ?_), (h c).2.2⟩) (Value.run (F := Ideal) m ρ)
  · idx_vars q
    unfold Value.res_main_v244 Value.res_main_v228 activated layerNorm
    clear h
    pointwise
    simp only [ref_conv]
    rfl
  · idx_vars q
    clear h
    pointwise
    simp only [ref_padded]

end Reference

section Claims

open Idealize.ShloMosaic Idealize.SL.Sem

/-- The reference runs, leaves its arguments as they were, and every semaphore at zero: it declares none. -/
theorem reference_frame : quiescent_SampleConfReferenceIdeal := fun m ρ _ =>
  (θ_run Cert.SampleConfReferenceIdeal.defs _ _).mono
    (fun r h => ⟨fun c => (h c).2.2, sem_eq_zero_of_no_sems (by decide) r.2⟩)
    (Cert.SampleConfReferenceIdeal.Value.run (F := Ideal) m ρ)

/-- The kernel and the reference, on the same arguments, leave the same results. -/
theorem algebraic : algebraic_SampleConfIdeal_SampleConfReferenceIdeal := by
  intro m ρ m' ρ' _ agree
  refine ⟨_, _, Cert.SampleConfIdeal.Value.run_blocks (F := Ideal) m ρ, ?_⟩
  refine (θ_run Cert.SampleConfReferenceIdeal.defs _ _).mono (fun _ h c => ?_) (reference_run m' ρ')
  obtain ⟨a0, a1, a2, a3, a4, a5⟩ := agree c
  obtain ⟨e0, e1, kept⟩ := h c
  rw [a0, a1, a2, a3, a4, a5] at e0
  rw [a0, a1] at e1
  exact ⟨e0.trans (kernel_rows m c).symm, e1.trans (kernel_kept m c).symm, kept⟩

end Claims

end Cert.SampleConv
-- ==== Proof.SsdTerms.lean ====
/-
  The rows that the state-space branch takes, with their past: the kept rows of both the prompt and the sample are read from
  these.
-/
module

public import proofs.«01_k».proof.Proof.ConvTerms

@[expose] public section

set_option maxRecDepth 16384

noncomputable section

namespace Cert.StateSpace

open Idealize.ShloMosaic Idealize.ShloMosaic.TcCoe

/-- The channels that the convolution takes, of the projected rows, preceded by the three rows that came before them. -/
def padded {n L : ℕ} (zx : Vec Ideal ⟨3, ![n, L, 2560]⟩ .f32) (buf : Vec Ideal ⟨3, ![n, 3, 1536]⟩ .f32) (a : Fin n) (i : Fin (L + 3)) (j : Fin 1536) : EReal :=
  if h : i.val < 3 then buf (ix3 a ⟨i.val, h⟩ j) else zx (ix3 a ⟨i.val - 3, by omega⟩ ⟨1024 + j.val, by omega⟩)

end Cert.StateSpace
-- ==== Proof.Ssd.lean ====
/-
  The state-space branch on the prompt's rows: the rows that the call keeps for the short convolution of the rows to come.
  The kernel writes them at the last block of each sequence, out of the rows it has gathered; they are the sequence's last
  three rows.
-/
module

public import proofs.«01_k».proof.Defs
public import proofs.«01_k».proof.Proof.Gen.SsdIdeal.Value
public import proofs.«01_k».proof.Proof.Gen.SsdReferenceIdeal.Run
public import proofs.«01_k».proof.Proof.SsdTerms
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.StateSpace

section Kernel

open Cert.SsdIdeal Cert.SsdIdeal.Gen Cert.ConvBranch
open Idealize.ShloMosaic Idealize.ShloMosaic.TcCoe Idealize.SL.Sem

variable (m : (ℓ : Loc nD τ sig) → Buf (Elt Ideal) ℓ) (c : Dev nD)

/-- Which block of the rows, and of the kept rows, a grid point sees. -/
theorem index_at : ∀ t : Fin cfg0.N, win0_0.index t = ![t.val / 64, t.val % 64, 0]
    ∧ win0_12.index t = ![t.val / 64, 0, 0] := by decide +kernel

/-- The rows kept for later are written back at the last point of each sequence. -/
theorem flush_last : ∀ t : Fin cfg0.N, (win0 12).flush t = true → t.val % 64 = 63 := by decide +kernel

/-- The rows that the kernel keeps for later: the last three of each sequence. -/
theorem kernel_kept : (dats m 0 c).arrAt 12 cfg0.N
    = (fun q => padded (m ((c : Thread nD τ).loc main_arg0)) (m ((c : Thread nD τ).loc main_arg2)) (q 0) ⟨8192 + (q 1).val, by have := (q 1).isLt; change _ < 3 at this; omega⟩ (q 2) : Vec Ideal S2x3x1536 .f32) := by
  refine (dats m 0 c).arrAt_eq_of_covers 12 _ (by decide +kernel) fun t hf y => ?_
  have h1 := flush_last t hf
  blk_simp
  rw [after0_12, outsAt0_C m c t (by omega) h1 h1]
  frame_out
  idx_vars y
  unfold k0_pay9 padded
  rw [View.readCov_eq_canon']
  pointwise
  rw [canon_hit 8 128 _ _ _ ⟨133 + y1.val, by omega⟩ y2 ⟨125 + y1.val, by omega⟩ (by simp; omega), dif_neg (by omega)]
  unfold k0_pay5
  pointwise
  blk_point [iblk, V, index_at t]

end Kernel

section Claims

open Idealize.ShloMosaic Idealize.ShloMosaic.TcCoe Idealize.SL.Sem

/-- The reference runs, leaves its arguments as they were, and every semaphore at zero: it declares none. -/
theorem reference_frame : quiescent_SsdReferenceIdeal := fun m ρ _ =>
  (θ_run Cert.SsdReferenceIdeal.defs _ _).mono
    (fun r h => ⟨fun c => (h c).2, sem_eq_zero_of_no_sems (by decide) r.2⟩)
    (Cert.SsdReferenceIdeal.Value.run (F := Ideal) m ρ)

/-- The kernel and the reference, on the same arguments, keep the same rows. -/
theorem algebraic : algebraic_SsdIdeal_SsdReferenceIdeal := by
  intro m ρ m' ρ' _ agree
  refine ⟨_, (θ_run Cert.SsdIdeal.defs _ _).mono
    (fun _ h c => ⟨(h c).2.2.1, (h c).2.2.2⟩)
    (Cert.SsdIdeal.Value.run_blocks (F := Ideal) m ρ), ?_⟩
  refine (θ_run Cert.SsdReferenceIdeal.defs _ _).mono (fun _ h c => ?_)
    (Cert.SsdReferenceIdeal.Value.run (F := Ideal) m' ρ')
  obtain ⟨a0, a1, a2, a3, a4, a5, a6, a7, a8, a9⟩ := agree c
  obtain ⟨e0, kept⟩ := h c
  rw [a0, a2] at e0
  refine ⟨e0.trans (.trans (funext fun q => ?_) (kernel_kept m c).symm), kept⟩
  clear e0 h kept agree
  idx_vars q
  unfold padded
  pointwise

end Claims

end Cert.StateSpace
-- ==== Proof.SampleSsd.lean ====
/-
  The state-space branch on the sample's rows: the rows that the call keeps for the short convolution of the rows to come.
  Every sequence is one block; they are its last three rows.
-/
module

public import proofs.«01_k».proof.Defs
public import proofs.«01_k».proof.Proof.Gen.SampleSsdIdeal.Value
public import proofs.«01_k».proof.Proof.Gen.SampleSsdReferenceIdeal.Run
public import proofs.«01_k».proof.Proof.SsdTerms
public import Idealize.ShloMosaic.Lib.Pipeline.ValueKit
public import Idealize.ShloMosaic.Lib.ValueIdx
public import Idealize.ShloMosaic.Lib.Claim
public import Idealize.ShloMosaic.Lib.Quiescent

@[expose] public section

set_option maxRecDepth 16384

noncomputable section

namespace Cert.SampleStateSpace

section Kernel

open Cert.SampleSsdIdeal Cert.SampleSsdIdeal.Gen
open Cert.ConvBranch (canon_hit)
open Cert.StateSpace (padded)
open Idealize.ShloMosaic Idealize.ShloMosaic.TcCoe Idealize.SL.Sem

variable (m : (ℓ : Loc nD τ sig) → Buf (Elt Ideal) ℓ) (c : Dev nD)

/-- Which block of the rows, and of the kept rows, a grid point sees. -/
theorem index_at : ∀ t : Fin cfg0.N, win0_0.index t = ![t.val, 0, 0] ∧ win0_12.index t = ![t.val, 0, 0] := by
  decide +kernel

/-- The rows that the kernel keeps for later: the last three of each sequence. -/
theorem kernel_kept : (dats m 0 c).arrAt 12 cfg0.N
    = (fun q => padded (m ((c : Thread nD τ).loc main_arg0)) (m ((c : Thread nD τ).loc main_arg2)) (q 0) ⟨8 + (q 1).val, by have := (q 1).isLt; change _ < 3 at this; omega⟩ (q 2) : Vec Ideal S128x3x1536 .f32) := by
  refine (dats m 0 c).arrAt_eq_of_covers 12 _ (by decide +kernel) fun t hf y => ?_
  blk_simp
  rw [after0_12, outsAt0]
  frame_out
  idx_vars y
  unfold k0_pay9 padded
  rw [View.readCov_eq_canon']
  pointwise
  rw [canon_hit 8 8 _ _ _ ⟨13 + y1.val, by omega⟩ y2 ⟨5 + y1.val, by omega⟩ (by simp; omega), dif_neg (by omega)]
  unfold k0_pay5
  pointwise
  blk_point [iblk, V, index_at t]

end Kernel

section Claims

open Cert.StateSpace (padded)
open Idealize.ShloMosaic Idealize.ShloMosaic.TcCoe Idealize.SL.Sem

/-- The reference runs, leaves its arguments as they were, and every semaphore at zero: it declares none. -/
theorem reference_frame : quiescent_SampleSsdReferenceIdeal := fun m ρ _ =>
  (θ_run Cert.SampleSsdReferenceIdeal.defs _ _).mono
    (fun r h => ⟨fun c => (h c).2, sem_eq_zero_of_no_sems (by decide) r.2⟩)
    (Cert.SampleSsdReferenceIdeal.Value.run (F := Ideal) m ρ)

/-- The kernel and the reference, on the same arguments, keep the same rows. -/
theorem algebraic : algebraic_SampleSsdIdeal_SampleSsdReferenceIdeal := by
  intro m ρ m' ρ' _ agree
  refine ⟨_, (θ_run Cert.SampleSsdIdeal.defs _ _).mono
    (fun _ h c => ⟨(h c).2.2.1, (h c).2.2.2⟩)
    (Cert.SampleSsdIdeal.Value.run_blocks (F := Ideal) m ρ), ?_⟩
  refine (θ_run Cert.SampleSsdReferenceIdeal.defs _ _).mono (fun _ h c => ?_)
    (Cert.SampleSsdReferenceIdeal.Value.run (F := Ideal) m' ρ')
  obtain ⟨a0, a1, a2, a3, a4, a5, a6, a7, a8, a9⟩ := agree c
  obtain ⟨e0, kept⟩ := h c
  rw [a0, a2] at e0
  refine ⟨e0.trans (.trans (funext fun q => ?_) (kernel_kept m c).symm), kept⟩
  clear e0 h kept agree
  idx_vars q
  unfold padded
  pointwise

end Claims

end Cert.SampleStateSpace
-- ==== Proof.lean ====
/-
  The claims, assembled. The programs' frames come from their generated runs; each ideal kernel is the kernel's text
  unchanged. The routed feed-forward layer's result is the reference's at every index (`RoutedFfn.equation`) wherever the
  rows and the router's weights are numbers; the other calls' equations are in their own modules.
-/
module

public import proofs.«01_k».proof.Defs
public import proofs.«01_k».proof.Proof.Gen.Kernel.Frame
public import proofs.«01_k».proof.Proof.Equation
public import proofs.«01_k».proof.Proof.Gen.Dense.Frame
public import proofs.«01_k».proof.Proof.Dense
public import proofs.«01_k».proof.Proof.Gen.Even.Frame
public import proofs.«01_k».proof.Proof.Even
public import proofs.«01_k».proof.Proof.Gen.Qkv.Frame
public import proofs.«01_k».proof.Proof.Qkv
public import proofs.«01_k».proof.Proof.Gen.Out.Frame
public import proofs.«01_k».proof.Proof.Out
public import proofs.«01_k».proof.Proof.Gen.Wo.Frame
public import proofs.«01_k».proof.Proof.Wo
public import proofs.«01_k».proof.Proof.Gen.Ple.Frame
public import proofs.«01_k».proof.Proof.Ple
public import proofs.«01_k».proof.Proof.Gen.Conf.Frame
public import proofs.«01_k».proof.Proof.Conf
public import proofs.«01_k».proof.Proof.Gen.SampleQkv.Frame
public import proofs.«01_k».proof.Proof.SampleQkv
public import proofs.«01_k».proof.Proof.Gen.SampleConf.Frame
public import proofs.«01_k».proof.Proof.SampleConf
public import proofs.«01_k».proof.Proof.Gen.Ssd.Frame
public import proofs.«01_k».proof.Proof.Ssd
public import proofs.«01_k».proof.Proof.Gen.SampleSsd.Frame
public import proofs.«01_k».proof.Proof.SampleSsd
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were, and every semaphore at zero: it declares none. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel and the reference compute the same array wherever the rows and the router's weights are numbers. -/
theorem algebraic : algebraic_KernelIdeal_ReferenceIdeal_pre_finite (hPre_finite := RoutedFfn.preFacts) := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1]
  obtain ⟨h0, h1, h2, h3, h4, h5, h6⟩ := hagree c
  exact RoutedFfn.equation m c (StableHlo.launchContents m' c)
    (@RoutedFfn.logits_real RoutedFfn.preFacts _ _ _ _ _ _ _ (hpre c)) h0 h1 h2 h3 h4 h5 h6

/-- Every claim of the certificate. -/
theorem claim : Cert.Claim :=
  ⟨Cert.Kernel.Gen.facts, Cert.KernelIdeal.Gen.facts, Cert.ReferenceIdeal.Gen.facts,
    Cert.Dense.Gen.facts, Cert.DenseIdeal.Gen.facts, Cert.DenseReferenceIdeal.Gen.facts,
    Cert.Even.Gen.facts, Cert.EvenIdeal.Gen.facts, Cert.EvenReferenceIdeal.Gen.facts,
    Cert.Qkv.Gen.facts, Cert.QkvIdeal.Gen.facts, Cert.QkvReferenceIdeal.Gen.facts,
    Cert.Out.Gen.facts, Cert.OutIdeal.Gen.facts, Cert.OutReferenceIdeal.Gen.facts,
    Cert.Wo.Gen.facts, Cert.WoIdeal.Gen.facts, Cert.WoReferenceIdeal.Gen.facts,
    Cert.Ple.Gen.facts, Cert.PleIdeal.Gen.facts, Cert.PleReferenceIdeal.Gen.facts,
    Cert.Conf.Gen.facts, Cert.ConfIdeal.Gen.facts, Cert.ConfReferenceIdeal.Gen.facts,
    Cert.SampleQkv.Gen.facts, Cert.SampleQkvIdeal.Gen.facts, Cert.SampleQkvReferenceIdeal.Gen.facts,
    Cert.SampleConf.Gen.facts, Cert.SampleConfIdeal.Gen.facts, Cert.SampleConfReferenceIdeal.Gen.facts,
    Cert.Ssd.Gen.facts, Cert.SsdIdeal.Gen.facts, Cert.SsdReferenceIdeal.Gen.facts,
    Cert.SampleSsd.Gen.facts, Cert.SampleSsdIdeal.Gen.facts, Cert.SampleSsdReferenceIdeal.Gen.facts,
    RoutedFfn.preFacts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Dense.Gen.frame m ρ, fun m ρ _ => Cert.DenseIdeal.Gen.frame m ρ, DenseFfn.reference_frame,
    fun m ρ _ => Cert.Even.Gen.frame m ρ, fun m ρ _ => Cert.EvenIdeal.Gen.frame m ρ, EvenIn.reference_frame,
    fun m ρ _ => Cert.Qkv.Gen.frame m ρ, fun m ρ _ => Cert.QkvIdeal.Gen.frame m ρ, AttentionIn.reference_frame,
    fun m ρ _ => Cert.Out.Gen.frame m ρ, fun m ρ _ => Cert.OutIdeal.Gen.frame m ρ, MixerOut.reference_frame,
    fun m ρ _ => Cert.Wo.Gen.frame m ρ, fun m ρ _ => Cert.WoIdeal.Gen.frame m ρ, AttentionOut.reference_frame,
    fun m ρ _ => Cert.Ple.Gen.frame m ρ, fun m ρ _ => Cert.PleIdeal.Gen.frame m ρ, Embedding.reference_frame,
    fun m ρ _ => Cert.Conf.Gen.frame m ρ, fun m ρ _ => Cert.ConfIdeal.Gen.frame m ρ, ConvBranch.reference_frame,
    fun m ρ _ => Cert.SampleQkv.Gen.frame m ρ, fun m ρ _ => Cert.SampleQkvIdeal.Gen.frame m ρ, SampleAttentionIn.reference_frame,
    fun m ρ _ => Cert.SampleConf.Gen.frame m ρ, fun m ρ _ => Cert.SampleConfIdeal.Gen.frame m ρ, SampleConv.reference_frame,
    fun m ρ _ => Cert.Ssd.Gen.frame m ρ, fun m ρ _ => Cert.SsdIdeal.Gen.frame m ρ, StateSpace.reference_frame,
    fun m ρ _ => Cert.SampleSsd.Gen.frame m ρ, fun m ρ _ => Cert.SampleSsdIdeal.Gen.frame m ρ, SampleStateSpace.reference_frame,
    (trivial : preserves_Kernel_KernelIdeal), algebraic,
    (trivial : preserves_Dense_DenseIdeal), DenseFfn.algebraic,
    (trivial : preserves_Even_EvenIdeal), EvenIn.algebraic,
    (trivial : preserves_Qkv_QkvIdeal), AttentionIn.algebraic,
    (trivial : preserves_Out_OutIdeal), MixerOut.algebraic,
    (trivial : preserves_Wo_WoIdeal), AttentionOut.algebraic,
    (trivial : preserves_Ple_PleIdeal), Embedding.algebraic,
    (trivial : preserves_Conf_ConfIdeal), ConvBranch.algebraic,
    (trivial : preserves_SampleQkv_SampleQkvIdeal), SampleAttentionIn.algebraic,
    (trivial : preserves_SampleConf_SampleConfIdeal), SampleConv.algebraic,
    (trivial : preserves_Ssd_SsdIdeal), StateSpace.algebraic,
    (trivial : preserves_SampleSsd_SampleSsdIdeal), SampleStateSpace.algebraic⟩

end Cert.Proof

end
